-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite3 [hPre_finite3 : Cert.Pre_finite3.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite3 [hPre_finite3 : Cert.Pre_finite3.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_finite3 [hKernel23Ideal : Cert.Kernel23Ideal.Facts] [hPre_finite3 : Cert.Pre_finite3.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite3 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_finite3 [hReference23Ideal : Cert.Reference23Ideal.Facts] [hPre_finite3 : Cert.Pre_finite3.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite3 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v41) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v37) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v2) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v36) = v0 c
          ∧ r.2.mem ((c.tc : Thread Cert.Reference20Ideal.nD Cert.Reference20Ideal.τ).loc Cert.Reference20Ideal.main_v21) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel23_Kernel23Ideal : Prop :=
  True

def algebraic_Kernel23Ideal_Reference23Ideal_pre_finite3 [hKernel23Ideal : Cert.Kernel23Ideal.Facts] [hReference23Ideal : Cert.Reference23Ideal.Facts] [hPre_finite3 : Cert.Pre_finite3.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite3 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v5_0)) (v1 : (c : Dev Cert.Kernel23Ideal.nD) → Buf (Elt Ideal) ((c.tc : Thread Cert.Kernel23Ideal.nD Cert.Kernel23Ideal.τ).loc Cert.Kernel23Ideal.main_v5_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5_0) = v0 c
          ∧ r.2.mem ((c.tc : Thread Cert.Kernel23Ideal.nD Cert.Kernel23Ideal.τ).loc Cert.Kernel23Ideal.main_v5_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v28) = v0 c
          ∧ r.2.mem ((c.tc : Thread Cert.Reference23Ideal.nD Cert.Reference23Ideal.τ).loc Cert.Reference23Ideal.main_v29) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel23 : Cert.Kernel23.Facts) (hKernel23Ideal : Cert.Kernel23Ideal.Facts) (hReference23Ideal : Cert.Reference23Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel23 (hKernel23 := hKernel23)
    ∧ quiescent_Kernel23Ideal (hKernel23Ideal := hKernel23Ideal)
    ∧ quiescent_Kernel23Ideal_pre_finite3 (hKernel23Ideal := hKernel23Ideal) (hPre_finite3 := hPre_finite3)
    ∧ quiescent_Reference23Ideal (hReference23Ideal := hReference23Ideal)
    ∧ quiescent_Reference23Ideal_pre_finite3 (hReference23Ideal := hReference23Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel23_Kernel23Ideal
    ∧ algebraic_Kernel23Ideal_Reference23Ideal_pre_finite3 (hKernel23Ideal := hKernel23Ideal) (hReference23Ideal := hReference23Ideal) (hPre_finite3 := hPre_finite3)
-- ==== Pre_finite.lean ====
abbrev S8192x1024 : Shape := ⟨2, ![8192, 1024]⟩
abbrev S8192x2560 : Shape := ⟨2, ![8192, 2560]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2560 : S_.BroadcastsInDim S8192x2560 (![] : Fin 0 → Fin S8192x2560.rank)
  reducesTo_S8192x2560_S_d0_1 : S8192x2560.ReducesTo [0, 1] S_

variable [Facts]

def fn_part1 {F : FTy → Type} [FloatOps F] (main_v13 : IVec S_ 1) (main_v16 : IVec S8192x2560 1) : IVec S_ 1 :=
  let main_c_5 : IVec S_ 1 := constantI S_ 1 1#1
  let main_v17 : IVec S_ 1 := (fun x v => Host.reduce IntOp.andi x v reducesTo_S8192x2560_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S8192x2560 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x2560 .f32 := Host.absf main_arg3
  let main_cst_4 : FVec F S_ .f32 := constant S_ .f32 0x7F800000#32
  let main_v15 : FVec F S8192x2560 .f32 := broadcastInDim S8192x2560 ![] bcast_S_S8192x2560 main_cst_4
  let main_v16 : IVec S8192x2560 1 := cmpf .olt main_v14 main_v15
  fn_part1 (F := F) main_v13 main_v16
-- ==== Pre_finite3.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x1024 : Shape := ⟨2, ![8192, 1024]⟩
abbrev S8192x2560 : Shape := ⟨2, ![8192, 2560]⟩
abbrev S_ : Shape := ⟨0, ![]⟩
abbrev S2x4096x8x128 : Shape := ⟨4, ![2, 4096, 8, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8x1 : Shape := ⟨4, ![2, 4096, 8, 1]⟩
abbrev S4096x128 : Shape := ⟨2, ![4096, 128]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 47
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2560, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S2x4096x8x128, .f32⟩
  | .hbm, ⟨8, _⟩ => ⟨S2x4096x8x128, .f32⟩
  | .hbm, ⟨9, _⟩ => ⟨S2x4096x8x128, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S2x8x4096x4096, .f32⟩
  | .hbm, ⟨17, _⟩ => ⟨S_, .f32⟩
  | .hbm, ⟨18, _⟩ => ⟨S_, .f32⟩
  | .hbm, ⟨19, _⟩ => ⟨S2x8x4096x4096, .i1⟩
  | .hbm, ⟨20, _⟩ => ⟨S2x8x4096x4096, .f32⟩
  | .hbm, ⟨21, _⟩ => ⟨S2x8x4096x4096, .f32⟩
  | .hbm, ⟨22, _⟩ => ⟨S_, .f32⟩
  | .hbm, ⟨23, _⟩ => ⟨S2x8x4096, .f32⟩
  | .hbm, ⟨24, _⟩ => ⟨S2x8x4096x1, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .f32⟩
  | .hbm, ⟨28, _⟩ => ⟨S_, .f32⟩
  | .hbm, ⟨29, _⟩ => ⟨S2x8x4096, .f32⟩
  | .hbm, ⟨30, _⟩ => ⟨S2x8x4096x1, .f32⟩
  | .hbm, ⟨31, _⟩ => ⟨S2x8x4096x4096, .f32⟩
  | .hbm, ⟨32, _⟩ => ⟨S2x8x4096x4096, .f32⟩
  | .hbm, ⟨33, _⟩ => ⟨S2x8x128x4096, .f32⟩
  | .hbm, ⟨34, _⟩ => ⟨S2x4096x8x128, .f32⟩
  | .hbm, ⟨35, _⟩ => ⟨S2x8x4096x1, .f32⟩
  | .hbm, ⟨36, _⟩ => ⟨S2x8x4096x1, .f32⟩
  | .hbm, ⟨37, _⟩ => ⟨S2x4096x8x1, .f32⟩
  | .hbm, ⟨38, _⟩ => ⟨S2x4096x8x128, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .f32⟩
  | .hbm, ⟨45, _⟩ => ⟨S8192x1024, .f32⟩
  | .hbm, ⟨46, _⟩ => ⟨S8192x1024, .f32⟩
  | .local _ .vmem, ⟨0, _⟩ => ⟨S4096x128, .bf16⟩
  | .local _ .vmem, ⟨1, _⟩ => ⟨S4096x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S4096x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c1024_i32 : BitVec 32 := 1024#32
  let v8 : BitVec 32 := Scalar.muli arg2 c1024_i32
  v8
def k0_off1 (i : grid0.Coords) : Fin 2 → Nat :=
  let arg2 : BitVec 32 := BitVec.ofNat 32 (i 2).val
  let c1024_i32 : BitVec 32 := 1024#32
  let v8 : BitVec 32 := Scalar.muli arg2 c1024_i32
  let v9 : BitVec 32 := v8
  let v10 : Index := Scalar.indexCast v9
  let c0_4 : Index := 0#32
  ![v10.toNat, 0]
def k0_off2 (i : grid0.Coords) : Fin 2 → Nat :=
  let arg2 : BitVec 32 := BitVec.ofNat 32 (i 2).val
  let c1024_i32 : BitVec 32 := 1024#32
  let v8 : BitVec 32 := Scalar.muli arg2 c1024_i32
  let v9 : BitVec 32 := v8
  let v16 : Index := Scalar.indexCast v9
  let c0_7 : Index := 0#32
  ![v16.toNat, 0]
def k0_off3 (i : grid0.Coords) : Fin 2 → Nat :=
  let arg2 : BitVec 32 := BitVec.ofNat 32 (i 2).val
  let c1024_i32 : BitVec 32 := 1024#32
  let v8 : BitVec 32 := Scalar.muli arg2 c1024_i32
  let v9 : BitVec 32 := v8
  let v31 : Index := Scalar.indexCast v9
  let c0_11 : Index := 0#32
  ![v31.toNat, 0]
@[reducible] def k0_t1_loop (i : grid0.Coords) : Scf.Loop 32 :=
  let arg2 : BitVec 32 := BitVec.ofNat 32 (i 2).val
  let c1_i32 : BitVec 32 := 1#32
  let v51 : BitVec 32 := Scalar.addi arg2 c1_i32
  let c4_i32 : BitVec 32 := 4#32
  let v52 : BitVec 32 := Scalar.subi c4_i32 v51
  let c1_i32_17 : BitVec 32 := 1#32
  let v54 : BitVec 32 := Scalar.divsi v52 c1_i32_17
  let v55 : BitVec 32 := Scalar.muli v54 c1_i32_17
  let v56 : BitVec 32 := Scalar.addi v51 v55
  let c1_i32_18 : BitVec 32 := 1#32
  ⟨v51, v56, c1_i32_18⟩
def k0_mult2 (i : grid0.Coords) (k0_t1 : Fin (k0_t1_loop i).trips) : BitVec 32 :=
  let arg2 : BitVec 32 := BitVec.ofNat 32 (i 2).val
  let c1_i32 : BitVec 32 := 1#32
  let v51 : BitVec 32 := Scalar.addi arg2 c1_i32
  let c1_i32_18 : BitVec 32 := 1#32
  let arg13 : BitVec 32 := Scf.iv v51 c1_i32_18 k0_t1
  let c1024_i32_24 : BitVec 32 := 1024#32
  let v61 : BitVec 32 := Scalar.muli arg13 c1024_i32_24
  v61
def k0_off4 (i : grid0.Coords) (k0_t1 : Fin (k0_t1_loop i).trips) : Fin 2 → Nat :=
  let arg2 : BitVec 32 := BitVec.ofNat 32 (i 2).val
  let c1_i32 : BitVec 32 := 1#32
  let v51 : BitVec 32 := Scalar.addi arg2 c1_i32
  let c1_i32_18 : BitVec 32 := 1#32
  let arg13 : BitVec 32 := Scf.iv v51 c1_i32_18 k0_t1
  let c1024_i32_24 : BitVec 32 := 1024#32
  let v61 : BitVec 32 := Scalar.muli arg13 c1024_i32_24
  let v62 : BitVec 32 := v61
  let v63 : Index := Scalar.indexCast v62
  let c0_25 : Index := 0#32
  ![v63.toNat, 0]
def k0_off5 (i : grid0.Coords) (k0_t1 : Fin (k0_t1_loop i).trips) : Fin 2 → Nat :=
  let arg2 : BitVec 32 := BitVec.ofNat 32 (i 2).val
  let c1_i32 : BitVec 32 := 1#32
  let v51 : BitVec 32 := Scalar.addi arg2 c1_i32
  let c1_i32_18 : BitVec 32 := 1#32
  let arg13 : BitVec 32 := Scf.iv v51 c1_i32_18 k0_t1
  let c1024_i32_24 : BitVec 32 := 1024#32
  let v61 : BitVec 32 := Scalar.muli arg13 c1024_i32_24
  let v62 : BitVec 32 := v61
  let v69 : Index := Scalar.indexCast v62
  let c0_28 : Index := 0#32
  ![v69.toNat, 0]
def k0_off6 (i : grid0.Coords) (k0_t1 : Fin (k0_t1_loop i).trips) : Fin 2 → Nat :=
  let arg2 : BitVec 32 := BitVec.ofNat 32 (i 2).val
  let c1_i32 : BitVec 32 := 1#32
  let v51 : BitVec 32 := Scalar.addi arg2 c1_i32
  let c1_i32_18 : BitVec 32 := 1#32
  let arg13 : BitVec 32 := Scf.iv v51 c1_i32_18 k0_t1
  let c1024_i32_24 : BitVec 32 := 1024#32
  let v61 : BitVec 32 := Scalar.muli arg13 c1024_i32_24
  let v62 : BitVec 32 := v61
  let v77 : Index := Scalar.indexCast v62
  let c0_30 : Index := 0#32
  ![v77.toNat, 0]
@[reducible] def k0_t2_loop (i : grid0.Coords) : Scf.Loop 32 :=
  let arg2 : BitVec 32 := BitVec.ofNat 32 (i 2).val
  let c1_i32 : BitVec 32 := 1#32
  let v51 : BitVec 32 := Scalar.addi arg2 c1_i32
  let c4_i32 : BitVec 32 := 4#32
  let v52 : BitVec 32 := Scalar.subi c4_i32 v51
  let c1_i32_17 : BitVec 32 := 1#32
  let v54 : BitVec 32 := Scalar.divsi v52 c1_i32_17
  let v55 : BitVec 32 := Scalar.muli v54 c1_i32_17
  let v56 : BitVec 32 := Scalar.addi v51 v55
  let v53 : BitVec 32 := Scalar.addi v51 v52
  let c1_i32_19 : BitVec 32 := 1#32
  ⟨v56, v53, c1_i32_19⟩
def k0_mult3 (i : grid0.Coords) (k0_t2 : Fin (k0_t2_loop i).trips) : BitVec 32 :=
  let arg2 : BitVec 32 := BitVec.ofNat 32 (i 2).val
  let c1_i32 : BitVec 32 := 1#32
  let v51 : BitVec 32 := Scalar.addi arg2 c1_i32
  let c4_i32 : BitVec 32 := 4#32
  let v52 : BitVec 32 := Scalar.subi c4_i32 v51
  let c1_i32_17 : BitVec 32 := 1#32
  let v54 : BitVec 32 := Scalar.divsi v52 c1_i32_17
  let v55 : BitVec 32 := Scalar.muli v54 c1_i32_17
  let v56 : BitVec 32 := Scalar.addi v51 v55
  let c1_i32_19 : BitVec 32 := 1#32
  let arg13 : BitVec 32 := Scf.iv v56 c1_i32_19 k0_t2
  let c1024_i32_24 : BitVec 32 := 1024#32
  let v61 : BitVec 32 := Scalar.muli arg13 c1024_i32_24
  v61
def k0_off7 (i : grid0.Coords) (k0_t2 : Fin (k0_t2_loop i).trips) : Fin 2 → Nat :=
  let arg2 : BitVec 32 := BitVec.ofNat 32 (i 2).val
  let c1_i32 : BitVec 32 := 1#32
  let v51 : BitVec 32 := Scalar.addi arg2 c1_i32
  let c4_i32 : BitVec 32 := 4#32
  let v52 : BitVec 32 := Scalar.subi c4_i32 v51
  let c1_i32_17 : BitVec 32 := 1#32
  let v54 : BitVec 32 := Scalar.divsi v52 c1_i32_17
  let v55 : BitVec 32 := Scalar.muli v54 c1_i32_17
  let v56 : BitVec 32 := Scalar.addi v51 v55
  let c1_i32_19 : BitVec 32 := 1#32
  let arg13 : BitVec 32 := Scf.iv v56 c1_i32_19 k0_t2
  let c1024_i32_24 : BitVec 32 := 1024#32
  let v61 : BitVec 32 := Scalar.muli arg13 c1024_i32_24
  let v62 : BitVec 32 := v61
  let v63 : Index := Scalar.indexCast v62
  let c0_25 : Index := 0#32
  ![v63.toNat, 0]
def k0_off8 (i : grid0.Coords) (k0_t2 : Fin (k0_t2_loop i).trips) : Fin 2 → Nat :=
  let arg2 : BitVec 32 := BitVec.ofNat 32 (i 2).val
  let c1_i32 : BitVec 32 := 1#32
  let v51 : BitVec 32 := Scalar.addi arg2 c1_i32
  let c4_i32 : BitVec 32 := 4#32
  let v52 : BitVec 32 := Scalar.subi c4_i32 v51
  let c1_i32_17 : BitVec 32 := 1#32
  let v54 : BitVec 32 := Scalar.divsi v52 c1_i32_17
  let v55 : BitVec 32 := Scalar.muli v54 c1_i32_17
  let v56 : BitVec 32 := Scalar.addi v51 v55
  let c1_i32_19 : BitVec 32 := 1#32
  let arg13 : BitVec 32 := Scf.iv v56 c1_i32_19 k0_t2
  let c1024_i32_24 : BitVec 32 := 1024#32
  let v61 : BitVec 32 := Scalar.muli arg13 c1024_i32_24
  let v62 : BitVec 32 := v61
  let v69 : Index := Scalar.indexCast v62
  let c0_28 : Index := 0#32
  ![v69.toNat, 0]
def k0_off9 (i : grid0.Coords) (k0_t2 : Fin (k0_t2_loop i).trips) : Fin 2 → Nat :=
  let arg2 : BitVec 32 := BitVec.ofNat 32 (i 2).val
  let c1_i32 : BitVec 32 := 1#32
  let v51 : BitVec 32 := Scalar.addi arg2 c1_i32
  let c4_i32 : BitVec 32 := 4#32
  let v52 : BitVec 32 := Scalar.subi c4_i32 v51
  let c1_i32_17 : BitVec 32 := 1#32
  let v54 : BitVec 32 := Scalar.divsi v52 c1_i32_17
  let v55 : BitVec 32 := Scalar.muli v54 c1_i32_17
  let v56 : BitVec 32 := Scalar.addi v51 v55
  let c1_i32_19 : BitVec 32 := 1#32
  let arg13 : BitVec 32 := Scf.iv v56 c1_i32_19 k0_t2
  let c1024_i32_24 : BitVec 32 := 1024#32
  let v61 : BitVec 32 := Scalar.muli arg13 c1024_i32_24
  let v62 : BitVec 32 := v61
  let v77 : Index := Scalar.indexCast v62
  let c0_30 : Index := 0#32
  ![v77.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S8192x1024 : Shape := ⟨2, ![8192, 1024]⟩
abbrev S8192x2560 : Shape := ⟨2, ![8192, 2560]⟩
abbrev S_ : Shape := ⟨0, ![]⟩
abbrev S2x4096x8x128 : Shape := ⟨4, ![2, 4096, 8, 128]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x8x4096x128 : Shape := ⟨4, ![2, 8, 4096, 128]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2560, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S2x4096x8x128, .f32⟩
  | .hbm, ⟨8, _⟩ => ⟨S2x4096x8x128, .f32⟩
  | .hbm, ⟨9, _⟩ => ⟨S2x4096x8x128, .f32⟩
  | .hbm, ⟨10, _⟩ => ⟨S2x8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S2x8x4096x4096, .i1⟩
  | .hbm, ⟨20, _⟩ => ⟨S2x8x4096x4096, .f32⟩
  | .hbm, ⟨21, _⟩ => ⟨S2x8x4096x4096, .f32⟩
  | .hbm, ⟨22, _⟩ => ⟨S_, .f32⟩
  | .hbm, ⟨23, _⟩ => ⟨S2x8x4096x4096, .f32⟩
  | .hbm, ⟨24, _⟩ => ⟨S_, .f32⟩
  | .hbm, ⟨25, _⟩ => ⟨S2x8x4096, .f32⟩
  | .hbm, ⟨26, _⟩ => ⟨S2x8x4096x1, .f32⟩
  | .hbm, ⟨27, _⟩ => ⟨S2x8x4096x4096, .f32⟩
  | .hbm, ⟨28, _⟩ => ⟨S2x8x4096x4096, .i1⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S_, .f32⟩
  | .hbm, ⟨33, _⟩ => ⟨S2x8x4096, .f32⟩
  | .hbm, ⟨34, _⟩ => ⟨S2x8x4096, .f32⟩
  | .hbm, ⟨35, _⟩ => ⟨S_, .f32⟩
  | .hbm, ⟨36, _⟩ => ⟨S2x8x4096, .f32⟩
  | .hbm, ⟨37, _⟩ => ⟨S2x8x4096, .i1⟩
  | .hbm, ⟨38, _⟩ => ⟨S_, .f32⟩
  | .hbm, ⟨39, _⟩ => ⟨S2x8x4096, .f32⟩
  | .hbm, ⟨40, _⟩ => ⟨S2x8x4096, .i1⟩
  | .hbm, ⟨41, _⟩ => ⟨S_, .f32⟩
  | .hbm, ⟨42, _⟩ => ⟨S2x8x4096, .f32⟩
  | .hbm, ⟨43, _⟩ => ⟨S_, .f32⟩
  | .hbm, ⟨44, _⟩ => ⟨S2x8x4096, .f32⟩
  | .hbm, ⟨45, _⟩ => ⟨S_, .f32⟩
  | .hbm, ⟨46, _⟩ => ⟨S2x8x4096, .f32⟩
  | .hbm, ⟨47, _⟩ => ⟨S2x8x4096, .f32⟩
  | .hbm, ⟨48, _⟩ => ⟨S2x8x4096, .f32⟩
  | .hbm, ⟨49, _⟩ => ⟨S2x8x4096x1, .f32⟩
  | .hbm, ⟨50, _⟩ => ⟨S2x8x4096x4096, .f32⟩
  | .hbm, ⟨51, _⟩ => ⟨S2x8x4096x4096, .f32⟩
  | .hbm, ⟨52, _⟩ => ⟨S2x8x4096x4096, .f32⟩
  | .hbm, ⟨53, _⟩ => ⟨S_, .f32⟩
  | .hbm, ⟨54, _⟩ => ⟨S2x8x4096, .f32⟩
  | .hbm, ⟨55, _⟩ => ⟨S2x8x4096x1, .f32⟩
  | .hbm, ⟨56, _⟩ => ⟨S2x8x4096x4096, .f32⟩
  | .hbm, ⟨57, _⟩ => ⟨S2x8x4096x4096, .f32⟩
  | .hbm, ⟨58, _⟩ => ⟨S2x8x4096x1, .f32⟩
  | .hbm, ⟨59, _⟩ => ⟨S_, .f32⟩
  | .hbm, ⟨60, _⟩ => ⟨S2x8x4096x1, .f32⟩
  | .hbm, ⟨61, _⟩ => ⟨S2x8x4096x1, .f32⟩
  | .hbm, ⟨62, _⟩ => ⟨S2x8x128x4096, .f32⟩
  | .hbm, ⟨63, _⟩ => ⟨S2x4096x8x128, .f32⟩
  | .hbm, ⟨64, _⟩ => ⟨S8192x1024, .f32⟩
  | .hbm, ⟨65, _⟩ => ⟨S8192x1024, .f32⟩
  | .hbm, ⟨66, _⟩ => ⟨S2x4096x8x128, .f32⟩
  | .hbm, ⟨67, _⟩ => ⟨S2x8x128x4096, .f32⟩
  | .hbm, ⟨68, _⟩ => ⟨S2x8x4096x4096, .f32⟩
  | .hbm, ⟨69, _⟩ => ⟨S2x8x128x4096, .f32⟩
  | .hbm, ⟨70, _⟩ => ⟨S2x4096x8x128, .f32⟩
  | .hbm, ⟨71, _⟩ => ⟨S2x8x4096x4096, .f32⟩
  | .hbm, ⟨72, _⟩ => ⟨S2x8x4096x4096, .f32⟩
  | .hbm, ⟨73, _⟩ => ⟨S2x8x4096x4096, .f32⟩
  | .hbm, ⟨74, _⟩ => ⟨S_, .f32⟩
  | .hbm, ⟨75, _⟩ => ⟨S2x8x4096, .f32⟩
  | .hbm, ⟨76, _⟩ => ⟨S2x8x4096x1, .f32⟩
  | .hbm, ⟨77, _⟩ => ⟨S2x8x4096x1, .f32⟩
  | .hbm, ⟨78, _⟩ => ⟨S2x8x4096x4096, .f32⟩
  | .hbm, ⟨79, _⟩ => ⟨S2x8x4096x4096, .f32⟩
  | .hbm, ⟨80, _⟩ => ⟨S_, .f32⟩
  | .hbm, ⟨81, _⟩ => ⟨S2x8x4096, .f32⟩
  | .hbm, ⟨82, _⟩ => ⟨S2x8x4096x4096, .f32⟩
  | .hbm, ⟨83, _⟩ => ⟨S2x8x4096x4096, .f32⟩
  | .hbm, ⟨84, _⟩ => ⟨S2x8x4096x4096, .f32⟩
  | .hbm, ⟨85, _⟩ => ⟨S_, .f32⟩
  | .hbm, ⟨86, _⟩ => ⟨S2x8x4096x4096, .f32⟩
  | .hbm, ⟨87, _⟩ => ⟨S2x8x4096x4096, .f32⟩
  | .hbm, ⟨88, _⟩ => ⟨S2x8x4096x128, .f32⟩
  | .hbm, ⟨89, _⟩ => ⟨S2x4096x8x128, .f32⟩
  | .hbm, ⟨90, _⟩ => ⟨S2x8x4096x128, .f32⟩
  | .hbm, ⟨91, _⟩ => ⟨S2x4096x8x128, .f32⟩
  | .hbm, ⟨92, _⟩ => ⟨S8192x1024, .f32⟩
  | .hbm, ⟨93, _⟩ => ⟨S8192x1024, .f32⟩
  | .hbm, ⟨94, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Kernel2.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1024x5632 : Shape := ⟨2, ![1024, 5632]⟩
abbrev S8192x2816 : Shape := ⟨2, ![8192, 2816]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x2816, .bf16⟩
  | .hbm, ⟨3, _⟩ => ⟨S1024x5632, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1024x5632 : Shape := ⟨2, ![1024, 5632]⟩
abbrev S8192x2816 : Shape := ⟨2, ![8192, 2816]⟩
abbrev S_ : Shape := ⟨0, ![]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S1024x5632 : Shape := ⟨2, ![1024, 5632]⟩
abbrev S8192x2816 : Shape := ⟨2, ![8192, 2816]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S8192x2816, .bf16⟩
  | .hbm, ⟨4, _⟩ => ⟨S1024x5632, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1024x5632 : Shape := ⟨2, ![1024, 5632]⟩
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2560x1024 : Shape := ⟨2, ![2560, 1024]⟩
abbrev S8192x1024 : Shape := ⟨2, ![8192, 1024]⟩
abbrev S8192x2560 : Shape := ⟨2, ![8192, 2560]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 4
  | .vmem => 6
  | .smem => 0
  | _ => 0

abbrev bufTy : (tb : Table) → Fin (tcTables nBuf tb) → BufTy
  | .hbm, ⟨0, _⟩ => ⟨S2560x1024, .f32⟩
  | .hbm, ⟨1, _⟩ => ⟨S8192x1024, .f32⟩
  | .hbm, ⟨2, _⟩ => ⟨S2560x1024, .bf16⟩
  | .hbm, ⟨3, _⟩ => ⟨S8192x2560, .f32⟩
  | .local _ .vmem, ⟨0, _⟩ => ⟨S1024x1024, .f32⟩
  | .local _ .vmem, ⟨1, _⟩ => ⟨S1024x1024, .f32⟩
  | .local _ .vmem, ⟨2, _⟩ => ⟨S1280x1024, .bf16⟩
  | .local _ .vmem, ⟨3, _⟩ => ⟨S1280x1024, .bf16⟩
  | .local _ .vmem, ⟨4, _⟩ => ⟨S1024x1280, .f32⟩
  | .local _ .vmem, ⟨5, _⟩ => ⟨S1024x1280, .f32⟩
  | _, _ => ⟨S2560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2560x1024 : Shape := ⟨2, ![2560, 1024]⟩
abbrev S8192x1024 : Shape := ⟨2, ![8192, 1024]⟩
abbrev S_ : Shape := ⟨0, ![]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S2560x1024, .f32⟩
  | .hbm, ⟨1, _⟩ => ⟨S8192x1024, .f32⟩
  | .hbm, ⟨2, _⟩ => ⟨S_, .f32⟩
  | .hbm, ⟨3, _⟩ => ⟨S8192x2560, .f32⟩
  | .hbm, ⟨4, _⟩ => ⟨S8192x1024, .f32⟩
  | .hbm, ⟨5, _⟩ => ⟨S8192x2560, .f32⟩
  | _, _ => ⟨S2560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2560, .f32⟩
  | .hbm, ⟨1, _⟩ => ⟨S8192x1024, .f32⟩
  | .hbm, ⟨2, _⟩ => ⟨S8192x2560, .bf16⟩
  | .hbm, ⟨3, _⟩ => ⟨S2560x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .f32⟩
  | .local _ .vmem, ⟨3, _⟩ => ⟨S1024x1024, .f32⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2560 : Shape := ⟨2, ![8192, 2560]⟩
abbrev S8192x1024 : Shape := ⟨2, ![8192, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 8
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8192x1024, .f32⟩
  | .hbm, ⟨2, _⟩ => ⟨S_, .f32⟩
  | .hbm, ⟨3, _⟩ => ⟨S2560x1024, .f32⟩
  | .hbm, ⟨4, _⟩ => ⟨S8192x1024, .f32⟩
  | .hbm, ⟨5, _⟩ => ⟨S1024x2560, .f32⟩
  | .hbm, ⟨6, _⟩ => ⟨S2560x1024, .f32⟩
  | .hbm, ⟨7, _⟩ => ⟨S2560x1024, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S1024x4096 : Shape := ⟨2, ![1024, 4096]⟩
abbrev S8192x4096 : Shape := ⟨2, ![8192, 4096]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S8192x4096, .bf16⟩
  | .hbm, ⟨3, _⟩ => ⟨S1024x4096, .bf16⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x2560 : Shape := ⟨2, ![8192, 2560]⟩
abbrev S2560x1024 : Shape := ⟨2, ![2560, 1024]⟩
abbrev S8192x1024 : Shape := ⟨2, ![8192, 1024]⟩
abbrev S1024x2560 : Shape := ⟨2, ![1024, 2560]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2560, .f32⟩
  | .hbm, ⟨1, _⟩ => ⟨S2560x1024, .f32⟩
  | .hbm, ⟨2, _⟩ => ⟨S8192x1024, .f32⟩
  | .hbm, ⟨3, _⟩ => ⟨S8192x2560, .bf16⟩
  | .hbm, ⟨4, _⟩ => ⟨S2560x1024, .bf16⟩
  | .hbm, ⟨5, _⟩ => ⟨S8192x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x2560 : Shape := ⟨2, ![8192, 2560]⟩
abbrev S2560x1024 : Shape := ⟨2, ![2560, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S2560x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S8192x384 : Shape := ⟨2, ![8192, 384]⟩
abbrev S8192x1024 : Shape := ⟨2, ![8192, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S8192x384, .bf16⟩
  | .hbm, ⟨3, _⟩ => ⟨S8192x1024, .bf16⟩
  | .hbm, ⟨4, _⟩ => ⟨S384x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .bf16⟩
  | .local _ .vmem, ⟨5, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S_, .f32⟩
  | .hbm, ⟨3, _⟩ => ⟨S384x1024, .f32⟩
  | .hbm, ⟨4, _⟩ => ⟨S8192x1024, .f32⟩
  | .hbm, ⟨5, _⟩ => ⟨S1024x384, .f32⟩
  | .hbm, ⟨6, _⟩ => ⟨S384x1024, .f32⟩
  | .hbm, ⟨7, _⟩ => ⟨S384x1024, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x256, .bf16⟩
  | .hbm, ⟨3, _⟩ => ⟨S8192x2048, .bf16⟩
  | .hbm, ⟨4, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel18.lean ====
abbrev S8192x4096 : Shape := ⟨2, ![8192, 4096]⟩
abbrev S4x1536 : Shape := ⟨2, ![4, 1536]⟩
abbrev S1536 : Shape := ⟨1, ![1536]⟩
abbrev S_ : Shape := ⟨0, ![]⟩
abbrev S8x1536 : Shape := ⟨2, ![8, 1536]⟩
abbrev S1x1536 : Shape := ⟨2, ![1, 1536]⟩
abbrev S8192x1536 : Shape := ⟨2, ![8192, 1536]⟩
abbrev S1024x512 : Shape := ⟨2, ![1024, 512]⟩
abbrev S8x512 : Shape := ⟨2, ![8, 512]⟩
abbrev S1x512 : Shape := ⟨2, ![1, 512]⟩
abbrev S1032x512 : Shape := ⟨2, ![1032, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S8x1536, .f32⟩
  | .hbm, ⟨6, _⟩ => ⟨S1x1536, .f32⟩
  | .hbm, ⟨7, _⟩ => ⟨S8192x1536, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg1 c2_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S8192x4096 : Shape := ⟨2, ![8192, 4096]⟩
abbrev S4x1536 : Shape := ⟨2, ![4, 1536]⟩
abbrev S1536 : Shape := ⟨1, ![1536]⟩
abbrev S8192x1536 : Shape := ⟨2, ![8192, 1536]⟩
abbrev S2x4096x1536 : Shape := ⟨3, ![2, 4096, 1536]⟩
abbrev S_ : Shape := ⟨0, ![]⟩
abbrev S2x3x1536 : Shape := ⟨3, ![2, 3, 1536]⟩
abbrev S2x4099x1536 : Shape := ⟨3, ![2, 4099, 1536]⟩
abbrev S1x1536 : Shape := ⟨2, ![1, 1536]⟩
abbrev S1x1x1536 : Shape := ⟨3, ![1, 1, 1536]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x1536, .f32⟩
  | .hbm, ⟨2, _⟩ => ⟨S1536, .f32⟩
  | .hbm, ⟨3, _⟩ => ⟨S8192x1536, .f32⟩
  | .hbm, ⟨4, _⟩ => ⟨S2x4096x1536, .f32⟩
  | .hbm, ⟨5, _⟩ => ⟨S_, .f32⟩
  | .hbm, ⟨6, _⟩ => ⟨S2x3x1536, .f32⟩
  | .hbm, ⟨7, _⟩ => ⟨S2x4099x1536, .f32⟩
  | .hbm, ⟨8, _⟩ => ⟨S2x4096x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S2x4096x1536, .f32⟩
  | .hbm, ⟨13, _⟩ => ⟨S2x4096x1536, .f32⟩
  | .hbm, ⟨14, _⟩ => ⟨S1x1x1536, .f32⟩
  | .hbm, ⟨15, _⟩ => ⟨S2x4096x1536, .f32⟩
  | .hbm, ⟨16, _⟩ => ⟨S2x4096x1536, .f32⟩
  | .hbm, ⟨17, _⟩ => ⟨S2x4096x1536, .f32⟩
  | .hbm, ⟨18, _⟩ => ⟨S1x1536, .f32⟩
  | .hbm, ⟨19, _⟩ => ⟨S1536, .f32⟩
  | .hbm, ⟨20, _⟩ => ⟨S1x1x1536, .f32⟩
  | .hbm, ⟨21, _⟩ => ⟨S2x4096x1536, .f32⟩
  | .hbm, ⟨22, _⟩ => ⟨S2x4096x1536, .f32⟩
  | .hbm, ⟨23, _⟩ => ⟨S2x4096x1536, .f32⟩
  | .hbm, ⟨24, _⟩ => ⟨S2x4096x1536, .f32⟩
  | .hbm, ⟨25, _⟩ => ⟨S1x1536, .f32⟩
  | .hbm, ⟨26, _⟩ => ⟨S1536, .f32⟩
  | .hbm, ⟨27, _⟩ => ⟨S1x1x1536, .f32⟩
  | .hbm, ⟨28, _⟩ => ⟨S2x4096x1536, .f32⟩
  | .hbm, ⟨29, _⟩ => ⟨S2x4096x1536, .f32⟩
  | .hbm, ⟨30, _⟩ => ⟨S2x4096x1536, .f32⟩
  | .hbm, ⟨31, _⟩ => ⟨S2x4096x1536, .f32⟩
  | .hbm, ⟨32, _⟩ => ⟨S1x1536, .f32⟩
  | .hbm, ⟨33, _⟩ => ⟨S1536, .f32⟩
  | .hbm, ⟨34, _⟩ => ⟨S1x1x1536, .f32⟩
  | .hbm, ⟨35, _⟩ => ⟨S2x4096x1536, .f32⟩
  | .hbm, ⟨36, _⟩ => ⟨S2x4096x1536, .f32⟩
  | .hbm, ⟨37, _⟩ => ⟨S2x4096x1536, .f32⟩
  | .hbm, ⟨38, _⟩ => ⟨S2x4096x1536, .f32⟩
  | .hbm, ⟨39, _⟩ => ⟨S2x4096x1536, .f32⟩
  | .hbm, ⟨40, _⟩ => ⟨S_, .f32⟩
  | .hbm, ⟨41, _⟩ => ⟨S2x4096x1536, .f32⟩
  | .hbm, ⟨42, _⟩ => ⟨S2x4096x1536, .f32⟩
  | .hbm, ⟨43, _⟩ => ⟨S_, .f32⟩
  | .hbm, ⟨44, _⟩ => ⟨S2x4096x1536, .f32⟩
  | .hbm, ⟨45, _⟩ => ⟨S2x4096x1536, .f32⟩
  | .hbm, ⟨46, _⟩ => ⟨S2x4096x1536, .f32⟩
  | .hbm, ⟨47, _⟩ => ⟨S8192x1536, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Kernel19.lean ====
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1x5632 : Shape := ⟨2, ![1, 5632]⟩
abbrev S8192x2816 : Shape := ⟨2, ![8192, 2816]⟩
abbrev S512x1408 : Shape := ⟨2, ![512, 1408]⟩
abbrev S8x1408 : Shape := ⟨2, ![8, 1408]⟩
abbrev S1x1408 : Shape := ⟨2, ![1, 1408]⟩
abbrev S520x1408 : Shape := ⟨2, ![520, 1408]⟩

abbrev nBuf : Space → Nat
  | .hbm => 8
  | .vmem => 18
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S_, .i32⟩
  | .hbm, ⟨4, _⟩ => ⟨S_, .f32⟩
  | .hbm, ⟨5, _⟩ => ⟨S8x5632, .f32⟩
  | .hbm, ⟨6, _⟩ => ⟨S1x5632, .f32⟩
  | .hbm, ⟨7, _⟩ => ⟨S8192x2816, .bf16⟩
  | .local _ .vmem, ⟨0, _⟩ => ⟨S512x1408, .f32⟩
  | .local _ .vmem, ⟨1, _⟩ => ⟨S512x1408, .f32⟩
  | .local _ .vmem, ⟨2, _⟩ => ⟨S8x1408, .f32⟩
  | .local _ .vmem, ⟨3, _⟩ => ⟨S8x1408, .f32⟩
  | .local _ .vmem, ⟨4, _⟩ => ⟨S512x1408, .f32⟩
  | .local _ .vmem, ⟨5, _⟩ => ⟨S512x1408, .f32⟩
  | .local _ .vmem, ⟨6, _⟩ => ⟨S8x1408, .f32⟩
  | .local _ .vmem, ⟨7, _⟩ => ⟨S8x1408, .f32⟩
  | .local _ .vmem, ⟨8, _⟩ => ⟨S8x1408, .f32⟩
  | .local _ .vmem, ⟨9, _⟩ => ⟨S8x1408, .f32⟩
  | .local _ .vmem, ⟨10, _⟩ => ⟨S8x1408, .f32⟩
  | .local _ .vmem, ⟨11, _⟩ => ⟨S8x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S512x1408, .bf16⟩
  | .local _ .vmem, ⟨17, _⟩ => ⟨S512x1408, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg1 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8192x5632 : Shape := ⟨2, ![8192, 5632]⟩
abbrev S3x5632 : Shape := ⟨2, ![3, 5632]⟩
abbrev S5632 : Shape := ⟨1, ![5632]⟩
abbrev S2x4096x5632 : Shape := ⟨3, ![2, 4096, 5632]⟩
abbrev S_ : Shape := ⟨0, ![]⟩
abbrev S2x2x5632 : Shape := ⟨3, ![2, 2, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S2x4096x2816 : Shape := ⟨3, ![2, 4096, 2816]⟩
abbrev S8192x2816 : Shape := ⟨2, ![8192, 2816]⟩

abbrev nBuf : Space → Nat
  | .hbm => 44
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2x4096x5632, .f32⟩
  | .hbm, ⟨4, _⟩ => ⟨S_, .f32⟩
  | .hbm, ⟨5, _⟩ => ⟨S2x2x5632, .f32⟩
  | .hbm, ⟨6, _⟩ => ⟨S2x4098x5632, .f32⟩
  | .hbm, ⟨7, _⟩ => ⟨S2x4096x5632, .f32⟩
  | .hbm, ⟨8, _⟩ => ⟨S1x5632, .f32⟩
  | .hbm, ⟨9, _⟩ => ⟨S5632, .f32⟩
  | .hbm, ⟨10, _⟩ => ⟨S1x1x5632, .f32⟩
  | .hbm, ⟨11, _⟩ => ⟨S2x4096x5632, .f32⟩
  | .hbm, ⟨12, _⟩ => ⟨S2x4096x5632, .f32⟩
  | .hbm, ⟨13, _⟩ => ⟨S1x1x5632, .f32⟩
  | .hbm, ⟨14, _⟩ => ⟨S2x4096x5632, .f32⟩
  | .hbm, ⟨15, _⟩ => ⟨S2x4096x5632, .f32⟩
  | .hbm, ⟨16, _⟩ => ⟨S2x4096x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S2x4096x2816, .f32⟩
  | .hbm, ⟨31, _⟩ => ⟨S2x4096x2816, .f32⟩
  | .hbm, ⟨32, _⟩ => ⟨S2x4096x2816, .f32⟩
  | .hbm, ⟨33, _⟩ => ⟨S2x4096x2816, .f32⟩
  | .hbm, ⟨34, _⟩ => ⟨S_, .f32⟩
  | .hbm, ⟨35, _⟩ => ⟨S2x4096x2816, .f32⟩
  | .hbm, ⟨36, _⟩ => ⟨S2x4096x2816, .f32⟩
  | .hbm, ⟨37, _⟩ => ⟨S_, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S2x4096x2816, .f32⟩
  | .hbm, ⟨42, _⟩ => ⟨S8192x2816, .f32⟩
  | .hbm, ⟨43, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Kernel20.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference20Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel23.lean ====
abbrev S8192x1024 : Shape := ⟨2, ![8192, 1024]⟩
abbrev S_ : Shape := ⟨0, ![]⟩
abbrev S2048x128 : Shape := ⟨2, ![2048, 128]⟩
abbrev S4096x128 : Shape := ⟨2, ![4096, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 2], ![false, false, false]⟩

@[reducible] def k0_t1_loop (i : grid0.Coords) : Scf.Loop 32 :=
  let c0_i32 : BitVec 32 := 0#32
  let c2_i32 : BitVec 32 := 2#32
  let arg2 : BitVec 32 := BitVec.ofNat 32 (i 2).val
  let v7 : BitVec 32 := Scalar.muli c2_i32 arg2
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  ⟨c0_i32, v12, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c1024_i32_38 : BitVec 32 := 1024#32
  let v118 : BitVec 32 := Scalar.muli arg8 c1024_i32_38
  v118
def k0_off1 (i : grid0.Coords) (k0_t1 : Fin (k0_t1_loop i).trips) : Fin 2 → Nat :=
  let c0_i32 : BitVec 32 := 0#32
  let c1_i32_4 : BitVec 32 := 1#32
  let arg8 : BitVec 32 := Scf.iv c0_i32 c1_i32_4 k0_t1
  let c1024_i32_38 : BitVec 32 := 1024#32
  let v118 : BitVec 32 := Scalar.muli arg8 c1024_i32_38
  let v119 : BitVec 32 := v118
  let v120 : Index := Scalar.indexCast v119
  let c0_39 : Index := 0#32
  ![v120.toNat, 0]
@[reducible] def k0_t2_loop (i : grid0.Coords) : Scf.Loop 32 :=
  let c0_i32 : BitVec 32 := 0#32
  let c2_i32 : BitVec 32 := 2#32
  let arg2 : BitVec 32 := BitVec.ofNat 32 (i 2).val
  let v7 : BitVec 32 := Scalar.muli c2_i32 arg2
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_5 : BitVec 32 := 1#32
  ⟨v12, v9, c1_i32_5⟩
def k0_mult2 (i : grid0.Coords) (k0_t2 : Fin (k0_t2_loop i).trips) : BitVec 32 :=
  let c0_i32 : BitVec 32 := 0#32
  let c2_i32 : BitVec 32 := 2#32
  let arg2 : BitVec 32 := BitVec.ofNat 32 (i 2).val
  let v7 : BitVec 32 := Scalar.muli c2_i32 arg2
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg8 : BitVec 32 := Scf.iv v12 c1_i32_5 k0_t2
  let c1024_i32_38 : BitVec 32 := 1024#32
  let v118 : BitVec 32 := Scalar.muli arg8 c1024_i32_38
  v118
def k0_off2 (i : grid0.Coords) (k0_t2 : Fin (k0_t2_loop i).trips) : Fin 2 → Nat :=
  let c0_i32 : BitVec 32 := 0#32
  let c2_i32 : BitVec 32 := 2#32
  let arg2 : BitVec 32 := BitVec.ofNat 32 (i 2).val
  let v7 : BitVec 32 := Scalar.muli c2_i32 arg2
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg8 : BitVec 32 := Scf.iv v12 c1_i32_5 k0_t2
  let c1024_i32_38 : BitVec 32 := 1024#32
  let v118 : BitVec 32 := Scalar.muli arg8 c1024_i32_38
  let v119 : BitVec 32 := v118
  let v120 : Index := Scalar.indexCast v119
  let c0_39 : Index := 0#32
  ![v120.toNat, 0]
def k0_mult3 (i : grid0.Coords) : BitVec 32 :=
  let c2_i32_6 : BitVec 32 := 2#32
  let arg2 : BitVec 32 := BitVec.ofNat 32 (i 2).val
  let v15 : BitVec 32 := Scalar.muli c2_i32_6 arg2
  let c1024_i32 : BitVec 32 := 1024#32
  let v16 : BitVec 32 := Scalar.muli v15 c1024_i32
  v16
def k0_off3 (i : grid0.Coords) : Fin 2 → Nat :=
  let c2_i32_6 : BitVec 32 := 2#32
  let arg2 : BitVec 32 := BitVec.ofNat 32 (i 2).val
  let v15 : BitVec 32 := Scalar.muli c2_i32_6 arg2
  let c1024_i32 : BitVec 32 := 1024#32
  let v16 : BitVec 32 := Scalar.muli v15 c1024_i32
  let v17 : BitVec 32 := v16
  let v18 : Index := Scalar.indexCast v17
  let c0_7 : Index := 0#32
  ![v18.toNat, 0]
def k0_mult4 (i : grid0.Coords) : BitVec 32 :=
  let c2_i32_19 : BitVec 32 := 2#32
  let arg2 : BitVec 32 := BitVec.ofNat 32 (i 2).val
  let v67 : BitVec 32 := Scalar.muli c2_i32_19 arg2
  let c1_i32_20 : BitVec 32 := 1#32
  let v68 : BitVec 32 := Scalar.addi v67 c1_i32_20
  let c1024_i32_21 : BitVec 32 := 1024#32
  let v69 : BitVec 32 := Scalar.muli v68 c1024_i32_21
  v69
def k0_off4 (i : grid0.Coords) : Fin 2 → Nat :=
  let c2_i32_19 : BitVec 32 := 2#32
  let arg2 : BitVec 32 := BitVec.ofNat 32 (i 2).val
  let v67 : BitVec 32 := Scalar.muli c2_i32_19 arg2
  let c1_i32_20 : BitVec 32 := 1#32
  let v68 : BitVec 32 := Scalar.addi v67 c1_i32_20
  let c1024_i32_21 : BitVec 32 := 1024#32
  let v69 : BitVec 32 := Scalar.muli v68 c1024_i32_21
  let v70 : BitVec 32 := v69
  let v71 : Index := Scalar.indexCast v70
  let c0_22 : Index := 0#32
  ![v71.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference23Ideal.lean ====
abbrev S8192x1024 : Shape := ⟨2, ![8192, 1024]⟩
abbrev S_ : Shape := ⟨0, ![]⟩
abbrev S2x4096x8x128 : Shape := ⟨4, ![2, 4096, 8, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8x1 : Shape := ⟨4, ![2, 4096, 8, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S2x4096x8x128, .f32⟩
  | .hbm, ⟨7, _⟩ => ⟨S2x4096x8x128, .f32⟩
  | .hbm, ⟨8, _⟩ => ⟨S2x4096x8x128, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S2x8x4096x4096, .f32⟩
  | .hbm, ⟨16, _⟩ => ⟨S_, .f32⟩
  | .hbm, ⟨17, _⟩ => ⟨S_, .f32⟩
  | .hbm, ⟨18, _⟩ => ⟨S2x8x4096x4096, .i1⟩
  | .hbm, ⟨19, _⟩ => ⟨S2x8x4096x4096, .f32⟩
  | .hbm, ⟨20, _⟩ => ⟨S2x8x4096x4096, .f32⟩
  | .hbm, ⟨21, _⟩ => ⟨S_, .f32⟩
  | .hbm, ⟨22, _⟩ => ⟨S2x8x4096, .f32⟩
  | .hbm, ⟨23, _⟩ => ⟨S2x8x4096x1, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .f32⟩
  | .hbm, ⟨32, _⟩ => ⟨S2x8x128x4096, .f32⟩
  | .hbm, ⟨33, _⟩ => ⟨S2x4096x8x128, .f32⟩
  | .hbm, ⟨34, _⟩ => ⟨S2x8x4096x1, .f32⟩
  | .hbm, ⟨35, _⟩ => ⟨S2x8x4096x1, .f32⟩
  | .hbm, ⟨36, _⟩ => ⟨S2x4096x8x1, .f32⟩
  | .hbm, ⟨37, _⟩ => ⟨S2x4096x8x128, .f32⟩
  | .hbm, ⟨38, _⟩ => ⟨S8192x1024, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Real.lean ====
module

public import Idealize.ShloMosaic.PureOps.Ideal
public import Mathlib.Analysis.SpecialFunctions.Log.Basic

@[expose] public section

noncomputable section

/-! # Causal attention over one head and its gradient, in the real numbers

Rows and columns are natural numbers; a head has 4096 positions of width 128. -/

namespace Cert.Attn

open Finset

/-- A finite sum of reals, taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum over `Fin n` of extended reals that are the reals `f`. -/
theorem sum_fin {n : ℕ} (x : Fin n → EReal) (f : ℕ → ℝ) (h : ∀ i : Fin n, x i = ((f i.val : ℝ) : EReal)) :
    ∑ i : Fin n, x i = ((∑ i ∈ range n, f i : ℝ) : EReal) := by
  rw [Finset.sum_congr rfl (fun i _ => h i), sum_coe, Finset.sum_range]

/-- One head: its queries, keys, values, the gradient of its output, and a real number per row taken off the scores before the exponential. -/
structure Head where
  /-- queries -/
  q : ℕ → ℕ → ℝ
  /-- keys -/
  k : ℕ → ℕ → ℝ
  /-- values -/
  v : ℕ → ℕ → ℝ
  /-- the gradient of the output -/
  g : ℕ → ℕ → ℝ
  /-- what is taken off row `r`'s scores -/
  μ : ℕ → ℝ

namespace Head

variable (H : Head)

/-- The score of query `r` against key `c`. -/
def s (r c : ℕ) : ℝ := ∑ d ∈ range 128, H.q r d * H.k c d
/-- The unnormalised weight: zero above the diagonal. -/
def e (r c : ℕ) : ℝ := if c ≤ r then Real.exp (H.s r c - H.μ r) else 0
/-- The sum of row `r`'s weights. -/
def l (r : ℕ) : ℝ := ∑ c ∈ range 4096, H.e r c
/-- The logarithm of the sum of the exponentials of row `r`'s scores. -/
def lse (r : ℕ) : ℝ := H.μ r + Real.log (H.l r)
/-- The exponential the kernel forms off the diagonal block. -/
def w (r c : ℕ) : ℝ := Real.exp (H.s r c - H.lse r)
/-- The weight of key `c` for query `r`. -/
def p (r c : ℕ) : ℝ := if c ≤ r then H.w r c else 0
/-- The output. -/
def o (r d : ℕ) : ℝ := ∑ c ∈ range 4096, H.v c d * H.p r c
/-- The gradient of the weights. -/
def dp (r c : ℕ) : ℝ := ∑ d ∈ range 128, H.g r d * H.v c d
/-- The row sums of gradient times output. -/
def D (r : ℕ) : ℝ := ∑ d ∈ range 128, H.g r d * H.o r d
/-- The gradient of the scores. -/
def ds (r c : ℕ) : ℝ := H.p r c * (H.dp r c - H.D r)
/-- The gradient of the values. -/
def dv (c d : ℕ) : ℝ := ∑ r ∈ range 4096, H.p r c * H.g r d
/-- The gradient of the keys. -/
def dk (c d : ℕ) : ℝ := ∑ r ∈ range 4096, H.ds r c * H.q r d
/-- The gradient of the queries. -/
def dq (r d : ℕ) : ℝ := ∑ c ∈ range 4096, H.ds r c * H.k c d

/-- A shifted exponential is not negative. -/
theorem e_nonneg (r c : ℕ) : 0 ≤ H.e r c := by
  unfold e; split
  · exact (Real.exp_pos _).le
  · exact le_refl _

/-- A row's weights have a positive sum: the diagonal is never masked. -/
theorem l_pos (r : ℕ) (hr : r < 4096) : 0 < H.l r := by
  refine Finset.sum_pos' (fun c _ => H.e_nonneg r c) ⟨r, mem_range.mpr hr, ?_⟩
  unfold e; rw [if_pos (le_refl r)]; exact Real.exp_pos _

/-- Dividing by the row's sum is the same as taking its logarithm off in the exponent. -/
theorem p_eq (r c : ℕ) (hr : r < 4096) : H.p r c = H.e r c / H.l r := by
  have hl := H.l_pos r hr
  unfold p e w lse
  split
  · rw [show H.s r c - (H.μ r + Real.log (H.l r)) = (H.s r c - H.μ r) - Real.log (H.l r) by ring, Real.exp_sub, Real.exp_log hl]
  · rw [zero_div]

/-- The row sum of gradient times output is the weighted mean of the weights' gradient. -/
theorem D_eq (r : ℕ) : H.D r = ∑ c ∈ range 4096, H.p r c * H.dp r c := by
  unfold D o dp
  simp only [Finset.mul_sum]
  rw [Finset.sum_comm]
  refine Finset.sum_congr rfl fun c _ => Finset.sum_congr rfl fun d _ => ?_
  ring

/-- The gradient of the scores as the derivative of a quotient writes it. -/
theorem ds_eq (r c : ℕ) (hr : r < 4096) :
    (H.dp r c / H.l r + -(∑ j ∈ range 4096, H.dp r j * (1 / (H.l r * H.l r)) * H.e r j)) * H.e r c = H.ds r c := by
  have hl := (H.l_pos r hr).ne'
  have hs : ∑ j ∈ range 4096, H.dp r j * (1 / (H.l r * H.l r)) * H.e r j = H.D r / H.l r := by
    rw [H.D_eq, Finset.sum_div]
    refine Finset.sum_congr rfl fun j _ => ?_
    rw [H.p_eq r j hr]; field_simp
  rw [hs]; unfold ds; rw [H.p_eq r c hr]; field_simp; ring

/-- A weight above the diagonal is zero. -/
theorem p_zero (r c : ℕ) (h : r < c) : H.p r c = 0 := if_neg (by omega)

/-- A score gradient above the diagonal is zero. -/
theorem ds_zero (r c : ℕ) (h : r < c) : H.ds r c = 0 := by unfold ds; rw [H.p_zero r c h, zero_mul]

/-! ## The sums, block of 1024 by block of 1024 -/

/-- Row block `i`'s share of the gradient of the values. -/
def dvPart (c d i : ℕ) : ℝ := ∑ r ∈ range 1024, H.p (1024 * i + r) c * H.g (1024 * i + r) d
/-- Row block `i`'s share of the gradient of the keys. -/
def dkPart (c d i : ℕ) : ℝ := ∑ r ∈ range 1024, H.ds (1024 * i + r) c * H.q (1024 * i + r) d
/-- Column block `j`'s share of the gradient of the queries. -/
def dqPart (r d j : ℕ) : ℝ := ∑ c ∈ range 1024, H.ds r (1024 * j + c) * H.k (1024 * j + c) d

/-- A sum over `n` blocks of 1024 is the sum over the positions they cover. -/
theorem sum_upto (f : ℕ → ℝ) (n : ℕ) : ∑ i ∈ range n, ∑ r ∈ range 1024, f (1024 * i + r) = ∑ r ∈ range (1024 * n), f r := by
  induction n with
  | zero => rfl
  | succ n ih => rw [Finset.sum_range_succ, ih, Nat.mul_succ, Finset.sum_range_add]

/-- A sum over 4096 is four sums over 1024. -/
theorem sum_blocks (f : ℕ → ℝ) : ∑ i ∈ range 4, ∑ r ∈ range 1024, f (1024 * i + r) = ∑ r ∈ range 4096, f r := sum_upto f 4

/-- The four blocks of queries add up to the value gradient. -/
theorem dv_blocks (c d : ℕ) : ∑ i ∈ range 4, H.dvPart c d i = H.dv c d := sum_blocks (fun r => H.p r c * H.g r d)
/-- The four blocks of queries add up to the key gradient. -/
theorem dk_blocks (c d : ℕ) : ∑ i ∈ range 4, H.dkPart c d i = H.dk c d := sum_blocks (fun r => H.ds r c * H.q r d)
/-- The four blocks of keys add up to the query gradient. -/
theorem dq_blocks (r d : ℕ) : ∑ j ∈ range 4, H.dqPart r d j = H.dq r d := sum_blocks (fun c => H.ds r c * H.k c d)

/-- A block of queries before the key adds nothing to its value gradient. -/
theorem dvPart_zero (c d i : ℕ) (h : 1024 * i + 1024 ≤ c) : H.dvPart c d i = 0 :=
  Finset.sum_eq_zero fun r hr => by rw [H.p_zero _ _ (by have := mem_range.mp hr; omega), zero_mul]

/-- A block of queries before the key adds nothing to its key gradient. -/
theorem dkPart_zero (c d i : ℕ) (h : 1024 * i + 1024 ≤ c) : H.dkPart c d i = 0 :=
  Finset.sum_eq_zero fun r hr => by rw [H.ds_zero _ _ (by have := mem_range.mp hr; omega), zero_mul]

/-- A block of keys after the query adds nothing to its gradient. -/
theorem dqPart_zero (r d j : ℕ) (h : r < 1024 * j) : H.dqPart r d j = 0 :=
  Finset.sum_eq_zero fun c _ => by rw [H.ds_zero _ _ (by omega), zero_mul]

/-- The row blocks before the columns' own give the gradient of the values nothing. -/
theorem dv_from (c d j : ℕ) (h : 1024 * j ≤ c) : ∑ i ∈ range (j + 1), H.dvPart c d i = H.dvPart c d j := by
  rw [Finset.sum_range_succ, Finset.sum_eq_zero fun i hi => H.dvPart_zero c d i (by have := mem_range.mp hi; omega), zero_add]

/-- The row blocks before the columns' own give the gradient of the keys nothing. -/
theorem dk_from (c d j : ℕ) (h : 1024 * j ≤ c) : ∑ i ∈ range (j + 1), H.dkPart c d i = H.dkPart c d j := by
  rw [Finset.sum_range_succ, Finset.sum_eq_zero fun i hi => H.dkPart_zero c d i (by have := mem_range.mp hi; omega), zero_add]

end Head

end Cert.Attn

end
-- ==== Proof.Spec.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes, as functions of the blocks it is given -/

/-- The rows of `x` (4096 × 128) at the offsets `off`, 1024 of them. -/
abbrev rows {φ : EltTy} (x : Vec F S4096x128 φ) (off : Fin 2 → ℕ) (h : ∀ a, off a + S1024x128.size a ≤ S4096x128.size a) : Vec F S1024x128 φ :=
  VecWindow.window (s := S4096x128) x off S1024x128.size h

/-- The first column of `x` (4096 × 128) at the offsets `off`, 1024 entries of it. -/
abbrev col (x : Vec F S4096x128 .f32) (off : Fin 2 → ℕ) (h : ∀ a, off a + S1024x1.size a ≤ S4096x128.size a) : Vec F S1024x1 .f32 :=
  VecWindow.window (s := S4096x128) x off S1024x1.size h

/-- 1024 entries of the column `x` (4096 × 1) at the offsets `off`. -/
abbrev ent (x : Vec F S4096x1 .f32) (off : Fin 2 → ℕ) (h : ∀ a, off a + S1024x1.size a ≤ S4096x1.size a) : Vec F S1024x1 .f32 :=
  VecWindow.window (s := S4096x1) x off S1024x1.size h

/-- A whole 1024 × 128 block, read by the load the body makes of it. -/
abbrev whole {φ : EltTy} (x : Vec F S1024x128 φ) : Vec F S1024x128 φ :=
  VecWindow.window (s := S1024x128) x ![0, 0] S1024x128.size inb_S1024x128_S1024x128_0_0

/-- `x` with `w` put over the 1024 rows at `off`. -/
abbrev putRows (x : Vec F S4096x128 .f32) (off : Fin 2 → ℕ) (w : Vec F S1024x128 .f32) : Vec F S4096x128 .f32 :=
  VecWindow.put (s := S4096x128) x off S1024x128.size w

/-- The column `x` with `w` put over the 1024 entries at `off`. -/
abbrev putEnt (x : Vec F S4096x1 .f32) (off : Fin 2 → ℕ) (w : Vec F S1024x1 .f32) : Vec F S4096x1 .f32 :=
  VecWindow.put (s := S4096x1) x off S1024x1.size w

/-- The row sums of do · o the first point of a run stores, block of rows by block of rows, over whatever `b` the scratch held. -/
def deltaOver (b : Vec F S4096x1 .f32) (x3 x5 : Vec F S4096x128 .f32) : Vec F S4096x1 .f32 :=
  putEnt (putEnt (putEnt (putEnt b
    ![0, 0] (k0_pay16 (rows x5 ![0, 0] inb_S4096x128_S1024x128_0_0) (rows x3 ![0, 0] inb_S4096x128_S1024x128_0_0)))
    ![1024, 0] (k0_pay18 (rows x5 ![1024, 0] inb_S4096x128_S1024x128_1024_0) (rows x3 ![1024, 0] inb_S4096x128_S1024x128_1024_0)))
    ![2048, 0] (k0_pay21 (k0_pay20 (rows x5 ![2048, 0] inb_S4096x128_S1024x128_2048_0) (rows x3 ![2048, 0] inb_S4096x128_S1024x128_2048_0))))
    ![3072, 0] (k0_pay23 (rows x5 ![3072, 0] inb_S4096x128_S1024x128_3072_0) (rows x3 ![3072, 0] inb_S4096x128_S1024x128_3072_0))

/-- The zeros the first point of a run stores into the block of dq, over whatever `b` it held. -/
def zeroOver (b : Vec F S4096x128 .f32) : Vec F S4096x128 .f32 :=
  putRows (putRows (putRows (putRows b ![0, 0] k0_pay17) ![1024, 0] k0_pay19) ![2048, 0] k0_pay22) ![3072, 0] k0_pay24

/-- The row sums of do · o. -/
def delta (x3 x5 : Vec F S4096x128 .f32) : Vec F S4096x1 .f32 := deltaOver (constant S4096x1 .f32 0x00000000#32) x3 x5

/-- The block of dq a run begins with. -/
def zeros : Vec F S4096x128 .f32 := zeroOver (constant S4096x128 .f32 0x00000000#32)

/-- Four puts that tile the rows leave nothing of what was there before. -/
theorem put4_eq {α : Type} {n : ℕ} (b b' : (⟨2, ![4096, n]⟩ : Shape).Idx → α) (w0 w1 w2 w3 : ((a : Fin 2) → Fin ((![1024, n] : Fin 2 → ℕ) a)) → α) :
    VecWindow.put (s := ⟨2, ![4096, n]⟩) (VecWindow.put (s := ⟨2, ![4096, n]⟩) (VecWindow.put (s := ⟨2, ![4096, n]⟩) (VecWindow.put (s := ⟨2, ![4096, n]⟩) b ![0, 0] ![1024, n] w0) ![1024, 0] ![1024, n] w1) ![2048, 0] ![1024, n] w2) ![3072, 0] ![1024, n] w3
      = VecWindow.put (s := ⟨2, ![4096, n]⟩) (VecWindow.put (s := ⟨2, ![4096, n]⟩) (VecWindow.put (s := ⟨2, ![4096, n]⟩) (VecWindow.put (s := ⟨2, ![4096, n]⟩) b' ![0, 0] ![1024, n] w0) ![1024, 0] ![1024, n] w1) ![2048, 0] ![1024, n] w2) ![3072, 0] ![1024, n] w3 := by
  funext y
  have h0 : (y 0).val < 4096 := (y 0).isLt
  have h1 : (y 1).val < n := (y 1).isLt
  have key : ∀ o : ℕ, (∀ a : Fin 2, (![o, 0] : Fin 2 → ℕ) a ≤ (y a).val ∧ (y a).val < (![o, 0] : Fin 2 → ℕ) a + (![1024, n] : Fin 2 → ℕ) a) ↔ o ≤ (y 0).val ∧ (y 0).val < o + 1024 := fun o => by
    refine ⟨fun h => h 0, fun h a => ?_⟩
    fin_cases a
    · exact h
    · exact ⟨Nat.zero_le _, by show (y 1).val < 0 + n; omega⟩
  unfold VecWindow.put
  by_cases a3 : 3072 ≤ (y 0).val ∧ (y 0).val < 3072 + 1024
  · rw [dif_pos ((key _).mpr a3), dif_pos ((key _).mpr a3)]
  rw [dif_neg (fun h => a3 ((key _).mp h)), dif_neg (fun h => a3 ((key _).mp h))]
  by_cases a2 : 2048 ≤ (y 0).val ∧ (y 0).val < 2048 + 1024
  · rw [dif_pos ((key _).mpr a2), dif_pos ((key _).mpr a2)]
  rw [dif_neg (fun h => a2 ((key _).mp h)), dif_neg (fun h => a2 ((key _).mp h))]
  by_cases a1 : 1024 ≤ (y 0).val ∧ (y 0).val < 1024 + 1024
  · rw [dif_pos ((key _).mpr a1), dif_pos ((key _).mpr a1)]
  rw [dif_neg (fun h => a1 ((key _).mp h)), dif_neg (fun h => a1 ((key _).mp h))]
  have a0 : 0 ≤ (y 0).val ∧ (y 0).val < 0 + 1024 := by omega
  rw [dif_pos ((key _).mpr a0), dif_pos ((key _).mpr a0)]

/-- The row sums written block by block are the row sums, whatever was there. -/
theorem deltaOver_eq (b : Vec F S4096x1 .f32) (x3 x5 : Vec F S4096x128 .f32) : deltaOver b x3 x5 = delta x3 x5 :=
  put4_eq _ _ _ _ _ _

/-- The zeros written block by block are zeros everywhere, whatever was there. -/
theorem zeroOver_eq (b : Vec F S4096x128 .f32) : zeroOver b = zeros (F := F) :=
  put4_eq _ _ _ _ _ _

/-- The masked weights of the diagonal block: exp (q · k − lse) at or under the diagonal, zero above. -/
abbrev pDiag (i : grid0.Coords) (x0 : Vec F S4096x128 .bf16) (x1 : Vec F S1024x128 .bf16) (x4 : Vec F S4096x128 .f32) : FVec F S1024x1024 .f32 :=
  k0_pay29 (whole x1) (rows x0 (k0_off1 i) (k0_off1_inb i)) (col x4 (k0_off2 i) (k0_off2_inb i))

/-- The gradient of the scores of the diagonal block. -/
abbrev dsDiag (i : grid0.Coords) (x0 : Vec F S4096x128 .bf16) (x1 x2 : Vec F S1024x128 .bf16) (x4 x5 : Vec F S4096x128 .f32) (δ : Vec F S4096x1 .f32) : FVec F S1024x1024 .f32 :=
  k0_pay30 (whole x1) (whole x2) (rows x0 (k0_off1 i) (k0_off1_inb i)) (rows x5 (k0_off1 i) (k0_off1_inb i)) (col x4 (k0_off2 i) (k0_off2_inb i)) (ent δ (k0_off3 i) (k0_off3_inb i))

/-- dk, dv and dq after the diagonal block. -/
def start (i : grid0.Coords) (x0 : Vec F S4096x128 .bf16) (x1 x2 : Vec F S1024x128 .bf16) (x4 x5 : Vec F S4096x128 .f32) (δ : Vec F S4096x1 .f32) (dq : Vec F S4096x128 .f32) :
    (FVec F S1024x128 .f32 × FVec F S1024x128 .f32) × Vec F S4096x128 .f32 :=
  ((k0_pay2 k0_pay27 (k0_pay28 (rows x0 (k0_off1 i) (k0_off1_inb i))) (dsDiag i x0 x1 x2 x4 x5 δ),
    k0_pay3 k0_pay27 (rows x5 (k0_off1 i) (k0_off1_inb i)) (pDiag i x0 x1 x4)),
   putRows dq (k0_off1 i) (k0_pay1 (k0_pay25 (whole x1)) (dsDiag i x0 x1 x2 x4 x5 δ) (k0_pay31 (rows dq (k0_off1 i) (k0_off1_inb i)))))

/-- One block of rows under the diagonal: what trip `k` makes of dk, dv and dq. -/
def trip (i : grid0.Coords) (x0 : Vec F S4096x128 .bf16) (v4 v6 : FVec F S1024x128 .bf16) (x4 x5 : Vec F S4096x128 .f32) (δ : Vec F S4096x1 .f32)
    (k : Fin (k0_t1_loop i).trips) (s : (FVec F S1024x128 .f32 × FVec F S1024x128 .f32) × Vec F S4096x128 .f32) :
    (FVec F S1024x128 .f32 × FVec F S1024x128 .f32) × Vec F S4096x128 .f32 :=
  ((k0_pay8 v4 v6 s.1.1 (rows x0 (k0_off4 i k) (k0_off4_inb i k)) (rows x5 (k0_off4 i k) (k0_off4_inb i k)) (col x4 (k0_off5 i k) (k0_off5_inb i k)) (ent δ (k0_off6 i k) (k0_off6_inb i k)),
    k0_pay9 v4 s.1.2 (rows x0 (k0_off4 i k) (k0_off4_inb i k)) (rows x5 (k0_off4 i k) (k0_off4_inb i k)) (col x4 (k0_off5 i k) (k0_off5_inb i k))),
   putRows s.2 (k0_off4 i k) (k0_pay7 v4 v6 (rows x0 (k0_off4 i k) (k0_off4_inb i k)) (rows x5 (k0_off4 i k) (k0_off4_inb i k)) (col x4 (k0_off5 i k) (k0_off5_inb i k)) (ent δ (k0_off6 i k) (k0_off6_inb i k)) (rows s.2 (k0_off4 i k) (k0_off4_inb i k))))

/-- dk, dv and dq before trip `k` of the blocks under the diagonal. -/
def upto (i : grid0.Coords) (x0 : Vec F S4096x128 .bf16) (v4 v6 : FVec F S1024x128 .bf16) (x4 x5 : Vec F S4096x128 .f32) (δ : Vec F S4096x1 .f32)
    (s : (FVec F S1024x128 .f32 × FVec F S1024x128 .f32) × Vec F S4096x128 .f32) : ℕ → (FVec F S1024x128 .f32 × FVec F S1024x128 .f32) × Vec F S4096x128 .f32
  | 0 => s
  | k + 1 => if h : k < (k0_t1_loop i).trips then trip i x0 v4 v6 x4 x5 δ ⟨k, h⟩ (upto i x0 v4 v6 x4 x5 δ s k) else upto i x0 v4 v6 x4 x5 δ s k

/-- dk, dv and dq after the point. -/
def final (i : grid0.Coords) (x0 : Vec F S4096x128 .bf16) (x1 x2 : Vec F S1024x128 .bf16) (x4 x5 : Vec F S4096x128 .f32) (δ : Vec F S4096x1 .f32) (dq : Vec F S4096x128 .f32) :
    (FVec F S1024x128 .f32 × FVec F S1024x128 .f32) × Vec F S4096x128 .f32 :=
  upto i x0 (k0_pay25 (whole x1)) (k0_pay26 (whole x2)) x4 x5 δ (start i x0 x1 x2 x4 x5 δ dq) (k0_t1_loop i).trips

end Cert.KernelIdeal.Gen

end
-- ==== Proof.Block.lean ====
module

public import proofs.«01_k».proof.Proof.Real
public import proofs.«01_k».proof.Proof.Spec
public import Idealize.ShloMosaic.Lib.Pipeline.ValueKit

@[expose] public section

set_option maxRecDepth 16384

noncomputable section

/-! # What the body's expressions compute, in the reals

Every expression of the body is read at real blocks: a block that holds the real function `f` is `Is x f`. -/

namespace Cert.KernelIdeal.Value

open Cert.KernelIdeal Cert.KernelIdeal.Gen Cert.Attn
open Idealize.ShloMosaic Idealize.ShloMosaic.TcCoe
open Finset

/-- The array `x` holds the real function `f` of row and column. -/
def Is {a b : ℕ} (x : (⟨2, ![a, b]⟩ : Shape).Idx → EReal) (f : ℕ → ℕ → ℝ) : Prop :=
  ∀ (r : Fin a) (c : Fin b), x (ix2 r c) = ((f r.val c.val : ℝ) : EReal)

/-- A sum over `Fin n` of products of two real arrays' entries. -/
theorem sum_mul {n : ℕ} (x y : Fin n → EReal) (f g : ℕ → ℝ) (hx : ∀ i : Fin n, x i = ((f i.val : ℝ) : EReal)) (hy : ∀ i : Fin n, y i = ((g i.val : ℝ) : EReal)) :
    ∑ i : Fin n, x i * y i = ((∑ i ∈ range n, f i * g i : ℝ) : EReal) :=
  sum_fin (fun i => x i * y i) (fun i => f i * g i) fun i => by rw [hx i, hy i, EReal.coe_mul]

/-- The exponential of a real. -/
theorem exp_coe (a : ℝ) : Ideal.exp (a : EReal) = ((Real.exp a : ℝ) : EReal) := rfl

/-- Selecting by `a ≤ b`, compared as 32-bit words. -/
theorem mask (a b : ℕ) (ha : a < 4096) (hb : b < 4096) (x y : EReal) :
    Scalar.select (IntOp.cmpi .sle (BitVec.ofNat 32 a) (IntOp.addi (BitVec.ofNat 32 b) 0#32)) x y = if a ≤ b then x else y := by
  have e : ∀ n : ℕ, n < 4096 → (BitVec.ofNat 32 n).toInt = n := fun n hn => by
    rw [BitVec.toInt_eq_toNat_of_lt (by rw [BitVec.toNat_ofNat]; omega), BitVec.toNat_ofNat]; omega
  have h : IntOp.cmpi .sle (BitVec.ofNat 32 a) (IntOp.addi (BitVec.ofNat 32 b) 0#32) = 1#1 ↔ a ≤ b := by
    rw [IntOp.cmpi_sle, show IntOp.addi (BitVec.ofNat 32 b) 0#32 = BitVec.ofNat 32 b from BitVec.add_zero _, e a ha, e b hb]
    exact Int.ofNat_le
  rw [Scalar.select_def]
  exact if_congr h rfl rfl

/-- An array that holds `f` holds every function that agrees with `f` on its indices. -/
theorem Is.congr {a b : ℕ} {x : (⟨2, ![a, b]⟩ : Shape).Idx → EReal} {f g : ℕ → ℕ → ℝ} (hx : Is x f)
    (h : ∀ r < a, ∀ c < b, f r c = g r c) : Is x g := fun r c => by rw [hx r c, h r.val r.isLt c.val c.isLt]

/-- A block's load of itself is itself. -/
theorem whole_is (x : S1024x128.Idx → EReal) (f : ℕ → ℕ → ℝ) (hx : Is (a := 1024) (b := 128) x f) :
    Is (a := 1024) (b := 128) (VecWindow.window (s := S1024x128) x ![0, 0] S1024x128.size inb_S1024x128_S1024x128_0_0) f := by
  intro r d
  refine Eq.trans (b := x (ix2 r d)) (congrArg x ?_) (hx _ _)
  blk_ext

/-- The rows from `o` on. -/
theorem rows_is (x : S4096x128.Idx → EReal) (f : ℕ → ℕ → ℝ) (off : Fin 2 → ℕ) (o : ℕ) (ho : off = ![o, 0]) (h) (hx : Is (a := 4096) (b := 128) x f) :
    Is (a := 1024) (b := 128) (VecWindow.window (s := S4096x128) x off S1024x128.size h) (fun r d => f (o + r) d) := by
  subst ho
  intro r d
  have hr : o + r.val < 4096 := Nat.lt_of_lt_of_le (Nat.add_lt_add_left r.isLt o) (h 0)
  refine Eq.trans (b := x (ix2 ⟨o + r.val, hr⟩ d)) (congrArg x ?_) (hx _ _)
  blk_ext

/-- The first column's entries from `o` on. -/
theorem col_is (x : S4096x128.Idx → EReal) (f : ℕ → ℕ → ℝ) (off : Fin 2 → ℕ) (o : ℕ) (ho : off = ![o, 0]) (h) (hx : Is (a := 4096) (b := 128) x f) :
    Is (a := 1024) (b := 1) (VecWindow.window (s := S4096x128) x off S1024x1.size h) (fun r d => f (o + r) d) := by
  subst ho
  intro r d
  have hr : o + r.val < 4096 := Nat.lt_of_lt_of_le (Nat.add_lt_add_left r.isLt o) (h 0)
  refine Eq.trans (b := x (ix2 ⟨o + r.val, hr⟩ ⟨d.val, by omega⟩)) (congrArg x ?_) (hx _ _)
  blk_ext

/-- A column's entries from `o` on. -/
theorem ent_is (x : S4096x1.Idx → EReal) (f : ℕ → ℕ → ℝ) (off : Fin 2 → ℕ) (o : ℕ) (ho : off = ![o, 0]) (h) (hx : Is (a := 4096) (b := 1) x f) :
    Is (a := 1024) (b := 1) (VecWindow.window (s := S4096x1) x off S1024x1.size h) (fun r d => f (o + r) d) := by
  subst ho
  intro r d
  have hr : o + r.val < 4096 := Nat.lt_of_lt_of_le (Nat.add_lt_add_left r.isLt o) (h 0)
  refine Eq.trans (b := x (ix2 ⟨o + r.val, hr⟩ d)) (congrArg x ?_) (hx _ _)
  blk_ext

/-- Rows put over an array of 4096. -/
theorem put_is {n : ℕ} (x : (⟨2, ![4096, n]⟩ : Shape).Idx → EReal) (w : ((a : Fin 2) → Fin ((![1024, n] : Fin 2 → ℕ) a)) → EReal) (f g : ℕ → ℕ → ℝ)
    (off : Fin 2 → ℕ) (o : ℕ) (ho : off = ![o, 0])
    (hx : Is x f) (hw : Is (a := 1024) (b := n) w g) :
    Is (VecWindow.put (s := ⟨2, ![4096, n]⟩) x off ![1024, n] w) (fun r d => if o ≤ r ∧ r < o + 1024 then g (r - o) d else f r d) := by
  subst ho
  intro r d
  have key : (∀ a : Fin 2, (![o, 0] : Fin 2 → ℕ) a ≤ ((ix2 r d : (⟨2, ![4096, n]⟩ : Shape).Idx) a).val ∧ ((ix2 r d : (⟨2, ![4096, n]⟩ : Shape).Idx) a).val < (![o, 0] : Fin 2 → ℕ) a + (![1024, n] : Fin 2 → ℕ) a) ↔ o ≤ r.val ∧ r.val < o + 1024 := by
    refine ⟨fun h => h 0, fun h a => ?_⟩
    fin_cases a
    · exact h
    · exact ⟨Nat.zero_le _, by show d.val < 0 + n; have := d.isLt; omega⟩
  unfold VecWindow.put
  by_cases c : o ≤ r.val ∧ r.val < o + 1024
  · rw [dif_pos (key.mpr c)]
    refine Eq.trans (b := w (ix2 (⟨r.val - o, by omega⟩ : Fin 1024) d)) (congrArg w ?_) ((hw ⟨r.val - o, by omega⟩ d).trans (by show _ = (((if o ≤ r.val ∧ r.val < o + 1024 then g (r.val - o) d.val else f r.val d.val : ℝ)) : EReal); rw [if_pos c]))
    funext a
    apply Fin.ext
    fin_cases a
    · rfl
    · exact Nat.sub_zero _
  · rw [dif_neg (fun h => c (key.mp h))]
    refine (hx r d).trans ?_
    show _ = (((if o ≤ r.val ∧ r.val < o + 1024 then g (r.val - o) d.val else f r.val d.val : ℝ)) : EReal)
    rw [if_neg c]

/-- Scores' gradient times keys, added on. -/
theorem pay1_is (x : FVec Ideal S1024x128 .bf16) (y : FVec Ideal S1024x1024 .f32) (z : FVec Ideal S1024x128 .f32) (f g h : ℕ → ℕ → ℝ) (hx : Is x f) (hy : Is y g) (hz : Is z h) :
    Is (a := 1024) (b := 128) (k0_pay1 (F := Ideal) x y z) (fun r d => h r d + ∑ c ∈ range 1024, g r c * f c d) := by
  intro r d
  pointwise [k0_pay1]
  rw [hz r d, sum_mul _ _ (fun c => g r.val c) (fun c => f c d.val) (fun c => hy r c) (fun c => hx c d)]
  exact (EReal.coe_add _ _).symm

/-- Scores' gradient, transposed, times queries, added on. -/
theorem pay2_is (x : FVec Ideal S1024x128 .f32) (y : FVec Ideal S1024x128 .bf16) (z : FVec Ideal S1024x1024 .f32) (f g h : ℕ → ℕ → ℝ) (hx : Is x f) (hy : Is y g) (hz : Is z h) :
    Is (a := 1024) (b := 128) (k0_pay2 (F := Ideal) x y z) (fun c d => f c d + ∑ r ∈ range 1024, h r c * g r d) := by
  intro r d
  pointwise [k0_pay2]
  rw [hx r d, sum_mul _ _ (fun c => h c r.val) (fun c => g c d.val) (fun c => hz c r) (fun c => hy c d)]
  exact (EReal.coe_add _ _).symm

/-- Weights, transposed, times the output's gradient, added on. -/
theorem pay3_is (x : FVec Ideal S1024x128 .f32) (y : FVec Ideal S1024x128 .f32) (z : FVec Ideal S1024x1024 .f32) (f g h : ℕ → ℕ → ℝ) (hx : Is x f) (hy : Is y g) (hz : Is z h) :
    Is (a := 1024) (b := 128) (k0_pay3 (F := Ideal) x y z) (fun c d => f c d + ∑ r ∈ range 1024, h r c * g r d) := by
  intro r d
  pointwise [k0_pay3]
  rw [hx r d, sum_mul _ _ (fun c => h c r.val) (fun c => g c d.val) (fun c => hz c r) (fun c => hy c d)]
  exact (EReal.coe_add _ _).symm

/-- The weights of a block under the diagonal. -/
theorem pay5_is (x y : FVec Ideal S1024x128 .bf16) (z : FVec Ideal S1024x1 .f32) (f g h : ℕ → ℕ → ℝ) (hx : Is x f) (hy : Is y g) (hz : Is z h) :
    Is (a := 1024) (b := 1024) (k0_pay5 (F := Ideal) x y z) (fun r c => Real.exp (∑ d ∈ range 128, g r d * f c d - h r 0)) := by
  intro r d
  pointwise [k0_pay5, k0_pay4]
  rw [hz r 0, sum_mul _ _ (fun c => g r.val c) (fun c => f d.val c) (fun c => hy r c) (fun c => hx d c), ← EReal.coe_sub]
  exact exp_coe _

/-- The gradient of the scores of a block under the diagonal. -/
theorem pay6_is (x x2 y : FVec Ideal S1024x128 .bf16) (w : FVec Ideal S1024x128 .f32) (z δ : FVec Ideal S1024x1 .f32) (f f2 g gw h u : ℕ → ℕ → ℝ) (hx : Is x f) (hx2 : Is x2 f2) (hy : Is y g) (hw : Is w gw) (hz : Is z h) (hδ : Is δ u) :
    Is (a := 1024) (b := 1024) (k0_pay6 (F := Ideal) x x2 y w z δ) (fun r c => Real.exp (∑ d ∈ range 128, g r d * f c d - h r 0) * (∑ d ∈ range 128, gw r d * f2 c d - u r 0)) := by
  intro r d
  pointwise [k0_pay6]
  rw [pay5_is x y z f g h hx hy hz r d, hδ r 0, sum_mul _ _ (fun c => gw r.val c) (fun c => f2 d.val c) (fun c => hw r c) (fun c => hx2 d c), ← EReal.coe_sub]
  exact (EReal.coe_mul _ _).symm

/-- The gradient of the queries, a block under the diagonal added on. -/
theorem pay7_is (x x2 y : FVec Ideal S1024x128 .bf16) (w : FVec Ideal S1024x128 .f32) (z δ : FVec Ideal S1024x1 .f32) (b : FVec Ideal S1024x128 .f32) (f f2 g gw h u fb : ℕ → ℕ → ℝ) (hx : Is x f) (hx2 : Is x2 f2) (hy : Is y g) (hw : Is w gw) (hz : Is z h) (hδ : Is δ u) (hb : Is b fb) :
    Is (a := 1024) (b := 128) (k0_pay7 (F := Ideal) x x2 y w z δ b) (fun r d => fb r d + ∑ c ∈ range 1024, (Real.exp (∑ d ∈ range 128, g r d * f c d - h r 0) * (∑ d ∈ range 128, gw r d * f2 c d - u r 0)) * f c d) := by
  intro r d
  pointwise [k0_pay7]
  rw [hb r d, sum_mul _ _ (fun c => Real.exp (∑ d ∈ range 128, g r.val d * f c d - h r.val 0) * (∑ d ∈ range 128, gw r.val d * f2 c d - u r.val 0)) (fun c => f c d.val) (fun c => pay6_is x x2 y w z δ f f2 g gw h u hx hx2 hy hw hz hδ r c) (fun c => hx c d)]
  exact (EReal.coe_add _ _).symm

/-- The gradient of the keys, a block under the diagonal added on. -/
theorem pay8_is (x x2 : FVec Ideal S1024x128 .bf16) (b : FVec Ideal S1024x128 .f32) (y : FVec Ideal S1024x128 .bf16) (w : FVec Ideal S1024x128 .f32) (z δ : FVec Ideal S1024x1 .f32) (f f2 fb g gw h u : ℕ → ℕ → ℝ) (hx : Is x f) (hx2 : Is x2 f2) (hb : Is b fb) (hy : Is y g) (hw : Is w gw) (hz : Is z h) (hδ : Is δ u) :
    Is (a := 1024) (b := 128) (k0_pay8 (F := Ideal) x x2 b y w z δ) (fun c d => fb c d + ∑ r ∈ range 1024, (Real.exp (∑ d ∈ range 128, g r d * f c d - h r 0) * (∑ d ∈ range 128, gw r d * f2 c d - u r 0)) * g r d) := by
  intro r d
  pointwise [k0_pay8, k0_pay4]
  rw [hb r d, sum_mul _ _ (fun c => Real.exp (∑ d ∈ range 128, g c d * f r.val d - h c 0) * (∑ d ∈ range 128, gw c d * f2 r.val d - u c 0)) (fun c => g c d.val) (fun c => pay6_is x x2 y w z δ f f2 g gw h u hx hx2 hy hw hz hδ c r) (fun c => hy c d)]
  exact (EReal.coe_add _ _).symm

/-- The gradient of the values, a block under the diagonal added on. -/
theorem pay9_is (x : FVec Ideal S1024x128 .bf16) (b : FVec Ideal S1024x128 .f32) (y : FVec Ideal S1024x128 .bf16) (w : FVec Ideal S1024x128 .f32) (z : FVec Ideal S1024x1 .f32) (f fb g gw h : ℕ → ℕ → ℝ) (hx : Is x f) (hb : Is b fb) (hy : Is y g) (hw : Is w gw) (hz : Is z h) :
    Is (a := 1024) (b := 128) (k0_pay9 (F := Ideal) x b y w z) (fun c d => fb c d + ∑ r ∈ range 1024, Real.exp (∑ d ∈ range 128, g r d * f c d - h r 0) * gw r d) := by
  intro r d
  pointwise [k0_pay9]
  rw [hb r d, sum_mul _ _ (fun c => Real.exp (∑ d ∈ range 128, g c d * f r.val d - h c 0)) (fun c => gw c d.val) (fun c => pay5_is x y z f g h hx hy hz c r) (fun c => hw c d)]
  exact (EReal.coe_add _ _).symm

/-- Row sums of a product. -/
theorem pay16_is (x y : FVec Ideal S1024x128 .f32) (f g : ℕ → ℕ → ℝ) (hx : Is x f) (hy : Is y g) :
    Is (a := 1024) (b := 1) (k0_pay16 (F := Ideal) x y) (fun r _ => ∑ d ∈ range 128, f r d * g r d) := by
  intro r d
  pointwise [k0_pay16]
  rw [sum_mul _ _ (fun c => f r.val c) (fun c => g r.val c) (fun c => hx r c) (fun c => hy r c)]

/-- Row sums of a product. -/
theorem pay18_is (x y : FVec Ideal S1024x128 .f32) (f g : ℕ → ℕ → ℝ) (hx : Is x f) (hy : Is y g) :
    Is (a := 1024) (b := 1) (k0_pay18 (F := Ideal) x y) (fun r _ => ∑ d ∈ range 128, f r d * g r d) := by
  intro r d
  pointwise [k0_pay18]
  rw [sum_mul _ _ (fun c => f r.val c) (fun c => g r.val c) (fun c => hx r c) (fun c => hy r c)]

/-- Row sums of a product. -/
theorem pay20_is (x y : FVec Ideal S1024x128 .f32) (f g : ℕ → ℕ → ℝ) (hx : Is x f) (hy : Is y g) :
    Is (a := 1024) (b := 1) (k0_pay21 (F := Ideal) (k0_pay20 x y)) (fun r _ => ∑ d ∈ range 128, f r d * g r d) := by
  intro r d
  pointwise [k0_pay21, k0_pay20]
  rw [sum_mul _ _ (fun c => f r.val c) (fun c => g r.val c) (fun c => hx r c) (fun c => hy r c)]

/-- Row sums of a product. -/
theorem pay23_is (x y : FVec Ideal S1024x128 .f32) (f g : ℕ → ℕ → ℝ) (hx : Is x f) (hy : Is y g) :
    Is (a := 1024) (b := 1) (k0_pay23 (F := Ideal) x y) (fun r _ => ∑ d ∈ range 128, f r d * g r d) := by
  intro r d
  pointwise [k0_pay23]
  rw [sum_mul _ _ (fun c => f r.val c) (fun c => g r.val c) (fun c => hx r c) (fun c => hy r c)]

/-- A block of zeros. -/
theorem pay17_is  :
    Is (a := 1024) (b := 128) (k0_pay17 (F := Ideal)) (fun _ _ => 0) := by
  intro r d
  pointwise [k0_pay17]
  simp

/-- A block of zeros. -/
theorem pay19_is  :
    Is (a := 1024) (b := 128) (k0_pay19 (F := Ideal)) (fun _ _ => 0) := by
  intro r d
  pointwise [k0_pay19]
  simp

/-- A block of zeros. -/
theorem pay22_is  :
    Is (a := 1024) (b := 128) (k0_pay22 (F := Ideal)) (fun _ _ => 0) := by
  intro r d
  pointwise [k0_pay22]
  simp

/-- A block of zeros. -/
theorem pay24_is  :
    Is (a := 1024) (b := 128) (k0_pay24 (F := Ideal)) (fun _ _ => 0) := by
  intro r d
  pointwise [k0_pay24]
  simp

/-- A block of zeros. -/
theorem pay27_is  :
    Is (a := 1024) (b := 128) (k0_pay27 (F := Ideal)) (fun _ _ => 0) := by
  intro r d
  pointwise [k0_pay27]
  simp

/-- A block as it is. -/
theorem pay25_is (x : FVec Ideal S1024x128 .bf16) (f : ℕ → ℕ → ℝ) (hx : Is x f) :
    Is (a := 1024) (b := 128) (k0_pay25 (F := Ideal) x) f := by
  intro r d
  pointwise [k0_pay25]
  exact hx r d

/-- A block as it is. -/
theorem pay26_is (x : FVec Ideal S1024x128 .bf16) (f : ℕ → ℕ → ℝ) (hx : Is x f) :
    Is (a := 1024) (b := 128) (k0_pay26 (F := Ideal) x) f := by
  intro r d
  pointwise [k0_pay26]
  exact hx r d

/-- A block as it is. -/
theorem pay28_is (x : FVec Ideal S1024x128 .bf16) (f : ℕ → ℕ → ℝ) (hx : Is x f) :
    Is (a := 1024) (b := 128) (k0_pay28 (F := Ideal) x) f := by
  intro r d
  pointwise [k0_pay28]
  exact hx r d

/-- A block as it is. -/
theorem pay31_is (x : FVec Ideal S1024x128 .f32) (f : ℕ → ℕ → ℝ) (hx : Is x f) :
    Is (a := 1024) (b := 128) (k0_pay31 (F := Ideal) x) f := by
  intro r d
  pointwise [k0_pay31]
  exact hx r d

/-- The weights of the block on the diagonal, masked. -/
theorem pay29_is (x y : FVec Ideal S1024x128 .bf16) (z : FVec Ideal S1024x1 .f32) (f g h : ℕ → ℕ → ℝ) (hx : Is x f) (hy : Is y g) (hz : Is z h) :
    Is (a := 1024) (b := 1024) (k0_pay29 (F := Ideal) x y z) (fun r c => if c ≤ r then Real.exp (∑ d ∈ range 128, g r d * f c d - h r 0) else 0) := by
  intro r d
  pointwise [k0_pay29, k0_pay28, k0_pay25]
  rw [hz r 0, sum_mul _ _ (fun c => g r.val c) (fun c => f d.val c) (fun c => hy r c) (fun c => hx d c), ← EReal.coe_sub, exp_coe, mask _ _ (by omega) (by omega)]
  split <;> rfl

/-- The gradient of the scores of the block on the diagonal. -/
theorem pay30_is (x x2 y : FVec Ideal S1024x128 .bf16) (w : FVec Ideal S1024x128 .f32) (z δ : FVec Ideal S1024x1 .f32) (f f2 g gw h u : ℕ → ℕ → ℝ) (hx : Is x f) (hx2 : Is x2 f2) (hy : Is y g) (hw : Is w gw) (hz : Is z h) (hδ : Is δ u) :
    Is (a := 1024) (b := 1024) (k0_pay30 (F := Ideal) x x2 y w z δ) (fun r c => (if c ≤ r then Real.exp (∑ d ∈ range 128, g r d * f c d - h r 0) else 0) * (∑ d ∈ range 128, gw r d * f2 c d - u r 0)) := by
  intro r d
  pointwise [k0_pay30, k0_pay26]
  rw [pay29_is x y z f g h hx hy hz r d, hδ r 0, sum_mul _ _ (fun c => gw r.val c) (fun c => f2 d.val c) (fun c => hw r c) (fun c => hx2 d c), ← EReal.coe_sub]
  exact (EReal.coe_mul _ _).symm

/-- The first load of queries in a grid step starts at the step's own block of 1024 rows. -/
theorem off1_eq : ∀ i : grid0.Coords, k0_off1 i = ![1024 * (i 2).val, 0] := by decide +kernel
/-- The first load of the outputs' gradient starts at the step's own block. -/
theorem off2_eq : ∀ i : grid0.Coords, k0_off2 i = ![1024 * (i 2).val, 0] := by decide +kernel
/-- The first update of the query gradient starts at the step's own block. -/
theorem off3_eq : ∀ i : grid0.Coords, k0_off3 i = ![1024 * (i 2).val, 0] := by decide +kernel
/-- The loop of a grid step visits the blocks of queries after its own. -/
theorem trips_eq : ∀ i : grid0.Coords, (k0_t1_loop i).trips = 3 - (i 2).val := by decide +kernel
/-- Loop turn `k` loads the queries of block `j + 1 + k`. -/
theorem off4_eq : ∀ (i : grid0.Coords) (k : Fin (k0_t1_loop i).trips), k0_off4 i k = ![1024 * ((i 2).val + 1 + k.val), 0] := by decide +kernel
/-- Loop turn `k` loads the outputs' gradient of block `j + 1 + k`. -/
theorem off5_eq : ∀ (i : grid0.Coords) (k : Fin (k0_t1_loop i).trips), k0_off5 i k = ![1024 * ((i 2).val + 1 + k.val), 0] := by decide +kernel
/-- Loop turn `k` updates the query gradient of block `j + 1 + k`. -/
theorem off6_eq : ∀ (i : grid0.Coords) (k : Fin (k0_t1_loop i).trips), k0_off6 i k = ![1024 * ((i 2).val + 1 + k.val), 0] := by decide +kernel

end Cert.KernelIdeal.Value

end
-- ==== Proof.Heads.lean ====
module

public import proofs.«01_k».proof.Proof.Block
public import Idealize.ShloMosaic.Lib.IdealHost

@[expose] public section

noncomputable section

/-! # The sixteen heads of the arguments

Sequence `b` and head `h` of the arguments' arrays, in the reals, and what both programs take off a row's scores: the largest of them up to the diagonal. -/

namespace Cert.Attn

open Idealize.ShloMosaic Idealize.ShloMosaic.TcCoe
open Finset

/-- The scale of the scores, the f32 nearest to it. -/
def scale : ℝ := 13698540 / 134217728

/-- The literal of the query scale is the real number `scale`. -/
theorem scale_eq : Ideal.ofBits .f32 0x3DD105EC#32 = ((scale : ℝ) : EReal) := by
  unfold scale
  simp [Ideal.ofBits, Ideal.ieee, -EReal.coe_mul]; norm_num

/-- The literal that stands for masked scores is minus infinity. -/
theorem bot_eq : Ideal.ofBits .f32 0xFF800000#32 = ⊥ := by
  simp [Ideal.ofBits, Ideal.ieee]

/-- The literal of the precondition's bound is plus infinity. -/
theorem top_eq : Ideal.ofBits .f32 0x7F800000#32 = ⊤ := by
  simp [Ideal.ofBits, Ideal.ieee]

/-- Row `r`'s scores up to the diagonal, `-∞` past it. -/
def masked (s : ℕ → ℕ → ℝ) (r : ℕ) (c : Fin 4096) : EReal := if c.val ≤ r then ((s r c.val : ℝ) : EReal) else ⊥

/-- The largest of row `r`'s scores up to the diagonal. -/
def rowMax (s : ℕ → ℕ → ℝ) (r : ℕ) : ℝ := (univ.fold max ⊥ (masked s r)).toReal

/-- The fold over a row, the diagonal always among what is folded, is a real number. -/
theorem fold_masked (s : ℕ → ℕ → ℝ) (r : ℕ) (hr : r < 4096) : univ.fold max ⊥ (masked s r) = ((rowMax s r : ℝ) : EReal) := by
  have ht : univ.fold max ⊥ (masked s r) < ⊤ := by
    rw [Finset.fold_max_lt]
    refine ⟨bot_lt_top, fun c _ => ?_⟩
    unfold masked; split
    · exact EReal.coe_lt_top _
    · exact bot_lt_top
  have hb : ⊥ < univ.fold max ⊥ (masked s r) := by
    rw [Finset.lt_fold_max]
    refine Or.inr ⟨⟨r, hr⟩, mem_univ _, ?_⟩
    unfold masked; rw [if_pos (le_refl r)]; exact EReal.bot_lt_coe _
  exact (EReal.coe_toReal ht.ne hb.ne').symm

/-- Sequence `b`'s head `h` of arrays that hold `A0`, `A1`, `A2` (queries, keys, values) and `A3` (the gradient, whose columns from 1536 on are the attention's). -/
def headOf (A0 A1 A2 A3 : ℕ → ℕ → ℝ) (b h : ℕ) : Head where
  q r d := A0 (b * 4096 + r) (h * 128 + d) * scale
  k c d := A1 (b * 4096 + c) (h * 128 + d)
  v c d := A2 (b * 4096 + c) (h * 128 + d)
  g r d := A3 (b * 4096 + r) (1536 + (h * 128 + d))
  μ := rowMax fun r c => ∑ d ∈ range 128, A0 (b * 4096 + r) (h * 128 + d) * scale * A1 (b * 4096 + c) (h * 128 + d)

/-- What is taken off a row's scores is the largest of them. -/
theorem headOf_max (A0 A1 A2 A3 : ℕ → ℕ → ℝ) (b h r : ℕ) :
    (headOf A0 A1 A2 A3 b h).μ r = rowMax (headOf A0 A1 A2 A3 b h).s r := rfl

/-- The four arguments hold real numbers. -/
structure Args (x0 x1 x2 : (⟨2, ![8192, 1024]⟩ : Shape).Idx → EReal) (x3 : (⟨2, ![8192, 2560]⟩ : Shape).Idx → EReal)
    (A0 A1 A2 A3 : ℕ → ℕ → ℝ) : Prop where
  x0 : Cert.KernelIdeal.Value.Is (a := 8192) (b := 1024) x0 A0
  x1 : Cert.KernelIdeal.Value.Is (a := 8192) (b := 1024) x1 A1
  x2 : Cert.KernelIdeal.Value.Is (a := 8192) (b := 1024) x2 A2
  x3 : Cert.KernelIdeal.Value.Is (a := 8192) (b := 2560) x3 A3

/-- Selecting by `a ≤ b`, compared as 32-bit words. -/
theorem mask (a b : ℕ) (ha : a < 4096) (hb : b < 4096) (x y : EReal) :
    Scalar.select (IntOp.cmpi .sle (BitVec.ofNat 32 a) (BitVec.ofNat 32 b)) x y = if a ≤ b then x else y := by
  rw [← Cert.KernelIdeal.Value.mask a b ha hb x y]
  rw [show IntOp.addi (BitVec.ofNat 32 b) 0#32 = BitVec.ofNat 32 b from BitVec.add_zero _]

/-- The quotient of two reals, the divisor not zero. -/
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- The logarithm of a positive real. -/
theorem log_coe (a : ℝ) (h : 0 < a) : Ideal.log (a : EReal) = ((Real.log a : ℝ) : EReal) := by
  show (if a ≤ 0 then ⊥ else ((Real.log a : ℝ) : EReal)) = _
  rw [if_neg h.not_ge]

/-- The exponential of a masked score less the row's maximum. -/
theorem exp_masked (H : Head) (r c : ℕ) :
    Ideal.exp ((if c ≤ r then ((H.s r c : ℝ) : EReal) else ⊥) - ((H.μ r : ℝ) : EReal)) = ((H.e r c : ℝ) : EReal) := by
  unfold Head.e
  split
  · rw [← EReal.coe_sub]; rfl
  · rw [EReal.bot_sub]; rfl

end Cert.Attn

end
-- ==== Proof.Point.lean ====
module

public import proofs.«01_k».proof.Proof.Spec
public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop's state, read -/

/-- What one trip of the loop yields. -/
theorem tripR_eq (c : Dev nD) (i : grid0.Coords) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x1 .f32) (harg12 : arg12.IsWhole) (v4 v6 : FVec F S1024x128 .bf16)
    (f0 : BufTy.Contents (Elt F) arg3.view.ty) (f4 : BufTy.Contents (Elt F) arg7.view.ty) (f5 : BufTy.Contents (Elt F) arg8.view.ty) (g : BufTy.Contents (Elt F) arg12.view.ty) (k : Fin (k0_t1_loop i).trips)
    (acc : FVec F S1024x128 .f32 × FVec F S1024x128 .f32) (f : BufTy.Contents (Elt F) arg9.view.ty) :
    tripR_k0_t1 Variants.none c none i arg3 harg3 arg4 harg4 arg5 harg5 arg6 harg6 arg7 harg7 arg8 harg8 arg9 harg9 arg10 harg10 arg11 harg11 arg12 harg12 v4 v6 f0 f4 f5 g k acc f
      = (k0_pay8 v4 v6 acc.1 (arg3.view.readAt (Elt F) (Rect.unit (s := S4096x128) (k0_off4 i k) S1024x128.size (k0_off4_inb i k)).toLoadRect f0) (arg8.view.readAt (Elt F) (Rect.unit (s := S4096x128) (k0_off4 i k) S1024x128.size (k0_off4_inb i k)).toLoadRect f5) (arg7.view.readAt (Elt F) (Rect.unit (s := S4096x128) (k0_off5 i k) S1024x1.size (k0_off5_inb i k)).toLoadRect f4) (arg12.view.readAt (Elt F) (Rect.unit (s := S4096x1) (k0_off6 i k) S1024x1.size (k0_off6_inb i k)).toLoadRect g), k0_pay9 v4 acc.2 (arg3.view.readAt (Elt F) (Rect.unit (s := S4096x128) (k0_off4 i k) S1024x128.size (k0_off4_inb i k)).toLoadRect f0) (arg8.view.readAt (Elt F) (Rect.unit (s := S4096x128) (k0_off4 i k) S1024x128.size (k0_off4_inb i k)).toLoadRect f5) (arg7.view.readAt (Elt F) (Rect.unit (s := S4096x128) (k0_off5 i k) S1024x1.size (k0_off5_inb i k)).toLoadRect f4)) := by
  unfold tripR_k0_t1 trip_k0_t1
  rfl

/-- What one trip of the loop stores. -/
theorem tripL_eq (c : Dev nD) (i : grid0.Coords) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x1 .f32) (harg12 : arg12.IsWhole) (v4 v6 : FVec F S1024x128 .bf16)
    (f0 : BufTy.Contents (Elt F) arg3.view.ty) (f4 : BufTy.Contents (Elt F) arg7.view.ty) (f5 : BufTy.Contents (Elt F) arg8.view.ty) (g : BufTy.Contents (Elt F) arg12.view.ty) (k : Fin (k0_t1_loop i).trips)
    (acc : FVec F S1024x128 .f32 × FVec F S1024x128 .f32) (f : BufTy.Contents (Elt F) arg9.view.ty) :
    tripL_k0_t1 Variants.none c none i arg3 harg3 arg4 harg4 arg5 harg5 arg6 harg6 arg7 harg7 arg8 harg8 arg9 harg9 arg10 harg10 arg11 harg11 arg12 harg12 v4 v6 f0 f4 f5 g k acc f
      = [⟨Rect.unit (s := S4096x128) (k0_off4 i k) S1024x128.size (k0_off4_inb i k), k0_pay7 v4 v6 (arg3.view.readAt (Elt F) (Rect.unit (s := S4096x128) (k0_off4 i k) S1024x128.size (k0_off4_inb i k)).toLoadRect f0) (arg8.view.readAt (Elt F) (Rect.unit (s := S4096x128) (k0_off4 i k) S1024x128.size (k0_off4_inb i k)).toLoadRect f5) (arg7.view.readAt (Elt F) (Rect.unit (s := S4096x128) (k0_off5 i k) S1024x1.size (k0_off5_inb i k)).toLoadRect f4) (arg12.view.readAt (Elt F) (Rect.unit (s := S4096x1) (k0_off6 i k) S1024x1.size (k0_off6_inb i k)).toLoadRect g) (arg9.view.readAt (Elt F) (Rect.unit (s := S4096x128) (k0_off4 i k) S1024x128.size (k0_off4_inb i k)).toLoadRect f)⟩] := by
  unfold tripL_k0_t1 trip_k0_t1
  rfl

/-- Before trip `k` the loop carries the dk, dv of `upto`, and the stores made so far leave the dq of `upto`. -/
theorem st_read (c : Dev nD) (i : grid0.Coords) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x1 .f32) (harg12 : arg12.IsWhole) (v4 v6 : FVec F S1024x128 .bf16)
    (f0 : BufTy.Contents (Elt F) arg3.view.ty) (f4 : BufTy.Contents (Elt F) arg7.view.ty) (f5 : BufTy.Contents (Elt F) arg8.view.ty) (g : BufTy.Contents (Elt F) arg12.view.ty) (G : BufTy.Contents (Elt F) arg9.view.ty)
    (init : FVec F S1024x128 .f32 × FVec F S1024x128 .f32) : ∀ k : ℕ, k ≤ (k0_t1_loop i).trips →
    ((st_k0_t1 Variants.none c none i arg3 harg3 arg4 harg4 arg5 harg5 arg6 harg6 arg7 harg7 arg8 harg8 arg9 harg9 arg10 harg10 arg11 harg11 arg12 harg12 v4 v6 f0 f4 f5 g G init k).1, arg9.view.read (Elt F) (arg9.view.writes (Elt F) G (st_k0_t1 Variants.none c none i arg3 harg3 arg4 harg4 arg5 harg5 arg6 harg6 arg7 harg7 arg8 harg8 arg9 harg9 arg10 harg10 arg11 harg11 arg12 harg12 v4 v6 f0 f4 f5 g G init k).2))
      = upto i (arg3.view.read (Elt F) f0) v4 v6 (arg7.view.read (Elt F) f4) (arg8.view.read (Elt F) f5) (arg12.view.read (Elt F) g) (init, arg9.view.read (Elt F) G) k
  | 0, _ => rfl
  | k + 1, hk => by
    have ih := st_read c i arg3 harg3 arg4 harg4 arg5 harg5 arg6 harg6 arg7 harg7 arg8 harg8 arg9 harg9 arg10 harg10 arg11 harg11 arg12 harg12 v4 v6 f0 f4 f5 g G init k (by omega)
    have e := st_k0_t1_succ (F := F) Variants.none c none i arg3 harg3 arg4 harg4 arg5 harg5 arg6 harg6 arg7 harg7 arg8 harg8 arg9 harg9 arg10 harg10 arg11 harg11 arg12 harg12 v4 v6 f0 f4 f5 g G init ⟨k, by omega⟩
    dsimp only at e
    rw [e]
    unfold upto
    rw [dif_pos (by omega), ← ih]
    rw [tripR_eq, tripL_eq, View.writes_append, View.read_writes_cons_put arg9.view _ _ _ _ rfl]
    rfl

/-! ## The body -/

/-- The point is the first of its run: its last grid coordinate is zero. -/
abbrev first (i : grid0.Coords) : Prop := (Scalar.cmpi .ne (Scalar.extui (Scalar.cmpi .eq (BitVec.ofNat 32 (i 2).val) 0#32)) 0#32) = 1#1

/-- The remainder loop of the blocks under the diagonal makes no trip. -/
theorem trips2 (i : grid0.Coords) : (k0_t2_loop i).trips = 0 := by
  have h : (i 2).val < 4 := (i 2).isLt
  unfold k0_t2_loop
  generalize (i 2).val = j at h
  obtain rfl | rfl | rfl | rfl : j = 0 ∨ j = 1 ∨ j = 2 ∨ j = 3 := by omega
  all_goals decide

/-- After both loops the block of dq reads as `final` says, `L` the stores before them. -/
theorem out_dq (c : Dev nD) (i : grid0.Coords) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x1 .f32) (harg12 : arg12.IsWhole) (v4 v6 : FVec F S1024x128 .bf16)
    (f0 : BufTy.Contents (Elt F) arg3.view.ty) (f4 : BufTy.Contents (Elt F) arg7.view.ty) (f5 : BufTy.Contents (Elt F) arg8.view.ty) (g : BufTy.Contents (Elt F) arg12.view.ty) (f : BufTy.Contents (Elt F) arg9.view.ty)
    (L : List (View.Piece (Elt F) S4096x128 .f32)) (init : FVec F S1024x128 .f32 × FVec F S1024x128 .f32) (n n2 : ℕ) (hn : n = (k0_t1_loop i).trips) (hn2 : n2 = (k0_t2_loop i).trips)
    (x1 x2 : Vec F S1024x128 .bf16) (h4 : v4 = k0_pay25 (whole x1)) (h6 : v6 = k0_pay26 (whole x2)) (dq : Vec F S4096x128 .f32) (δ : Vec F S4096x1 .f32) (hδ : arg12.view.read (Elt F) g = δ)
    (hs : (init, arg9.view.read (Elt F) (arg9.view.writes (Elt F) f L)) = start i (arg3.view.read (Elt F) f0) x1 x2 (arg7.view.read (Elt F) f4) (arg8.view.read (Elt F) f5) δ dq) :
    arg9.view.read (Elt F) (arg9.view.writes (Elt F) f ((st_k0_t2 Variants.none c none i arg3 harg3 arg4 harg4 arg5 harg5 arg6 harg6 arg7 harg7 arg8 harg8 arg9 harg9 arg10 harg10 arg11 harg11 arg12 harg12 v4 v6 f0 f4 f5 g (arg9.view.writes (Elt F) f ((st_k0_t1 Variants.none c none i arg3 harg3 arg4 harg4 arg5 harg5 arg6 harg6 arg7 harg7 arg8 harg8 arg9 harg9 arg10 harg10 arg11 harg11 arg12 harg12 v4 v6 f0 f4 f5 g (arg9.view.writes (Elt F) f L) init n).2 ++ L)) ((st_k0_t1 Variants.none c none i arg3 harg3 arg4 harg4 arg5 harg5 arg6 harg6 arg7 harg7 arg8 harg8 arg9 harg9 arg10 harg10 arg11 harg11 arg12 harg12 v4 v6 f0 f4 f5 g (arg9.view.writes (Elt F) f L) init n).1.1, (st_k0_t1 Variants.none c none i arg3 harg3 arg4 harg4 arg5 harg5 arg6 harg6 arg7 harg7 arg8 harg8 arg9 harg9 arg10 harg10 arg11 harg11 arg12 harg12 v4 v6 f0 f4 f5 g (arg9.view.writes (Elt F) f L) init n).1.2) n2).2 ++ ((st_k0_t1 Variants.none c none i arg3 harg3 arg4 harg4 arg5 harg5 arg6 harg6 arg7 harg7 arg8 harg8 arg9 harg9 arg10 harg10 arg11 harg11 arg12 harg12 v4 v6 f0 f4 f5 g (arg9.view.writes (Elt F) f L) init n).2 ++ L))) = (final i (arg3.view.read (Elt F) f0) x1 x2 (arg7.view.read (Elt F) f4) (arg8.view.read (Elt F) f5) δ dq).2 := by
  subst hn hn2 h4 h6 hδ
  unfold final
  rw [← hs, trips2, ← st_read c i arg3 harg3 arg4 harg4 arg5 harg5 arg6 harg6 arg7 harg7 arg8 harg8 arg9 harg9 arg10 harg10 arg11 harg11 arg12 harg12 _ _ f0 f4 f5 g (arg9.view.writes (Elt F) f L) init _ le_rfl, ← View.writes_append arg9.view f]
  rfl

/-- After both loops the carried blocks of dk and dv are those of `final`. -/
theorem out_carried (c : Dev nD) (i : grid0.Coords) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x1 .f32) (harg12 : arg12.IsWhole) (v4 v6 : FVec F S1024x128 .bf16)
    (f0 : BufTy.Contents (Elt F) arg3.view.ty) (f4 : BufTy.Contents (Elt F) arg7.view.ty) (f5 : BufTy.Contents (Elt F) arg8.view.ty) (g : BufTy.Contents (Elt F) arg12.view.ty) (f : BufTy.Contents (Elt F) arg9.view.ty)
    (L : List (View.Piece (Elt F) S4096x128 .f32)) (init : FVec F S1024x128 .f32 × FVec F S1024x128 .f32) (n n2 : ℕ) (hn : n = (k0_t1_loop i).trips) (hn2 : n2 = (k0_t2_loop i).trips)
    (x1 x2 : Vec F S1024x128 .bf16) (h4 : v4 = k0_pay25 (whole x1)) (h6 : v6 = k0_pay26 (whole x2)) (dq : Vec F S4096x128 .f32) (δ : Vec F S4096x1 .f32) (hδ : arg12.view.read (Elt F) g = δ)
    (hs : (init, arg9.view.read (Elt F) (arg9.view.writes (Elt F) f L)) = start i (arg3.view.read (Elt F) f0) x1 x2 (arg7.view.read (Elt F) f4) (arg8.view.read (Elt F) f5) δ dq) :
    (st_k0_t2 Variants.none c none i arg3 harg3 arg4 harg4 arg5 harg5 arg6 harg6 arg7 harg7 arg8 harg8 arg9 harg9 arg10 harg10 arg11 harg11 arg12 harg12 v4 v6 f0 f4 f5 g (arg9.view.writes (Elt F) f ((st_k0_t1 Variants.none c none i arg3 harg3 arg4 harg4 arg5 harg5 arg6 harg6 arg7 harg7 arg8 harg8 arg9 harg9 arg10 harg10 arg11 harg11 arg12 harg12 v4 v6 f0 f4 f5 g (arg9.view.writes (Elt F) f L) init n).2 ++ L)) ((st_k0_t1 Variants.none c none i arg3 harg3 arg4 harg4 arg5 harg5 arg6 harg6 arg7 harg7 arg8 harg8 arg9 harg9 arg10 harg10 arg11 harg11 arg12 harg12 v4 v6 f0 f4 f5 g (arg9.view.writes (Elt F) f L) init n).1.1, (st_k0_t1 Variants.none c none i arg3 harg3 arg4 harg4 arg5 harg5 arg6 harg6 arg7 harg7 arg8 harg8 arg9 harg9 arg10 harg10 arg11 harg11 arg12 harg12 v4 v6 f0 f4 f5 g (arg9.view.writes (Elt F) f L) init n).1.2) n2).1 = (final i (arg3.view.read (Elt F) f0) x1 x2 (arg7.view.read (Elt F) f4) (arg8.view.read (Elt F) f5) δ dq).1 := by
  subst hn hn2 h4 h6 hδ
  unfold final
  rw [← hs, trips2, ← st_read c i arg3 harg3 arg4 harg4 arg5 harg5 arg6 harg6 arg7 harg7 arg8 harg8 arg9 harg9 arg10 harg10 arg11 harg11 arg12 harg12 _ _ f0 f4 f5 g (arg9.view.writes (Elt F) f L) init _ le_rfl]
  rfl

/-- dk, dv and dq after the diagonal block, as the body's loads and its store make them. -/
theorem start_read (i : grid0.Coords) (arg3 : Memref sig .tc .vmem S4096x128 .bf16) (arg4 : Memref sig .tc .vmem S1024x128 .bf16) (arg5 : Memref sig .tc .vmem S1024x128 .bf16) (arg7 : Memref sig .tc .vmem S4096x128 .f32) (arg8 : Memref sig .tc .vmem S4096x128 .f32) (arg9 : Memref sig .tc .vmem S4096x128 .f32) (arg12 : Memref sig .tc .vmem S4096x1 .f32)
    (f0 : BufTy.Contents (Elt F) arg3.view.ty) (f1 : BufTy.Contents (Elt F) arg4.view.ty) (f2 : BufTy.Contents (Elt F) arg5.view.ty) (f4 : BufTy.Contents (Elt F) arg7.view.ty) (f5 : BufTy.Contents (Elt F) arg8.view.ty) (g : BufTy.Contents (Elt F) arg12.view.ty) (f : BufTy.Contents (Elt F) arg9.view.ty)
    (L : List (View.Piece (Elt F) S4096x128 .f32)) :
    (((k0_pay2 k0_pay27 (k0_pay28 (arg3.view.readAt (Elt F) (Rect.unit (s := S4096x128) (k0_off1 i) S1024x128.size (k0_off1_inb i)).toLoadRect f0)) (k0_pay30 (arg4.view.readAt (Elt F) (Rect.unit (s := S1024x128) ![0, 0] S1024x128.size inb_S1024x128_S1024x128_0_0).toLoadRect f1) (arg5.view.readAt (Elt F) (Rect.unit (s := S1024x128) ![0, 0] S1024x128.size inb_S1024x128_S1024x128_0_0).toLoadRect f2) (arg3.view.readAt (Elt F) (Rect.unit (s := S4096x128) (k0_off1 i) S1024x128.size (k0_off1_inb i)).toLoadRect f0) (arg8.view.readAt (Elt F) (Rect.unit (s := S4096x128) (k0_off1 i) S1024x128.size (k0_off1_inb i)).toLoadRect f5) (arg7.view.readAt (Elt F) (Rect.unit (s := S4096x128) (k0_off2 i) S1024x1.size (k0_off2_inb i)).toLoadRect f4) (arg12.view.readAt (Elt F) (Rect.unit (s := S4096x1) (k0_off3 i) S1024x1.size (k0_off3_inb i)).toLoadRect g)), k0_pay3 k0_pay27 (arg8.view.readAt (Elt F) (Rect.unit (s := S4096x128) (k0_off1 i) S1024x128.size (k0_off1_inb i)).toLoadRect f5) (k0_pay29 (arg4.view.readAt (Elt F) (Rect.unit (s := S1024x128) ![0, 0] S1024x128.size inb_S1024x128_S1024x128_0_0).toLoadRect f1) (arg3.view.readAt (Elt F) (Rect.unit (s := S4096x128) (k0_off1 i) S1024x128.size (k0_off1_inb i)).toLoadRect f0) (arg7.view.readAt (Elt F) (Rect.unit (s := S4096x128) (k0_off2 i) S1024x1.size (k0_off2_inb i)).toLoadRect f4))),
      arg9.view.read (Elt F) (arg9.view.writes (Elt F) f (⟨Rect.unit (s := S4096x128) (k0_off1 i) S1024x128.size (k0_off1_inb i), k0_pay1 (k0_pay25 (arg4.view.readAt (Elt F) (Rect.unit (s := S1024x128) ![0, 0] S1024x128.size inb_S1024x128_S1024x128_0_0).toLoadRect f1)) (k0_pay30 (arg4.view.readAt (Elt F) (Rect.unit (s := S1024x128) ![0, 0] S1024x128.size inb_S1024x128_S1024x128_0_0).toLoadRect f1) (arg5.view.readAt (Elt F) (Rect.unit (s := S1024x128) ![0, 0] S1024x128.size inb_S1024x128_S1024x128_0_0).toLoadRect f2) (arg3.view.readAt (Elt F) (Rect.unit (s := S4096x128) (k0_off1 i) S1024x128.size (k0_off1_inb i)).toLoadRect f0) (arg8.view.readAt (Elt F) (Rect.unit (s := S4096x128) (k0_off1 i) S1024x128.size (k0_off1_inb i)).toLoadRect f5) (arg7.view.readAt (Elt F) (Rect.unit (s := S4096x128) (k0_off2 i) S1024x1.size (k0_off2_inb i)).toLoadRect f4) (arg12.view.readAt (Elt F) (Rect.unit (s := S4096x1) (k0_off3 i) S1024x1.size (k0_off3_inb i)).toLoadRect g)) (k0_pay31 (arg9.view.readAt (Elt F) (Rect.unit (s := S4096x128) (k0_off1 i) S1024x128.size (k0_off1_inb i)).toLoadRect (arg9.view.writes (Elt F) f L)))⟩ :: L))) :
      (FVec F S1024x128 .f32 × FVec F S1024x128 .f32) × Vec F S4096x128 .f32)
      = start i (arg3.view.read (Elt F) f0) (arg4.view.read (Elt F) f1) (arg5.view.read (Elt F) f2) (arg7.view.read (Elt F) f4) (arg8.view.read (Elt F) f5) (arg12.view.read (Elt F) g) (arg9.view.read (Elt F) (arg9.view.writes (Elt F) f L)) := by
  rw [View.read_writes_cons_put arg9.view _ _ _ _ rfl]
  rfl

/-- The four stores of zeros the first point of a run makes leave `zeros`. -/
theorem zeros_read (arg9 : Memref sig .tc .vmem S4096x128 .f32) (f : BufTy.Contents (Elt F) arg9.view.ty) :
    arg9.view.read (Elt F) (arg9.view.writes (Elt F) f [⟨Rect.unit (s := S4096x128) ![3072, 0] S1024x128.size inb_S4096x128_S1024x128_3072_0, k0_pay24⟩, ⟨Rect.unit (s := S4096x128) ![2048, 0] S1024x128.size inb_S4096x128_S1024x128_2048_0, k0_pay22⟩, ⟨Rect.unit (s := S4096x128) ![1024, 0] S1024x128.size inb_S4096x128_S1024x128_1024_0, k0_pay19⟩, ⟨Rect.unit (s := S4096x128) ![0, 0] S1024x128.size inb_S4096x128_S1024x128_0_0, k0_pay17⟩]) = zeros (F := F) := by
  rw [← zeroOver_eq (arg9.view.read (Elt F) f)]
  unfold zeroOver
  rw [View.read_writes_cons_put arg9.view _ _ _ _ rfl, View.read_writes_cons_put arg9.view _ _ _ _ rfl, View.read_writes_cons_put arg9.view _ _ _ _ rfl, View.read_writes_cons_put arg9.view _ _ _ _ rfl]
  rfl

/-- The four stores of row sums it makes leave `delta`. -/
theorem delta_read (arg6 arg8 : Memref sig .tc .vmem S4096x128 .f32) (arg12 : Memref sig .tc .vmem S4096x1 .f32)
    (f3 : BufTy.Contents (Elt F) arg6.view.ty) (f5 : BufTy.Contents (Elt F) arg8.view.ty) (f : BufTy.Contents (Elt F) arg12.view.ty) :
    arg12.view.read (Elt F) (arg12.view.writes (Elt F) f [⟨Rect.unit (s := S4096x1) ![3072, 0] S1024x1.size inb_S4096x1_S1024x1_3072_0, (k0_pay23 (arg8.view.readAt (Elt F) (Rect.unit (s := S4096x128) ![3072, 0] S1024x128.size inb_S4096x128_S1024x128_3072_0).toLoadRect f5) (arg6.view.readAt (Elt F) (Rect.unit (s := S4096x128) ![3072, 0] S1024x128.size inb_S4096x128_S1024x128_3072_0).toLoadRect f3))⟩, ⟨Rect.unit (s := S4096x1) ![2048, 0] S1024x1.size inb_S4096x1_S1024x1_2048_0, (k0_pay21 (k0_pay20 (arg8.view.readAt (Elt F) (Rect.unit (s := S4096x128) ![2048, 0] S1024x128.size inb_S4096x128_S1024x128_2048_0).toLoadRect f5) (arg6.view.readAt (Elt F) (Rect.unit (s := S4096x128) ![2048, 0] S1024x128.size inb_S4096x128_S1024x128_2048_0).toLoadRect f3)))⟩, ⟨Rect.unit (s := S4096x1) ![1024, 0] S1024x1.size inb_S4096x1_S1024x1_1024_0, (k0_pay18 (arg8.view.readAt (Elt F) (Rect.unit (s := S4096x128) ![1024, 0] S1024x128.size inb_S4096x128_S1024x128_1024_0).toLoadRect f5) (arg6.view.readAt (Elt F) (Rect.unit (s := S4096x128) ![1024, 0] S1024x128.size inb_S4096x128_S1024x128_1024_0).toLoadRect f3))⟩, ⟨Rect.unit (s := S4096x1) ![0, 0] S1024x1.size inb_S4096x1_S1024x1_0_0, (k0_pay16 (arg8.view.readAt (Elt F) (Rect.unit (s := S4096x128) ![0, 0] S1024x128.size inb_S4096x128_S1024x128_0_0).toLoadRect f5) (arg6.view.readAt (Elt F) (Rect.unit (s := S4096x128) ![0, 0] S1024x128.size inb_S4096x128_S1024x128_0_0).toLoadRect f3))⟩]) = delta (arg6.view.read (Elt F) f3) (arg8.view.read (Elt F) f5) := by
  rw [← deltaOver_eq (arg12.view.read (Elt F) f)]
  unfold deltaOver
  rw [View.read_writes_cons_put arg12.view _ _ _ _ rfl, View.read_writes_cons_put arg12.view _ _ _ _ rfl, View.read_writes_cons_put arg12.view _ _ _ _ rfl, View.read_writes_cons_put arg12.view _ _ _ _ rfl]
  rfl

end Cert.KernelIdeal.Gen

end
-- ==== Proof.Body.lean ====
module

public import proofs.«01_k».proof.Proof.Point
public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a run: it makes the row sums of do · o, begins dq at zero, and adds the point's blocks to it. -/
theorem body_first (c : Dev nD) (i : grid0.Coords) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x1 .f32) (harg12 : arg12.IsWhole)
    (hc0 : first i) (x0 : Vec F S4096x128 .bf16) (x1 x2 : Vec F S1024x128 .bf16) (x3 x4 x5 : Vec F S4096x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
        ∗ owns (c : Thread nD τ) arg9 fullShare (final i x0 x1 x2 x4 x5 (delta x3 x5) zeros).2
        ∗ owns (c : Thread nD τ) arg10 fullShare (final i x0 x1 x2 x4 x5 (delta x3 x5) zeros).1.1
        ∗ owns (c : Thread nD τ) arg11 fullShare (final i x0 x1 x2 x4 x5 (delta x3 x5) zeros).1.2
        ∗ owns (c : Thread nD τ) arg12 fullShare (delta x3 x5)) -∗ K ⟨⟩))
    ⊢ wp frame (wpE (defs₀ (F := F)) Variants.none c none) E (cc0_d_attention_l1 i arg3 harg3 arg4 harg4 arg5 harg5 arg6 harg6 arg7 harg7 arg8 harg8 arg9 harg9 arg10 harg10 arg11 harg11 arg12 harg12) K := by
  simp only [cc0_d_attention_l1_eq_skeleton]; unfold cc0_d_attention_l1_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS0⟩, Hk⟩
  sl_exec (disch := first | sl_exact hc0)
  sl_step
  subst hf0; subst hf1; subst hf2; subst hf3; subst hf4; subst hf5
  iapply Hk
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]
  · iexists _; isplitr; swap; · iexact H6
    ipureintro
    refine out_dq c i arg3 harg3 arg4 harg4 arg5 harg5 arg6 harg6 arg7 harg7 arg8 harg8 arg9 harg9 arg10 harg10 arg11 harg11 arg12 harg12 _ _ _ _ _ _ _ _ _ _ _ ?_ ?_ _ _ ?_ ?_ _ _ ?_ ?_
    · rfl
    · rfl
    · rfl
    · rfl
    · exact delta_read arg6 arg8 arg12 f3 f5 _
    · exact (start_read i arg3 arg4 arg5 arg7 arg8 arg9 arg12 f0 f1 f2 f4 f5 _ _ _).trans (congr (congrArg _ (delta_read arg6 arg8 arg12 f3 f5 _)) (zeros_read arg9 _))
  isplitl [H7]
  · iexists _; isplitr; swap; · iexact H7
    ipureintro
    refine (View.read_writes_full _ _ _ _ _).trans (congrArg Prod.fst (out_carried c i arg3 harg3 arg4 harg4 arg5 harg5 arg6 harg6 arg7 harg7 arg8 harg8 arg9 harg9 arg10 harg10 arg11 harg11 arg12 harg12 _ _ _ _ _ _ _ _ _ _ _ ?_ ?_ _ _ ?_ ?_ _ _ ?_ ?_))
    · rfl
    · rfl
    · rfl
    · rfl
    · exact delta_read arg6 arg8 arg12 f3 f5 _
    · exact (start_read i arg3 arg4 arg5 arg7 arg8 arg9 arg12 f0 f1 f2 f4 f5 _ _ _).trans (congr (congrArg _ (delta_read arg6 arg8 arg12 f3 f5 _)) (zeros_read arg9 _))
  isplitl [H8]
  · iexists _; isplitr; swap; · iexact H8
    ipureintro
    refine (View.read_writes_full _ _ _ _ _).trans (congrArg Prod.snd (out_carried c i arg3 harg3 arg4 harg4 arg5 harg5 arg6 harg6 arg7 harg7 arg8 harg8 arg9 harg9 arg10 harg10 arg11 harg11 arg12 harg12 _ _ _ _ _ _ _ _ _ _ _ ?_ ?_ _ _ ?_ ?_ _ _ ?_ ?_))
    · rfl
    · rfl
    · rfl
    · rfl
    · exact delta_read arg6 arg8 arg12 f3 f5 _
    · exact (start_read i arg3 arg4 arg5 arg7 arg8 arg9 arg12 f0 f1 f2 f4 f5 _ _ _).trans (congr (congrArg _ (delta_read arg6 arg8 arg12 f3 f5 _)) (zeros_read arg9 _))
  iexists _; isplitr; swap; · iexact HS0
  ipureintro
  exact delta_read arg6 arg8 arg12 f3 f5 _

set_option maxHeartbeats 4000000 in
/-- The body at a later point of a run: it takes the row sums and the dq the points before it left, and adds the point's blocks. -/
theorem body_next (c : Dev nD) (i : grid0.Coords) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S4096x1 .f32) (harg12 : arg12.IsWhole)
    (hc0 : ¬ first i) (x0 : Vec F S4096x128 .bf16) (x1 x2 : Vec F S1024x128 .bf16) (x3 x4 x5 : Vec F S4096x128 .f32) (dq : Vec F S4096x128 .f32) (δ : Vec F S4096x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare dq ∗ (∃ d, owns (c : Thread nD τ) arg10 fullShare d) ∗ (∃ d, owns (c : Thread nD τ) arg11 fullShare d) ∗ owns (c : Thread nD τ) arg12 fullShare δ
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
        ∗ owns (c : Thread nD τ) arg9 fullShare (final i x0 x1 x2 x4 x5 δ dq).2
        ∗ owns (c : Thread nD τ) arg10 fullShare (final i x0 x1 x2 x4 x5 δ dq).1.1
        ∗ owns (c : Thread nD τ) arg11 fullShare (final i x0 x1 x2 x4 x5 δ dq).1.2
        ∗ owns (c : Thread nD τ) arg12 fullShare δ) -∗ K ⟨⟩))
    ⊢ wp frame (wpE (defs₀ (F := F)) Variants.none c none) E (cc0_d_attention_l1 i arg3 harg3 arg4 harg4 arg5 harg5 arg6 harg6 arg7 harg7 arg8 harg8 arg9 harg9 arg10 harg10 arg11 harg11 arg12 harg12) K := by
  simp only [cc0_d_attention_l1_eq_skeleton]; unfold cc0_d_attention_l1_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS0⟩, Hk⟩
  sl_exec (disch := first | sl_exact hc0)
  sl_step
  subst hf0; subst hf1; subst hf2; subst hf3; subst hf4; subst hf5
  subst hf6; subst hfs
  iapply Hk
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  have hδ : arg12.view.read (Elt F) fs = arg12.view.read (Elt F) fs := rfl
  have hs := start_read i arg3 arg4 arg5 arg7 arg8 arg9 arg12 f0 f1 f2 f4 f5 fs f6 []
  isplitl [H6]
  · iexists _; isplitr; swap; · iexact H6
    ipureintro
    refine out_dq c i arg3 harg3 arg4 harg4 arg5 harg5 arg6 harg6 arg7 harg7 arg8 harg8 arg9 harg9 arg10 harg10 arg11 harg11 arg12 harg12 _ _ _ _ _ _ _ _ _ _ _ ?_ ?_ _ _ ?_ ?_ _ _ ?_ ?_
    · rfl
    · rfl
    · rfl
    · rfl
    · exact hδ
    · exact hs
  isplitl [H7]
  · iexists _; isplitr; swap; · iexact H7
    ipureintro
    refine (View.read_writes_full _ _ _ _ _).trans (congrArg Prod.fst (out_carried c i arg3 harg3 arg4 harg4 arg5 harg5 arg6 harg6 arg7 harg7 arg8 harg8 arg9 harg9 arg10 harg10 arg11 harg11 arg12 harg12 _ _ _ _ _ _ _ _ _ _ _ ?_ ?_ _ _ ?_ ?_ _ _ ?_ ?_))
    · rfl
    · rfl
    · rfl
    · rfl
    · exact hδ
    · exact hs
  isplitl [H8]
  · iexists _; isplitr; swap; · iexact H8
    ipureintro
    refine (View.read_writes_full _ _ _ _ _).trans (congrArg Prod.snd (out_carried c i arg3 harg3 arg4 harg4 arg5 harg5 arg6 harg6 arg7 harg7 arg8 harg8 arg9 harg9 arg10 harg10 arg11 harg11 arg12 harg12 _ _ _ _ _ _ _ _ _ _ _ ?_ ?_ _ _ ?_ ?_ _ _ ?_ ?_))
    · rfl
    · rfl
    · rfl
    · rfl
    · exact hδ
    · exact hs
  iexists _; isplitr; swap; · iexact HS0
  ipureintro
  rfl

end Cert.KernelIdeal.Gen

end
-- ==== Proof.Run.lean ====
module

public import proofs.«01_k».proof.Proof.Body
public import Idealize.ShloMosaic.Lib.Claim
public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- The point is the first of its run exactly when its number is a multiple of four. -/
theorem first_iff : ∀ t : Fin cfg0.N, first (grid0.coords t) ↔ t.val % 4 = 0 :=
  (fun t => by
    have ht : t.val < 64 := Nat.lt_of_lt_of_eq t.isLt N_0
    have e2 : (grid0.coords t 2).val = t.val / 1 % 4 := Pipeline.Grid.coords_val t 2 (by decide) rfl
    simp only [first, e2]
    word_cmp
   : ∀ t : Fin grid0.N, first (grid0.coords t) ↔ t.val % 4 = 0)

/-- The buffer window 0 is on at point `t`. -/
abbrev buf0 (t : Fin cfg0.N) : Memref sig .tc .vmem S4096x128 .bf16 := win0_0.stage (cfg0.slots t 0)
/-- The buffer window 1 is on at point `t`. -/
abbrev buf1 (t : Fin cfg0.N) : Memref sig .tc .vmem S1024x128 .bf16 := win0_1.stage (cfg0.slots t 1)
/-- The buffer window 2 is on at point `t`. -/
abbrev buf2 (t : Fin cfg0.N) : Memref sig .tc .vmem S1024x128 .bf16 := win0_2.stage (cfg0.slots t 2)
/-- The buffer window 3 is on at point `t`. -/
abbrev buf3 (t : Fin cfg0.N) : Memref sig .tc .vmem S4096x128 .f32 := win0_3.stage (cfg0.slots t 3)
/-- The buffer window 4 is on at point `t`. -/
abbrev buf4 (t : Fin cfg0.N) : Memref sig .tc .vmem S4096x128 .f32 := win0_4.stage (cfg0.slots t 4)
/-- The buffer window 5 is on at point `t`. -/
abbrev buf5 (t : Fin cfg0.N) : Memref sig .tc .vmem S4096x128 .f32 := win0_5.stage (cfg0.slots t 5)
/-- The buffer window 6 is on at point `t`. -/
abbrev buf6 (t : Fin cfg0.N) : Memref sig .tc .vmem S4096x128 .f32 := win0_6.stage (cfg0.slots t 6)
/-- The buffer window 7 is on at point `t`. -/
abbrev buf7 (t : Fin cfg0.N) : Memref sig .tc .vmem S1024x128 .f32 := win0_7.stage (cfg0.slots t 7)
/-- The buffer window 8 is on at point `t`. -/
abbrev buf8 (t : Fin cfg0.N) : Memref sig .tc .vmem S1024x128 .f32 := win0_8.stage (cfg0.slots t 8)
/-- The scratch that holds the row sums of do · o between points. -/
abbrev sums : Memref sig .tc .vmem S4096x1 .f32 := Memref.whole cc0_scratch0

/-- Before the first point the scratch holds anything. -/
theorem anything_eq (c : Dev nD) :
    (Pipeline.ΦA spec0 c : sProp 𝕄) = iprop((∃ d, owns (c : Thread nD τ) sums fullShare d) ∗ (∃ r, prngReg c r)) := by
  unfold Pipeline.ΦA; rw [scopedRest0_eq]; simp only [sums, owns_whole]; try rfl

/-! ## What the points leave -/

/-- What point `n` leaves: the row sums in the scratch, and the blocks of dk, dv and dq. -/
def left (c : Dev nD) : (n : ℕ) → n < cfg0.N → Vec F S4096x1 .f32 × ((FVec F S1024x128 .f32 × FVec F S1024x128 .f32) × Vec F S4096x128 .f32)
  | 0, hn => (delta (iblk m c 3 ⟨0, hn⟩) (iblk m c 5 ⟨0, hn⟩),
      final (grid0.coords ⟨0, hn⟩) (iblk m c 0 ⟨0, hn⟩) (iblk m c 1 ⟨0, hn⟩) (iblk m c 2 ⟨0, hn⟩) (iblk m c 4 ⟨0, hn⟩) (iblk m c 5 ⟨0, hn⟩) (delta (iblk m c 3 ⟨0, hn⟩) (iblk m c 5 ⟨0, hn⟩)) zeros)
  | n + 1, hn =>
    if (n + 1) % 4 = 0 then
      (delta (iblk m c 3 ⟨n + 1, hn⟩) (iblk m c 5 ⟨n + 1, hn⟩),
        final (grid0.coords ⟨n + 1, hn⟩) (iblk m c 0 ⟨n + 1, hn⟩) (iblk m c 1 ⟨n + 1, hn⟩) (iblk m c 2 ⟨n + 1, hn⟩) (iblk m c 4 ⟨n + 1, hn⟩) (iblk m c 5 ⟨n + 1, hn⟩) (delta (iblk m c 3 ⟨n + 1, hn⟩) (iblk m c 5 ⟨n + 1, hn⟩)) zeros)
    else
      ((left c n (by omega)).1,
        final (grid0.coords ⟨n + 1, hn⟩) (iblk m c 0 ⟨n + 1, hn⟩) (iblk m c 1 ⟨n + 1, hn⟩) (iblk m c 2 ⟨n + 1, hn⟩) (iblk m c 4 ⟨n + 1, hn⟩) (iblk m c 5 ⟨n + 1, hn⟩) (left c n (by omega)).1 (left c n (by omega)).2.2)

/-- The point before. -/
abbrev prev (t : Fin cfg0.N) : Fin cfg0.N := ⟨t.val - 1, Nat.lt_of_le_of_lt (Nat.sub_le _ _) t.isLt⟩

/-- What the first point of a run leaves. -/
theorem left_first (c : Dev nD) (t : Fin cfg0.N) (h : t.val % 4 = 0) :
    left m c t.val t.isLt = (delta (iblk m c 3 t) (iblk m c 5 t), final (grid0.coords t) (iblk m c 0 t) (iblk m c 1 t) (iblk m c 2 t) (iblk m c 4 t) (iblk m c 5 t) (delta (iblk m c 3 t) (iblk m c 5 t)) zeros) := by
  obtain ⟨n, hn⟩ := t
  cases n with
  | zero => exact rfl
  | succ n => exact if_pos h

/-- What a later point of a run leaves, over what the point before left. -/
theorem left_next (c : Dev nD) (t : Fin cfg0.N) (h : ¬ t.val % 4 = 0) :
    left m c t.val t.isLt = ((left m c (prev t).val (prev t).isLt).1, final (grid0.coords t) (iblk m c 0 t) (iblk m c 1 t) (iblk m c 2 t) (iblk m c 4 t) (iblk m c 5 t) (left m c (prev t).val (prev t).isLt).1 (left m c (prev t).val (prev t).isLt).2.2) := by
  obtain ⟨n, hn⟩ := t
  cases n with
  | zero => exact absurd (Nat.zero_mod _) h
  | succ n => exact if_neg h

/-- What the region holds besides the windows before position `n`: at first anything, afterwards the row sums the point before left. -/
def inv (c : Dev nD) : (n : ℕ) → n ≤ cfg0.N → sProp 𝕄
  | 0, _ => Pipeline.ΦA spec0 c
  | n + 1, hn => iprop(owns (c : Thread nD τ) sums fullShare (left m c n hn).1 ∗ (∃ r, prngReg c r))

/-- Before the first grid step the scratch is as the launch leaves it. -/
theorem inv_zero (c : Dev nD) (n : ℕ) (h : n ≤ cfg0.N) (hz : n = 0) : inv m c n h = Pipeline.ΦA spec0 c := by subst hz; rfl

/-- After a grid step the scratch holds what that step left. -/
theorem inv_succ (c : Dev nD) (n : ℕ) (hn : n < cfg0.N) :
    inv m c (n + 1) hn = iprop(owns (c : Thread nD τ) sums fullShare (left m c n hn).1 ∗ (∃ r, prngReg c r)) := rfl

/-- Before a later grid step the scratch holds what the step before left. -/
theorem inv_pos (c : Dev nD) (n : ℕ) (h : n ≤ cfg0.N) (hz : n ≠ 0) :
    inv m c n h = iprop(owns (c : Thread nD τ) sums fullShare (left m c (n - 1) (by omega)).1 ∗ (∃ r, prngReg c r)) := by
  cases n with
  | zero => exact absurd rfl hz
  | succ n => rfl

/-- Whatever the position, the scratch holds something. -/
theorem inv_any (c : Dev nD) (n : ℕ) (h : n ≤ cfg0.N) :
    inv m c n h ⊢ iprop((∃ d, owns (c : Thread nD τ) sums fullShare d) ∗ (∃ r, prngReg c r)) := by
  by_cases hz : n = 0
  · rw [inv_zero m c n h hz, anything_eq]
  · rw [inv_pos m c n h hz]
    iintro ⟨HS0, Hg⟩
    isplitl [HS0]
    · iexists _; iexact HS0
    iexact Hg

/-- The proof data of the call on device `c`: the inputs' blocks stay, and the outputs hold what `left` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).2.2
    | ⟨7, _⟩ => (left m c t.val t.isLt).2.1.1
    | ⟨8, _⟩ => (left m c t.val t.isLt).2.1.2
  Φ t := inv m c t.val (Nat.le_of_lt_succ t.isLt)
  q _ := fullShare
  owed _ := 0

/-- A window's array at the launch is the one the host code leaves. -/
theorem A_eq (c : Dev nD) (w : Fin cfg0.W) : (dats m 0 c).A w = V m c (Pipeline.arrRef spec0 w) := by
  dsimp only [dats]

/-- The invariant at a grid step, read at its number. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- Argument window 0 still holds its block after a grid step. -/
theorem after_0 (c : Dev nD) (t : Fin cfg0.N) : (dats m 0 c).after 0 t = iblk m c 0 t := by dsimp only [dats]
/-- Argument window 1 still holds its block after a grid step. -/
theorem after_1 (c : Dev nD) (t : Fin cfg0.N) : (dats m 0 c).after 1 t = iblk m c 1 t := by dsimp only [dats]
/-- Argument window 2 still holds its block after a grid step. -/
theorem after_2 (c : Dev nD) (t : Fin cfg0.N) : (dats m 0 c).after 2 t = iblk m c 2 t := by dsimp only [dats]
/-- Argument window 3 still holds its block after a grid step. -/
theorem after_3 (c : Dev nD) (t : Fin cfg0.N) : (dats m 0 c).after 3 t = iblk m c 3 t := by dsimp only [dats]
/-- Argument window 4 still holds its block after a grid step. -/
theorem after_4 (c : Dev nD) (t : Fin cfg0.N) : (dats m 0 c).after 4 t = iblk m c 4 t := by dsimp only [dats]
/-- Argument window 5 still holds its block after a grid step. -/
theorem after_5 (c : Dev nD) (t : Fin cfg0.N) : (dats m 0 c).after 5 t = iblk m c 5 t := by dsimp only [dats]
/-- The query gradient's window after a grid step. -/
theorem after_6 (c : Dev nD) (t : Fin cfg0.N) : (dats m 0 c).after 6 t = (left m c t.val t.isLt).2.2 := by dsimp only [dats]
/-- The key gradient's window after a grid step. -/
theorem after_7 (c : Dev nD) (t : Fin cfg0.N) : (dats m 0 c).after 7 t = (left m c t.val t.isLt).2.1.1 := by dsimp only [dats]
/-- The value gradient's window after a grid step. -/
theorem after_8 (c : Dev nD) (t : Fin cfg0.N) : (dats m 0 c).after 8 t = (left m c t.val t.isLt).2.1.2 := by dsimp only [dats]

/-- Argument window 0 holds its block before a grid step. -/
theorem before_0 (c : Dev nD) (t : Fin cfg0.N) (d) : (dats m 0 c).before 0 t d = iblk m c 0 t :=
  before0_0_of m (dats m 0 c) (A_eq m c 0) (after_0 m c) t d
/-- Argument window 1 holds its block before a grid step. -/
theorem before_1 (c : Dev nD) (t : Fin cfg0.N) (d) : (dats m 0 c).before 1 t d = iblk m c 1 t :=
  before0_1_of m (dats m 0 c) (A_eq m c 1) (after_1 m c) t d
/-- Argument window 2 holds its block before a grid step. -/
theorem before_2 (c : Dev nD) (t : Fin cfg0.N) (d) : (dats m 0 c).before 2 t d = iblk m c 2 t :=
  before0_2_of m (dats m 0 c) (A_eq m c 2) (after_2 m c) t d
/-- Argument window 3 holds its block before a grid step. -/
theorem before_3 (c : Dev nD) (t : Fin cfg0.N) (d) : (dats m 0 c).before 3 t d = iblk m c 3 t :=
  before0_3_of m (dats m 0 c) (A_eq m c 3) (after_3 m c) t d
/-- Argument window 4 holds its block before a grid step. -/
theorem before_4 (c : Dev nD) (t : Fin cfg0.N) (d) : (dats m 0 c).before 4 t d = iblk m c 4 t :=
  before0_4_of m (dats m 0 c) (A_eq m c 4) (after_4 m c) t d
/-- Argument window 5 holds its block before a grid step. -/
theorem before_5 (c : Dev nD) (t : Fin cfg0.N) (d) : (dats m 0 c).before 5 t d = iblk m c 5 t :=
  before0_5_of m (dats m 0 c) (A_eq m c 5) (after_5 m c) t d

/-- At a later point of a run dq's buffer holds what the point before left in it. -/
theorem before_6 (c : Dev nD) (t : Fin cfg0.N) (h : ¬ t.val % 4 = 0) (d) :
    (dats m 0 c).before 6 t d = (left m c (prev t).val (prev t).isLt).2.2 := by
  have hN : t.val < 64 := lt_of_lt_of_eq t.isLt (show cfg0.N = 64 from N_0)
  refine ((dats m 0 c).before_out_kept 6 rfl t (fun h0 => h (by rw [h0])) ?_ (fun _ => rfl) (fun _ _ => rfl) d).trans (after_6 m c (prev t))
  rw [Bool.eq_false_iff]
  intro hf
  have := (flush0_6 (prev t)).mp hf
  dsimp only at this
  omega

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 6400000 in
/-- The body at any point: the first of a run by `body_first`, a later one by `body_next`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7, after_8]
  rw [show (dats m 0 c).Φ t.succ = inv m c (t.val + 1) t.isLt from rfl, inv_succ, inv_castSucc m c t]
  by_cases h : t.val % 4 = 0
  · rw [left_first m c t h]
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HI := inv_any m c t.val (Nat.le_of_lt t.isLt) $$ HI
    icases HI with ⟨HS0, Hg⟩
    iapply (body_first c (grid0.coords t) _ _ _ _ _ _ _ _ _ _ _ _ _ _ _ _ _ _ _ _ ((first_iff t).mpr h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before_6 m c t h]
    rw [left_next m c t h, inv_pos m c t.val _ (fun h0 => h (by rw [h0]))]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_next c (grid0.coords t) _ _ _ _ _ _ _ _ _ _ _ _ _ _ _ _ _ _ _ _ (fun h' => h ((first_iff t).mp h')) (iblk m c 0 t) (iblk m c 1 t) (iblk m c 2 t) (iblk m c 3 t) (iblk m c 4 t) (iblk m c 5 t) (left m c (prev t).val (prev t).isLt).2.2 (left m c (prev t).val (prev t).isLt).1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body the launch runs at a grid step is the kernel body at that step. -/
theorem row_eq (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The launch's scratch gives the invariant before the first step. -/
theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- The invariant after the last step gives the scratch back. -/
theorem leave (c : Dev nD) : (dats m 0 c).Φ (Fin.last cfg0.N) ⊢ Pipeline.ΦA spec0 c := by
  rw [show (dats m 0 c).Φ (Fin.last cfg0.N) = inv m c cfg0.N le_rfl from rfl, anything_eq]
  exact inv_any m c _ _

/-! ## The run and the frame -/

set_option backward.isDefEq.respectTransparency.types false in
/-- Every execution of the program ends, with the arrays as the proof data say and every counter at zero. -/
theorem run_main_zero : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The same without the counters. -/
theorem run_main : θ_run defs (onTc (τ := τ) (main (F := F))) (s₀ m ρ) (Pipeline.FramePost cfgs (dats m) 0 (V m)) :=
  (θ_run defs _ _).mono (fun _ h => h.1) (run_main_zero m ρ)

/-- The frame: every execution ends with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_zero m ρ))

end Cert.KernelIdeal.Gen

end
-- ==== Proof.Host.lean ====
module

public import proofs.«01_k».proof.Proof.Heads
public import proofs.«01_k».proof.Proof.Run

@[expose] public section

set_option maxRecDepth 16384

noncomputable section

/-! # What the call is given, in the reals

The arrays the host prepares for the call: the scaled queries, the keys and the values, the output of the forward pass and the logarithms of its rows' sums. -/

namespace Cert.KernelIdeal.Value

open Cert.KernelIdeal Cert.KernelIdeal.Gen Cert.Attn
open Idealize.ShloMosaic Idealize.ShloMosaic.TcCoe
open Finset

/-! ## The host's operations, stage by stage -/

/-- The queries, scaled. -/
def hostQ (x0 : FVec Ideal S8192x1024 .f32) : FVec Ideal S8192x1024 .f32 :=
  mulf x0 (broadcastInDim S8192x1024 ![] bcast_S_S8192x1024 (constant S_ .f32 0x3DD105EC#32))

/-- The scores. -/
def hostS (x0 x1 : FVec Ideal S8192x1024 .f32) : FVec Ideal S2x8x4096x4096 .f32 :=
  Host.dotGeneral dot_S2x4096x8x128_S2x4096x8x128_S2x8x4096x4096_3_3_1_1_02_02 none (φ₁ := .f32) (φ₂ := .f32)
    (shapeCast S2x4096x8x128 (hostQ x0) shapeCasts_S8192x1024_S2x4096x8x128)
    (shapeCast S2x4096x8x128 x1 shapeCasts_S8192x1024_S2x4096x8x128)

/-- The scores up to the diagonal. -/
def hostT (x0 x1 : FVec Ideal S8192x1024 .f32) : FVec Ideal S2x8x4096x4096 .f32 :=
  select (broadcastInDim S2x8x4096x4096 ![2, 3] bcast_S4096x4096_S2x8x4096x4096_2_3
      (cmpi .sle
        (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (hostS x0 x1)
    (broadcastInDim S2x8x4096x4096 ![] bcast_S_S2x8x4096x4096 (constant S_ .f32 0xFF800000#32))

/-- Each row's largest score. -/
def hostM (x0 x1 : FVec Ideal S8192x1024 .f32) : FVec Ideal S2x8x4096 .f32 :=
  Host.reduce FloatOps.maximumf (hostT x0 x1) (constant S_ .f32 0xFF800000#32) reducesTo_S2x8x4096x4096_S2x8x4096_d3 h_S_

/-- The unnormalised weights. -/
def hostE (x0 x1 : FVec Ideal S8192x1024 .f32) : FVec Ideal S2x8x4096x4096 .f32 :=
  Host.exp (subf (hostT x0 x1) (broadcastInDim S2x8x4096x4096 ![0, 1, 2, 3] bcast_S2x8x4096x1_S2x8x4096x4096_0_1_2_3
    (broadcastInDim S2x8x4096x1 ![0, 1, 2] bcast_S2x8x4096_S2x8x4096x1_0_1_2 (hostM x0 x1))))

/-- The rows' sums. -/
def hostL (x0 x1 : FVec Ideal S8192x1024 .f32) : FVec Ideal S2x8x4096x1 .f32 :=
  broadcastInDim S2x8x4096x1 ![0, 1, 2] bcast_S2x8x4096_S2x8x4096x1_0_1_2
    (Host.reduceAdd (hostE x0 x1) (constant S_ .f32 0x00000000#32) reducesTo_S2x8x4096x4096_S2x8x4096_d3 h_S_)

/-- The forward pass's output, head by head. -/
def hostO (x0 x1 x2 : FVec Ideal S8192x1024 .f32) : FVec Ideal S2x8x128x4096 .f32 :=
  Host.dotGeneral dot_S2x4096x8x128_S2x8x4096x4096_S2x8x128x4096_1_3_3_2_02_01 none (φ₁ := .f32) (φ₂ := .f32) (shapeCast S2x4096x8x128 x2 shapeCasts_S8192x1024_S2x4096x8x128)
    (Host.divf (hostE x0 x1) (broadcastInDim S2x8x4096x4096 ![0, 1, 2, 3] bcast_S2x8x4096x1_S2x8x4096x4096_0_1_2_3 (hostL x0 x1)))

/-- The logarithms of the rows' sums of exponentials. -/
def hostLse (x0 x1 : FVec Ideal S8192x1024 .f32) : FVec Ideal S2x8x4096x1 .f32 :=
  addf (broadcastInDim S2x8x4096x1 ![0, 1, 2] bcast_S2x8x4096_S2x8x4096x1_0_1_2 (hostM x0 x1)) (Host.log (hostL x0 x1))

variable (m : (ℓ : Loc nD τ sig) → Buf (Elt Ideal) ℓ)

/-- What a buffer holds when the call starts: what the host's three stretches of operations leave in it. -/
theorem entry_eq (c : Dev nD) (b : Ref sig .tc) :
    V m c b = StableHlo.after (hostOps0 ++ (hostOps0_1 ++ (hostOps0_2 ++ []))) (fun b => m (c, b)) (Proc.tc.devRef b) := rfl

/-- The call's queries are the scaled queries. -/
theorem entry_q (c : Dev nD) : V m c main_v30 = (truncf .bf16 (hostQ (m (c.tc.loc main_arg0))) bitsLt_bf16_f32 : FVec Ideal S8192x1024 .bf16) := by
  rw [entry_eq m c]
  simp only [hostOps0, hostOps0_1, hostOps0_2, List.cons_append, List.nil_append]
  entry_read
  rfl

/-- The call's keys are the keys. -/
theorem entry_k (c : Dev nD) : V m c main_v31 = (truncf .bf16 (m (c.tc.loc main_arg1) : FVec Ideal S8192x1024 .f32) bitsLt_bf16_f32 : FVec Ideal S8192x1024 .bf16) := by
  rw [entry_eq m c]
  simp only [hostOps0, hostOps0_1, hostOps0_2, List.cons_append, List.nil_append]
  entry_read
  rfl

/-- The call's values are the values. -/
theorem entry_v (c : Dev nD) : V m c main_v32 = (truncf .bf16 (m (c.tc.loc main_arg2) : FVec Ideal S8192x1024 .f32) bitsLt_bf16_f32 : FVec Ideal S8192x1024 .bf16) := by
  rw [entry_eq m c]
  simp only [hostOps0, hostOps0_1, hostOps0_2, List.cons_append, List.nil_append]
  entry_read
  rfl

/-- The call's outputs are the forward pass's. -/
theorem entry_o (c : Dev nD) : V m c main_v28 =
    (shapeCast S8192x1024 (transpose S2x4096x8x128 [0, 3, 1, 2] (hostO (m (c.tc.loc main_arg0)) (m (c.tc.loc main_arg1)) (m (c.tc.loc main_arg2))) transposes_S2x8x128x4096_S2x4096x8x128_0_3_1_2) shapeCasts_S2x4096x8x128_S8192x1024 : FVec Ideal S8192x1024 .f32) := by
  rw [entry_eq m c]
  simp only [hostOps0, hostOps0_1, hostOps0_2, List.cons_append, List.nil_append]
  entry_read
  simp -implicitDefEqProofs only [StableHlo.TRef.toBuf, StableHlo.TRef.ofBuf, cast_eq, id]
  simp only [hostO, hostL, hostE, hostM, hostT, hostS, hostQ]
  rfl

/-- The call's logarithms are the forward pass's, every row's in all 128 lanes. -/
theorem entry_lse (c : Dev nD) : V m c main_v29 =
    (shapeCast S8192x1024 (broadcastInDim S2x4096x8x128 ![0, 1, 2, 3] bcast_S2x4096x8x1_S2x4096x8x128_0_1_2_3 (transpose S2x4096x8x1 [0, 2, 1, 3] (hostLse (m (c.tc.loc main_arg0)) (m (c.tc.loc main_arg1))) transposes_S2x8x4096x1_S2x4096x8x1_0_2_1_3)) shapeCasts_S2x4096x8x128_S8192x1024 : FVec Ideal S8192x1024 .f32) := by
  rw [entry_eq m c]
  simp only [hostOps0, hostOps0_1, hostOps0_2, List.cons_append, List.nil_append]
  entry_read
  simp -implicitDefEqProofs only [StableHlo.TRef.toBuf, StableHlo.TRef.ofBuf, cast_eq, id]
  simp only [hostLse, hostL, hostE, hostM, hostT, hostS, hostQ]
  rfl

section
variable {x0 x1 x2 : FVec Ideal S8192x1024 .f32} {x3 : FVec Ideal S8192x2560 .f32} {A0 A1 A2 A3 : ℕ → ℕ → ℝ}
variable (G : Args x0 x1 x2 x3 A0 A1 A2 A3)
include G

local notation "HH" => headOf A0 A1 A2 A3

/-- The scaled queries. -/
theorem hostQ_is : Is (a := 8192) (b := 1024) (hostQ x0) fun R C => A0 R C * scale := by
  intro R C
  pointwise [hostQ]
  rw [G.x0, scale_eq, ← EReal.coe_mul]

/-- The scores. -/
theorem hostS_is (b : Fin 2) (h : Fin 8) (r c : Fin 4096) : hostS x0 x1 (ix4 b h r c) = (((HH b h).s r c : ℝ) : EReal) := by
  pointwise [hostS]
  exact sum_mul _ _ (fun d => (HH b h).q r d) (fun d => (HH b h).k c d) (fun d => hostQ_is G _ _) (fun d => G.x1 _ _)

/-- The scores up to the diagonal. -/
theorem hostT_is (b : Fin 2) (h : Fin 8) (r c : Fin 4096) : hostT x0 x1 (ix4 b h r c) = masked (HH b h).s r c := by
  pointwise [hostT]
  rw [Cert.Attn.mask _ _ c.isLt r.isLt, hostS_is G]
  exact if_congr Iff.rfl rfl bot_eq

/-- Each row's largest score. -/
theorem hostM_is (b : Fin 2) (h : Fin 8) (r : Fin 4096) : hostM x0 x1 (ix3 b h r) = (((HH b h).μ r : ℝ) : EReal) := by
  pointwise [hostM]
  rw [bot_eq, show (fun x => hostT x0 x1 (ix4 b h r x)) = masked (HH b h).s r from funext fun c => hostT_is G b h r c]
  exact fold_masked _ _ r.isLt

omit G in
/-- The host's exponential of a score minus its row's maximum, at one entry. -/
theorem hostExp_at (S : FVec Ideal S2x8x4096x4096 .f32) (y : FVec Ideal S2x8x4096 .f32) (b : Fin 2) (h : Fin 8) (r c : Fin 4096) :
    Host.exp (subf S (broadcastInDim S2x8x4096x4096 ![0, 1, 2, 3] bcast_S2x8x4096x1_S2x8x4096x4096_0_1_2_3
    (broadcastInDim S2x8x4096x1 ![0, 1, 2] bcast_S2x8x4096_S2x8x4096x1_0_1_2 y))) (ix4 b h r c)
      = Ideal.exp (S (ix4 b h r c) - y (ix3 b h r)) := by
  pointwise []

/-- The host's shifted exponentials are the head's. -/
theorem hostE_is (b : Fin 2) (h : Fin 8) (r c : Fin 4096) : hostE x0 x1 (ix4 b h r c) = (((HH b h).e r c : ℝ) : EReal) := by
  refine (hostExp_at (hostT x0 x1) (hostM x0 x1) b h r c).trans ?_
  rw [hostT_is G, hostM_is G]
  exact exp_masked _ _ _

/-- The host's denominators are the head's. -/
theorem hostL_is (b : Fin 2) (h : Fin 8) (r : Fin 4096) (z : Fin 1) : hostL x0 x1 (ix4 b h r z) = (((HH b h).l r : ℝ) : EReal) := by
  pointwise [hostL]
  exact sum_fin _ (fun c => (HH b h).e r c) (fun c => hostE_is G b h r c)

/-- The host's outputs are the head's. -/
theorem hostO_is (b : Fin 2) (h : Fin 8) (d : Fin 128) (r : Fin 4096) : hostO x0 x1 x2 (ix4 b h d r) = (((HH b h).o r d : ℝ) : EReal) := by
  pointwise [hostO]
  refine sum_mul _ _ (fun c => (HH b h).v c d) (fun c => (HH b h).p r c) (fun c => G.x2 _ _) (fun c => ?_)
  rw [hostE_is G, hostL_is G, div_coe _ _ ((HH b h).l_pos r r.isLt).ne', (HH b h).p_eq r c r.isLt]

omit G in
/-- The host's row maximum plus the logarithm of its denominator, at one entry. -/
theorem hostLse_at (y : FVec Ideal S2x8x4096 .f32) (z : FVec Ideal S2x8x4096x1 .f32) (b : Fin 2) (h : Fin 8) (r : Fin 4096) (i : Fin 1) :
    addf (broadcastInDim S2x8x4096x1 ![0, 1, 2] bcast_S2x8x4096_S2x8x4096x1_0_1_2 y) (Host.log z) (ix4 b h r i)
      = y (ix3 b h r) + Ideal.log (z (ix4 b h r i)) := by
  pointwise []

/-- The host's logarithms of denominators are the head's. -/
theorem hostLse_is (b : Fin 2) (h : Fin 8) (r : Fin 4096) (z : Fin 1) : hostLse x0 x1 (ix4 b h r z) = (((HH b h).lse r : ℝ) : EReal) := by
  refine (hostLse_at (hostM x0 x1) (hostL x0 x1) b h r z).trans ?_
  rw [hostM_is G, hostL_is G, log_coe _ ((HH b h).l_pos r r.isLt), ← EReal.coe_add]
  rfl

/-- The forward pass's output as the call is given it. -/
theorem oArr_is : Is (a := 8192) (b := 1024) (shapeCast S8192x1024 (transpose S2x4096x8x128 [0, 3, 1, 2] (hostO x0 x1 x2) transposes_S2x8x128x4096_S2x4096x8x128_0_3_1_2) shapeCasts_S2x4096x8x128_S8192x1024)
    fun R C => (HH (R / 4096) (C / 128)).o (R % 4096) (C % 128) := by
  intro R C
  pointwise []
  exact hostO_is G _ _ _ _

/-- The logarithms as the call is given them. -/
theorem lseArr_is : Is (a := 8192) (b := 1024) (shapeCast S8192x1024 (broadcastInDim S2x4096x8x128 ![0, 1, 2, 3] bcast_S2x4096x8x1_S2x4096x8x128_0_1_2_3 (transpose S2x4096x8x1 [0, 2, 1, 3] (hostLse x0 x1) transposes_S2x8x4096x1_S2x4096x8x1_0_2_1_3)) shapeCasts_S2x4096x8x128_S8192x1024)
    fun R C => (HH (R / 4096) (C / 128)).lse (R % 4096) := by
  intro R C
  pointwise []
  exact hostLse_is G _ _ _ _

end

end Cert.KernelIdeal.Value

end
-- ==== Proof.Sums.lean ====
module

public import proofs.«01_k».proof.Proof.Block

@[expose] public section

set_option maxRecDepth 16384

noncomputable section

/-! # What one grid point leaves, in the reals

Column block `j` of a head: the point adds row block after row block to the gradients of its keys and values, and its
own share to the gradient of the queries. -/

namespace Cert.KernelIdeal.Value

open Cert.KernelIdeal Cert.KernelIdeal.Gen Cert.Attn
open Idealize.ShloMosaic Idealize.ShloMosaic.TcCoe
open Finset

/-- The blocks point `j` of head `H` is given: queries, its keys and values, logarithms of the row sums, the output's gradient, row sums of gradient times output. -/
structure Given (H : Head) (j : ℕ) (x0 : FVec Ideal S4096x128 .bf16) (x1 x2 : FVec Ideal S1024x128 .bf16) (x4 x5 : FVec Ideal S4096x128 .f32) (δ : FVec Ideal S4096x1 .f32) : Prop where
  q : Is (a := 4096) (b := 128) x0 H.q
  k : Is (a := 1024) (b := 128) x1 (fun c d => H.k (1024 * j + c) d)
  v : Is (a := 1024) (b := 128) x2 (fun c d => H.v (1024 * j + c) d)
  lse : Is (a := 4096) (b := 128) x4 (fun r _ => H.lse r)
  g : Is (a := 4096) (b := 128) x5 H.g
  D : Is (a := 4096) (b := 1) δ (fun r _ => H.D r)

/-- What column block `j` of head `H` has made once row blocks below `n` are in: dk, dv of its columns, and dq, whose rows under `n` have column block `j` in. -/
structure At (H : Head) (j n : ℕ) (S : (FVec Ideal S1024x128 .f32 × FVec Ideal S1024x128 .f32) × FVec Ideal S4096x128 .f32) : Prop where
  dk : Is (a := 1024) (b := 128) S.1.1 (fun c d => ∑ i ∈ range n, H.dkPart (1024 * j + c) d i)
  dv : Is (a := 1024) (b := 128) S.1.2 (fun c d => ∑ i ∈ range n, H.dvPart (1024 * j + c) d i)
  dq : Is (a := 4096) (b := 128) S.2 (fun r d => ∑ i ∈ range (if r < 1024 * n then j + 1 else j), H.dqPart r d i)

variable {H : Head} {j : ℕ} {x0 : FVec Ideal S4096x128 .bf16} {x1 x2 : FVec Ideal S1024x128 .bf16} {x4 x5 : FVec Ideal S4096x128 .f32} {δ : FVec Ideal S4096x1 .f32}

/-- The weights of the diagonal block. -/
theorem pDiag_is (G : Given H j x0 x1 x2 x4 x5 δ) (i : grid0.Coords) (hi : (i 2).val = j) :
    Is (a := 1024) (b := 1024) (pDiag (F := Ideal) i x0 x1 x4) (fun r c => H.p (1024 * j + r) (1024 * j + c)) := by
  subst hi
  refine (pay29_is _ _ _ _ _ _ (whole_is _ _ G.k) (rows_is _ _ _ _ (off1_eq i) (k0_off1_inb i) G.q) (col_is _ _ _ _ (off2_eq i) (k0_off2_inb i) G.lse)).congr fun r _ c _ => ?_
  unfold Head.p Head.w Head.s
  exact if_congr (by omega) rfl rfl

/-- The gradient of the scores of the diagonal block. -/
theorem dsDiag_is (G : Given H j x0 x1 x2 x4 x5 δ) (i : grid0.Coords) (hi : (i 2).val = j) :
    Is (a := 1024) (b := 1024) (dsDiag (F := Ideal) i x0 x1 x2 x4 x5 δ) (fun r c => H.ds (1024 * j + r) (1024 * j + c)) := by
  subst hi
  refine (pay30_is _ _ _ _ _ _ _ _ _ _ _ _ (whole_is _ _ G.k) (whole_is _ _ G.v) (rows_is _ _ _ _ (off1_eq i) (k0_off1_inb i) G.q)
    (rows_is _ _ _ _ (off1_eq i) (k0_off1_inb i) G.g) (col_is _ _ _ _ (off2_eq i) (k0_off2_inb i) G.lse) (ent_is _ _ _ _ (off3_eq i) (k0_off3_inb i) G.D)).congr fun r _ c _ => ?_
  unfold Head.ds Head.p Head.w Head.s Head.dp
  refine congrArg₂ (· * ·) (if_congr (by omega) rfl rfl) rfl

/-- After the diagonal block. -/
theorem start_at (G : Given H j x0 x1 x2 x4 x5 δ) (i : grid0.Coords) (hi : (i 2).val = j) (dq : FVec Ideal S4096x128 .f32)
    (hdq : Is (a := 4096) (b := 128) dq (fun r d => ∑ i ∈ range j, H.dqPart r d i)) :
    At H j (j + 1) (start (F := Ideal) i x0 x1 x2 x4 x5 δ dq) := by
  have hds := dsDiag_is G i hi
  have hp := pDiag_is G i hi
  subst hi
  refine ⟨?_, ?_, ?_⟩
  · refine (pay2_is _ _ _ _ _ _ pay27_is (pay28_is _ _ (rows_is _ _ _ _ (off1_eq i) (k0_off1_inb i) G.q)) hds).congr fun c _ d _ => ?_
    rw [H.dk_from _ _ _ (Nat.le_add_right _ _), zero_add]; rfl
  · refine (pay3_is _ _ _ _ _ _ pay27_is (rows_is _ _ _ _ (off1_eq i) (k0_off1_inb i) G.g) hp).congr fun c _ d _ => ?_
    rw [H.dv_from _ _ _ (Nat.le_add_right _ _), zero_add]; rfl
  · refine (put_is _ _ _ _ _ _ (off1_eq i) hdq (pay1_is _ _ _ _ _ _ (pay25_is _ _ (whole_is _ _ G.k)) hds (pay31_is _ _ (rows_is _ _ _ _ (off1_eq i) (k0_off1_inb i) hdq)))).congr fun r hr d _ => ?_
    by_cases a : r < 1024 * ((i 2).val + 1)
    · rw [if_pos a, Finset.sum_range_succ (fun i => H.dqPart r d i)]
      by_cases b : 1024 * (i 2).val ≤ r
      · rw [if_pos ⟨b, by omega⟩, show 1024 * (i 2).val + (r - 1024 * (i 2).val) = r by omega]; rfl
      · rw [if_neg (fun h => b h.1), H.dqPart_zero _ _ _ (by omega), add_zero]
    · rw [if_neg a, if_neg (fun h => a (by omega))]

/-- One row block under the diagonal more. -/
theorem trip_at (G : Given H j x0 x1 x2 x4 x5 δ) (i : grid0.Coords) (hi : (i 2).val = j) (k : Fin (k0_t1_loop i).trips)
    (S : (FVec Ideal S1024x128 .f32 × FVec Ideal S1024x128 .f32) × FVec Ideal S4096x128 .f32) (h : At H j (j + 1 + k.val) S) :
    At H j (j + 1 + k.val + 1) (trip (F := Ideal) i x0 (k0_pay25 (whole x1)) (k0_pay26 (whole x2)) x4 x5 δ k S) := by
  subst hi
  generalize hn : (i 2).val + 1 + k.val = n at h ⊢
  have o4 : k0_off4 i k = ![1024 * n, 0] := hn ▸ off4_eq i k
  have o5 : k0_off5 i k = ![1024 * n, 0] := hn ▸ off5_eq i k
  have o6 : k0_off6 i k = ![1024 * n, 0] := hn ▸ off6_eq i k
  have K := pay25_is _ _ (whole_is _ _ G.k)
  have V := pay26_is _ _ (whole_is _ _ G.v)
  have Q := rows_is _ _ _ _ o4 (k0_off4_inb i k) G.q
  have O := rows_is _ _ _ _ o4 (k0_off4_inb i k) G.g
  have L := col_is _ _ _ _ o5 (k0_off5_inb i k) G.lse
  have D := ent_is _ _ _ _ o6 (k0_off6_inb i k) G.D
  have P : ∀ r c, c < 1024 → Real.exp (∑ d ∈ range 128, H.q (1024 * n + r) d * H.k (1024 * (i 2).val + c) d - H.lse (1024 * n + r)) = H.p (1024 * n + r) (1024 * (i 2).val + c) := fun r c hc => by
    unfold Head.p Head.w Head.s
    rw [if_pos (by omega)]
  refine ⟨?_, ?_, ?_⟩
  · refine (pay8_is _ _ _ _ _ _ _ _ _ _ _ _ _ _ K V h.dk Q O L D).congr fun c hc d _ => ?_
    rw [Finset.sum_range_succ (fun k => H.dkPart (1024 * (i 2).val + c) d k)]
    refine congrArg₂ (· + ·) rfl (Finset.sum_congr rfl fun r _ => ?_)
    rw [P r c hc]; rfl
  · refine (pay9_is _ _ _ _ _ _ _ _ _ _ K h.dv Q O L).congr fun c hc d _ => ?_
    rw [Finset.sum_range_succ (fun k => H.dvPart (1024 * (i 2).val + c) d k)]
    refine congrArg₂ (· + ·) rfl (Finset.sum_congr rfl fun r _ => ?_)
    rw [P r c hc]
  · refine (put_is _ _ _ _ _ _ o4 h.dq (pay7_is _ _ _ _ _ _ _ _ _ _ _ _ _ _ K V Q O L D (rows_is _ _ _ _ o4 (k0_off4_inb i k) h.dq))).congr fun r hr d _ => ?_
    by_cases a : 1024 * n ≤ r ∧ r < 1024 * n + 1024
    · have hr : 1024 * n + (r - 1024 * n) = r := by omega
      rw [if_pos a, if_neg (by omega), if_pos (by omega), Finset.sum_range_succ (fun k => H.dqPart r d k), hr]
      refine congrArg₂ (· + ·) rfl (Finset.sum_congr rfl fun c hc => ?_)
      have := P (r - 1024 * n) c (mem_range.mp hc)
      rw [hr] at this
      rw [this]; rfl
    · rw [if_neg a]
      by_cases b : r < 1024 * n
      · rw [if_pos b, if_pos (by omega)]
      · rw [if_neg b, if_neg (by omega)]

/-- After `k` row blocks under the diagonal. -/
theorem upto_at (G : Given H j x0 x1 x2 x4 x5 δ) (i : grid0.Coords) (hi : (i 2).val = j)
    (S : (FVec Ideal S1024x128 .f32 × FVec Ideal S1024x128 .f32) × FVec Ideal S4096x128 .f32) (h : At H j (j + 1) S) :
    ∀ k ≤ (k0_t1_loop i).trips, At H j (j + 1 + k) (upto (F := Ideal) i x0 (k0_pay25 (whole x1)) (k0_pay26 (whole x2)) x4 x5 δ S k)
  | 0, _ => h
  | k + 1, hk => by
    have ih := upto_at G i hi S h k (Nat.le_of_succ_le hk)
    have := trip_at G i hi ⟨k, hk⟩ _ ih
    rw [upto, dif_pos (Nat.lt_of_succ_le hk)]
    exact this

/-- After the point: all four row blocks are in. -/
theorem final_at (G : Given H j x0 x1 x2 x4 x5 δ) (i : grid0.Coords) (hi : (i 2).val = j) (dq : FVec Ideal S4096x128 .f32)
    (hdq : Is (a := 4096) (b := 128) dq (fun r d => ∑ i ∈ range j, H.dqPart r d i)) :
    At H j 4 (final (F := Ideal) i x0 x1 x2 x4 x5 δ dq) := by
  have h := upto_at G i hi _ (start_at G i hi dq hdq) _ (Nat.le_refl _)
  have ht := trips_eq i
  have hb : (i 2).val < 4 := (i 2).isLt
  rw [show j + 1 + (k0_t1_loop i).trips = 4 by omega] at h
  exact h

/-- The row sums of gradient times output, from the blocks of output and gradient. -/
theorem delta_is (x3 x5 : FVec Ideal S4096x128 .f32) (h3 : Is (a := 4096) (b := 128) x3 H.o) (h5 : Is (a := 4096) (b := 128) x5 H.g) :
    Is (a := 4096) (b := 1) (delta (F := Ideal) x3 x5) (fun r _ => H.D r) := by
  have z : Is (a := 4096) (b := 1) (constant (F := Ideal) S4096x1 .f32 0x00000000#32) (fun _ _ => 0) := fun r c => by pointwise []; simp
  refine (put_is _ _ _ _ _ 3072 rfl (put_is _ _ _ _ _ 2048 rfl (put_is _ _ _ _ _ 1024 rfl (put_is _ _ _ _ _ 0 rfl z
    (pay16_is _ _ _ _ (rows_is _ _ _ 0 rfl _ h5) (rows_is _ _ _ 0 rfl _ h3)))
    (pay18_is _ _ _ _ (rows_is _ _ _ 1024 rfl _ h5) (rows_is _ _ _ 1024 rfl _ h3)))
    (pay20_is _ _ _ _ (rows_is _ _ _ 2048 rfl _ h5) (rows_is _ _ _ 2048 rfl _ h3)))
    (pay23_is _ _ _ _ (rows_is _ _ _ 3072 rfl _ h5) (rows_is _ _ _ 3072 rfl _ h3))).congr fun r hr _ _ => ?_
  unfold Head.D
  by_cases a3 : 3072 ≤ r
  · rw [if_pos ⟨a3, by omega⟩, show 3072 + (r - 3072) = r by omega]
  rw [if_neg (fun h => a3 h.1)]
  by_cases a2 : 2048 ≤ r
  · rw [if_pos ⟨a2, by omega⟩, show 2048 + (r - 2048) = r by omega]
  rw [if_neg (fun h => a2 h.1)]
  by_cases a1 : 1024 ≤ r
  · rw [if_pos ⟨a1, by omega⟩, show 1024 + (r - 1024) = r by omega]
  rw [if_neg (fun h => a1 h.1), if_pos ⟨Nat.zero_le _, by omega⟩, show 0 + (r - 0) = r by omega]

/-- The zeros a run begins with. -/
theorem zeros_is : Is (a := 4096) (b := 128) (zeros (F := Ideal)) (fun r d => ∑ i ∈ range 0, H.dqPart r d i) := by
  have z : Is (a := 4096) (b := 128) (constant (F := Ideal) S4096x128 .f32 0x00000000#32) (fun _ _ => 0) := fun r c => by pointwise []; simp
  refine (put_is _ _ _ _ _ 3072 rfl (put_is _ _ _ _ _ 2048 rfl (put_is _ _ _ _ _ 1024 rfl (put_is _ _ _ _ _ 0 rfl z
    pay17_is) pay19_is) pay22_is) pay24_is).congr fun r hr _ _ => ?_
  rw [Finset.sum_range_zero]
  split
  · rfl
  split
  · rfl
  split
  · rfl
  split <;> rfl

end Cert.KernelIdeal.Value

end
-- ==== Proof.Value.lean ====
module

public import proofs.«01_k».proof.Proof.Host
public import proofs.«01_k».proof.Proof.Sums

@[expose] public section

set_option maxRecDepth 16384

noncomputable section

/-! # What the kernel's run leaves in its three results

Point `t` of the grid is key block `t % 4` of head `t / 4 % 8` of sequence `t / 32`. -/

namespace Cert.KernelIdeal.Value

open Cert.KernelIdeal Cert.KernelIdeal.Gen Cert.Attn
open Idealize.ShloMosaic Idealize.ShloMosaic.TcCoe
open Finset

/-- Where the windows stand at each point. -/
theorem idx : ∀ t : Fin cfg0.N, win0_0.index t = ![t.val / 32, t.val / 4 % 8] ∧ win0_1.index t = ![t.val / 32 * 4 + t.val % 4, t.val / 4 % 8]
    ∧ win0_2.index t = ![t.val / 32 * 4 + t.val % 4, t.val / 4 % 8] ∧ win0_3.index t = ![t.val / 32, t.val / 4 % 8]
    ∧ win0_4.index t = ![t.val / 32, t.val / 4 % 8] ∧ win0_5.index t = ![t.val / 32, 12 + t.val / 4 % 8]
    ∧ win0_6.index t = ![t.val / 32, t.val / 4 % 8] ∧ win0_7.index t = ![t.val / 32 * 4 + t.val % 4, t.val / 4 % 8]
    ∧ win0_8.index t = ![t.val / 32 * 4 + t.val % 4, t.val / 4 % 8] :=
  (by decide +kernel : ∀ t : Fin grid0.N, _)

/-- The innermost grid coordinate is the key block. -/
theorem block_of (t : Fin cfg0.N) : (grid0.coords t 2).val = t.val % 4 :=
  (Pipeline.Grid.coords_val t 2 (by decide) rfl : (grid0.coords t 2).val = t.val / 1 % 4).trans (by rw [Nat.div_one])

/-- Window 3's block of any array, at coordinates. -/
theorem read3 (t : Fin cfg0.N) (X : FVec Ideal S8192x1024 .f32) (r : Fin 4096) (d : Fin 128) (h1 h2) :
    View.read (Elt Ideal) ((cfg0.win 3).blk t).view X (ix2 r d) = X (ix2 ⟨t.val / 32 * 4096 + r.val, h1⟩ ⟨t.val / 4 % 8 * 128 + d.val, h2⟩) := by
  blk_ext [idx t]

/-- Window 4's block of any array, at coordinates. -/
theorem read4 (t : Fin cfg0.N) (X : FVec Ideal S8192x1024 .f32) (r : Fin 4096) (d : Fin 128) (h1 h2) :
    View.read (Elt Ideal) ((cfg0.win 4).blk t).view X (ix2 r d) = X (ix2 ⟨t.val / 32 * 4096 + r.val, h1⟩ ⟨t.val / 4 % 8 * 128 + d.val, h2⟩) := by
  blk_ext [idx t]

variable (m : (ℓ : Loc nD τ sig) → Buf (Elt Ideal) ℓ) (c : Dev nD) {A0 A1 A2 A3 : ℕ → ℕ → ℝ}
variable (G : Args (m (c.tc.loc main_arg0)) (m (c.tc.loc main_arg1)) (m (c.tc.loc main_arg2)) (m (c.tc.loc main_arg3)) A0 A1 A2 A3)
include G

local notation "HH" => headOf A0 A1 A2 A3

/-- There are 64 grid steps. -/
theorem bound (t : Fin cfg0.N) : t.val < 64 := lt_of_lt_of_eq t.isLt (show cfg0.N = 64 from N_0)

/-- The queries' block. -/
theorem q_block (t : Fin cfg0.N) : Is (a := 4096) (b := 128) (iblk m c 0 t) (HH (t.val / 32) (t.val / 4 % 8)).q := by
  intro r d
  have ht := bound m c G t
  refine Eq.trans (b := V m c main_v30 (ix2 ⟨t.val / 32 * 4096 + r.val, by omega⟩ ⟨t.val / 4 % 8 * 128 + d.val, by omega⟩)) (by blk_ext [iblk, idx t]) ?_
  rw [entry_q]
  exact hostQ_is G _ _

/-- The keys' block. -/
theorem k_block (t : Fin cfg0.N) : Is (a := 1024) (b := 128) (iblk m c 1 t) fun r d => (HH (t.val / 32) (t.val / 4 % 8)).k (1024 * (t.val % 4) + r) d := by
  intro r d
  have ht := bound m c G t
  refine Eq.trans (b := V m c main_v31 (ix2 ⟨t.val / 32 * 4096 + (1024 * (t.val % 4) + r.val), by omega⟩ ⟨t.val / 4 % 8 * 128 + d.val, by omega⟩)) (by blk_ext [iblk, idx t]) ?_
  rw [entry_k]
  exact G.x1 _ _

/-- The values' block. -/
theorem v_block (t : Fin cfg0.N) : Is (a := 1024) (b := 128) (iblk m c 2 t) fun r d => (HH (t.val / 32) (t.val / 4 % 8)).v (1024 * (t.val % 4) + r) d := by
  intro r d
  have ht := bound m c G t
  refine Eq.trans (b := V m c main_v32 (ix2 ⟨t.val / 32 * 4096 + (1024 * (t.val % 4) + r.val), by omega⟩ ⟨t.val / 4 % 8 * 128 + d.val, by omega⟩)) (by blk_ext [iblk, idx t]) ?_
  rw [entry_v]
  exact G.x2 _ _

/-- The outputs' block. -/
theorem o_block (t : Fin cfg0.N) : Is (a := 4096) (b := 128) (iblk m c 3 t) (HH (t.val / 32) (t.val / 4 % 8)).o := by
  intro r d
  have ht := bound m c G t
  refine (read3 t (V m c main_v28) r d (by omega) (by omega)).trans ?_
  rw [entry_o]
  refine (oArr_is G _ _).trans ?_
  dsimp only
  rw [show (t.val / 32 * 4096 + r.val) / 4096 = t.val / 32 by omega, show (t.val / 32 * 4096 + r.val) % 4096 = r.val by omega,
    show (t.val / 4 % 8 * 128 + d.val) / 128 = t.val / 4 % 8 by omega, show (t.val / 4 % 8 * 128 + d.val) % 128 = d.val by omega]

/-- The logarithms' block. -/
theorem lse_block (t : Fin cfg0.N) : Is (a := 4096) (b := 128) (iblk m c 4 t) fun r _ => (HH (t.val / 32) (t.val / 4 % 8)).lse r := by
  intro r d
  have ht := bound m c G t
  refine (read4 t (V m c main_v29) r d (by omega) (by omega)).trans ?_
  rw [entry_lse]
  refine (lseArr_is G _ _).trans ?_
  dsimp only
  rw [show (t.val / 32 * 4096 + r.val) / 4096 = t.val / 32 by omega, show (t.val / 32 * 4096 + r.val) % 4096 = r.val by omega,
    show (t.val / 4 % 8 * 128 + d.val) / 128 = t.val / 4 % 8 by omega]

/-- The gradient's block. -/
theorem g_block (t : Fin cfg0.N) : Is (a := 4096) (b := 128) (iblk m c 5 t) (HH (t.val / 32) (t.val / 4 % 8)).g := by
  intro r d
  have ht := bound m c G t
  refine Eq.trans (b := V m c main_arg3 (ix2 ⟨t.val / 32 * 4096 + r.val, by omega⟩ ⟨1536 + (t.val / 4 % 8 * 128 + d.val), by omega⟩)) (by blk_ext [iblk, idx t]) ?_
  rw [V_main_arg3]
  exact G.x3 _ _

/-- What every point is given, the row sums its head's. -/
theorem given_at (t : Fin cfg0.N) (δ : S4096x1.Idx → EReal) (h : Is (a := 4096) (b := 1) δ fun r _ => (HH (t.val / 32) (t.val / 4 % 8)).D r) :
    Given (HH (t.val / 32) (t.val / 4 % 8)) (t.val % 4) (iblk m c 0 t) (iblk m c 1 t) (iblk m c 2 t) (iblk m c 4 t) (iblk m c 5 t) δ where
  q := q_block m c G t
  k := k_block m c G t
  v := v_block m c G t
  lse := lse_block m c G t
  g := g_block m c G t
  D := h

/-- What point `t` leaves, the head's row sums and the queries' gradient from the blocks before given. -/
theorem point_is (t : Fin cfg0.N) (δ : FVec Ideal S4096x1 .f32) (dq : FVec Ideal S4096x128 .f32)
    (h : Is (a := 4096) (b := 1) δ fun r _ => (HH (t.val / 32) (t.val / 4 % 8)).D r)
    (hdq : Is (a := 4096) (b := 128) dq fun r d => ∑ i ∈ range (t.val % 4), (HH (t.val / 32) (t.val / 4 % 8)).dqPart r d i) :
    At (HH (t.val / 32) (t.val / 4 % 8)) (t.val % 4) 4
      (final (F := Ideal) (grid0.coords t) (iblk m c 0 t) (iblk m c 1 t) (iblk m c 2 t) (iblk m c 4 t) (iblk m c 5 t) δ dq) :=
  final_at (given_at m c G t δ h) (grid0.coords t) (block_of t) dq hdq

/-- What point `n` leaves: the head's row sums, its keys' and values' gradients in the block's rows, its queries' gradient so far. -/
theorem left_is : ∀ (n : ℕ) (hn : n < cfg0.N),
    Is (a := 4096) (b := 1) (left m c n hn).1 (fun r _ => (HH (n / 32) (n / 4 % 8)).D r)
      ∧ At (HH (n / 32) (n / 4 % 8)) (n % 4) 4 (left m c n hn).2 := by
  have first (t : Fin cfg0.N) (h : t.val % 4 = 0) :
      Is (a := 4096) (b := 1) (left m c t.val t.isLt).1 (fun r _ => (HH (t.val / 32) (t.val / 4 % 8)).D r)
        ∧ At (HH (t.val / 32) (t.val / 4 % 8)) (t.val % 4) 4 (left m c t.val t.isLt).2 := by
    have hD := delta_is (iblk m c 3 t) (iblk m c 5 t) (o_block m c G t) (g_block m c G t)
    rw [left_first m c t h]
    refine ⟨hD, point_is m c G t _ _ hD ?_⟩
    rw [h]
    exact zeros_is
  intro n
  induction n with
  | zero => exact fun hn => first ⟨0, hn⟩ rfl
  | succ n ih =>
    intro hn
    by_cases h : (n + 1) % 4 = 0
    · exact first ⟨n + 1, hn⟩ h
    · obtain ⟨hD, hS⟩ := ih (by omega)
      have e1 : n / 32 = (n + 1) / 32 := by omega
      have e2 : n / 4 % 8 = (n + 1) / 4 % 8 := by omega
      have e3 : n % 4 + 1 = (n + 1) % 4 := by omega
      rw [e1, e2] at hD hS
      rw [left_next m c ⟨n + 1, hn⟩ h]
      refine ⟨hD, point_is m c G ⟨n + 1, hn⟩ _ _ hD (hS.dq.congr fun r hr d _ => ?_)⟩
      rw [if_pos (show r < 1024 * 4 from hr), e3]

/-- The gradients, as arrays of the results' shape. -/
def out (f : Head → ℕ → ℕ → ℝ) (A0 A1 A2 A3 : ℕ → ℕ → ℝ) : S8192x1024.Idx → EReal :=
  fun i => ((f (headOf A0 A1 A2 A3 ((i 0).val / 4096) ((i 1).val / 128)) ((i 0).val % 4096) ((i 1).val % 128) : ℝ) : EReal)

omit G in
/-- An array that holds the gradients is that array. -/
theorem out_of (f : Head → ℕ → ℕ → ℝ) (x : S8192x1024.Idx → EReal)
    (h : Is (a := 8192) (b := 1024) x fun R C => f (HH (R / 4096) (C / 128)) (R % 4096) (C % 128)) : x = out f A0 A1 A2 A3 := by
  funext i
  rw [show i = ix2 (i 0) (i 1) by blk_ext]
  exact h _ _

/-- After the run the first result holds the queries' gradient. -/
theorem dq_final : (dats m 0 c).arrAt 6 (cfgs 0).N = out Head.dq A0 A1 A2 A3 := by
  refine (dats m 0 c).arrAt_eq_of_covers 6 _ (by decide +kernel) fun t hf y => ?_
  have ht := bound m c G t
  have h3 := (flush0_6 t).mp hf
  blk_simp
  rw [after_6]
  have hy0 : (y 0).val < 4096 := (y 0).isLt
  have hy1 : (y 1).val < 128 := (y 1).isLt
  have e0 : ((win0_6.blk t).view.emb y 0).val = t.val / 32 * 4096 + (y 0).val := by
    blk_simp [idx t]
    try omega
  have e1 : ((win0_6.blk t).view.emb y 1).val = t.val / 4 % 8 * 128 + (y 1).val := by
    blk_simp [idx t]
    try omega
  refine Eq.trans (b := (left m c t.val t.isLt).2.2 (ix2 (⟨(y 0).val, hy0⟩ : Fin 4096) (⟨(y 1).val, hy1⟩ : Fin 128))) (congrArg (left m c t.val t.isLt).2.2 (by blk_ext)) ?_
  refine ((left_is m c G t.val t.isLt).2.dq (⟨(y 0).val, hy0⟩ : Fin 4096) (⟨(y 1).val, hy1⟩ : Fin 128)).trans ?_
  unfold out
  rw [e0, e1]
  rw [show (t.val / 32 * 4096 + (y 0).val) / 4096 = t.val / 32 by omega, show (t.val / 32 * 4096 + (y 0).val) % 4096 = (y 0).val by omega,
    show (t.val / 4 % 8 * 128 + (y 1).val) / 128 = t.val / 4 % 8 by omega, show (t.val / 4 % 8 * 128 + (y 1).val) % 128 = (y 1).val by omega]
  dsimp only
  rw [if_pos (show (y 0).val < 1024 * 4 from hy0), h3]
  rw [Head.dq_blocks]

/-- After the run the second result holds the keys' gradient. -/
theorem dk_final : (dats m 0 c).arrAt 7 (cfgs 0).N = out Head.dk A0 A1 A2 A3 := by
  refine (dats m 0 c).arrAt_eq_of_covers 7 _ (by decide +kernel) fun t hf y => ?_
  have ht := bound m c G t
  blk_simp
  rw [after_7]
  have hy0 : (y 0).val < 1024 := (y 0).isLt
  have hy1 : (y 1).val < 128 := (y 1).isLt
  have e0 : ((win0_7.blk t).view.emb y 0).val = (t.val / 32 * 4 + t.val % 4) * 1024 + (y 0).val := by
    blk_simp [idx t]
    try omega
  have e1 : ((win0_7.blk t).view.emb y 1).val = t.val / 4 % 8 * 128 + (y 1).val := by
    blk_simp [idx t]
    try omega
  refine Eq.trans (b := (left m c t.val t.isLt).2.1.1 (ix2 (⟨(y 0).val, hy0⟩ : Fin 1024) (⟨(y 1).val, hy1⟩ : Fin 128))) (congrArg (left m c t.val t.isLt).2.1.1 (by blk_ext)) ?_
  refine ((left_is m c G t.val t.isLt).2.dk (⟨(y 0).val, hy0⟩ : Fin 1024) (⟨(y 1).val, hy1⟩ : Fin 128)).trans ?_
  unfold out
  rw [e0, e1]
  rw [show ((t.val / 32 * 4 + t.val % 4) * 1024 + (y 0).val) / 4096 = t.val / 32 by omega, show ((t.val / 32 * 4 + t.val % 4) * 1024 + (y 0).val) % 4096 = 1024 * (t.val % 4) + (y 0).val by omega,
    show (t.val / 4 % 8 * 128 + (y 1).val) / 128 = t.val / 4 % 8 by omega, show (t.val / 4 % 8 * 128 + (y 1).val) % 128 = (y 1).val by omega]
  dsimp only
  rw [Head.dk_blocks]

/-- After the run the third result holds the values' gradient. -/
theorem dv_final : (dats m 0 c).arrAt 8 (cfgs 0).N = out Head.dv A0 A1 A2 A3 := by
  refine (dats m 0 c).arrAt_eq_of_covers 8 _ (by decide +kernel) fun t hf y => ?_
  have ht := bound m c G t
  blk_simp
  rw [after_8]
  have hy0 : (y 0).val < 1024 := (y 0).isLt
  have hy1 : (y 1).val < 128 := (y 1).isLt
  have e0 : ((win0_8.blk t).view.emb y 0).val = (t.val / 32 * 4 + t.val % 4) * 1024 + (y 0).val := by
    blk_simp [idx t]
    try omega
  have e1 : ((win0_8.blk t).view.emb y 1).val = t.val / 4 % 8 * 128 + (y 1).val := by
    blk_simp [idx t]
    try omega
  refine Eq.trans (b := (left m c t.val t.isLt).2.1.2 (ix2 (⟨(y 0).val, hy0⟩ : Fin 1024) (⟨(y 1).val, hy1⟩ : Fin 128))) (congrArg (left m c t.val t.isLt).2.1.2 (by blk_ext)) ?_
  refine ((left_is m c G t.val t.isLt).2.dv (⟨(y 0).val, hy0⟩ : Fin 1024) (⟨(y 1).val, hy1⟩ : Fin 128)).trans ?_
  unfold out
  rw [e0, e1]
  rw [show ((t.val / 32 * 4 + t.val % 4) * 1024 + (y 0).val) / 4096 = t.val / 32 by omega, show ((t.val / 32 * 4 + t.val % 4) * 1024 + (y 0).val) % 4096 = 1024 * (t.val % 4) + (y 0).val by omega,
    show (t.val / 4 % 8 * 128 + (y 1).val) / 128 = t.val / 4 % 8 by omega, show (t.val / 4 % 8 * 128 + (y 1).val) % 128 = (y 1).val by omega]
  dsimp only
  rw [Head.dv_blocks]

end Cert.KernelIdeal.Value

end
-- ==== Proof.Ref.lean ====
module

public import proofs.«01_k».proof.Proof.Heads
public import proofs.«01_k».proof.Proof.Gen.ReferenceIdeal.Read
public import Idealize.ShloMosaic.Lib.Pipeline.ValueKit
public import Idealize.ShloMosaic.Lib.IdealHost

@[expose] public section

set_option maxRecDepth 16384

noncomputable section

/-! # What the reference computes, in the reals

Every array of the reference on the way to its three results, read at an index as the quantity of a head that it holds. -/

namespace Cert.ReferenceIdeal.Value

open Cert.ReferenceIdeal Cert.ReferenceIdeal.Gen Cert.ReferenceIdeal.Read Cert.Attn
open Cert.KernelIdeal.Value (Is sum_mul)
open Idealize.ShloMosaic Idealize.ShloMosaic.TcCoe
open Finset

variable {x0 x1 x2 : FVec Ideal S8192x1024 .f32} {x3 : FVec Ideal S8192x2560 .f32} {A0 A1 A2 A3 : ℕ → ℕ → ℝ}

section

variable (G : Args x0 x1 x2 x3 A0 A1 A2 A3)
include G

local notation "HH" => headOf A0 A1 A2 A3

/-- The scaled queries. -/
theorem q_is (b : Fin 2) (r : Fin 4096) (h : Fin 8) (d : Fin 128) :
    val_main_v2 (F := Ideal) x0 (ix4 b r h d) = (((HH b h).q r d : ℝ) : EReal) := by
  pointwise [val_main_v2, val_main_v1, val_main_v0, val_main_cst]
  rw [G.x0, scale_eq, ← EReal.coe_mul]; rfl

/-- The keys. -/
theorem k_is (b : Fin 2) (r : Fin 4096) (h : Fin 8) (d : Fin 128) :
    val_main_v3 (F := Ideal) x1 (ix4 b r h d) = (((HH b h).k r d : ℝ) : EReal) := by
  pointwise [val_main_v3]
  rw [G.x1]; rfl

/-- The values. -/
theorem v_is (b : Fin 2) (r : Fin 4096) (h : Fin 8) (d : Fin 128) :
    val_main_v4 (F := Ideal) x2 (ix4 b r h d) = (((HH b h).v r d : ℝ) : EReal) := by
  pointwise [val_main_v4]
  rw [G.x2]; rfl

/-- The gradient of the output. -/
theorem g_is (b : Fin 2) (h : Fin 8) (d : Fin 128) (r : Fin 4096) :
    val_main_v46 (F := Ideal) x3 (ix4 b h d r) = (((HH b h).g r d : ℝ) : EReal) := by
  pointwise [val_main_v46, val_main_v45, val_main_v44]
  rw [G.x3]; rfl

/-- The scores. -/
theorem s_is (b : Fin 2) (h : Fin 8) (r c : Fin 4096) :
    val_main_v5 (F := Ideal) x0 x1 (ix4 b h r c) = (((HH b h).s r c : ℝ) : EReal) := by
  pointwise [val_main_v5]
  exact sum_mul _ _ (fun d => (HH b h).q r d) (fun d => (HH b h).k c d) (q_is G b r h) (k_is G b c h)

/-- The scores up to the diagonal. -/
theorem masked_is (b : Fin 2) (h : Fin 8) (r c : Fin 4096) :
    val_main_v12_0 (F := Ideal) x0 x1 (ix4 b h r c) = masked (HH b h).s r c := by
  pointwise [val_main_v12_0, val_main_v12_1, val_main_v11, val_main_v10, val_main_v9, val_main_v8, val_main_v7, val_main_v6, val_main_call0_v2, val_main_call0_v0, val_main_cst_0]
  rw [mask _ _ c.isLt r.isLt, s_is G]
  exact if_congr Iff.rfl rfl bot_eq

/-- Each row's largest score. -/
theorem max_is (b : Fin 2) (h : Fin 8) (r : Fin 4096) :
    val_main_v13 (F := Ideal) x0 x1 (ix3 b h r) = (((HH b h).μ r : ℝ) : EReal) := by
  pointwise [val_main_v13, val_main_cst_1]
  rw [bot_eq, show (fun x => val_main_v12_0 (F := Ideal) x0 x1 (ix4 b h r x)) = masked (HH b h).s r from funext fun c => masked_is G b h r c]
  exact fold_masked _ _ r.isLt

omit G in
/-- The exponential of a score less its row's entry, that entry not below `-∞`. -/
theorem exp_at (S : FVec Ideal S2x8x4096x4096 .f32) (y : FVec Ideal S2x8x4096 .f32) (b : Fin 2) (h : Fin 8) (r c : Fin 4096) :
    Host.exp (subf S (broadcastInDim S2x8x4096x4096 ![0, 1, 2, 3] bcast_S2x8x4096x1_S2x8x4096x4096_0_1_2_3
      (broadcastInDim S2x8x4096x1 ![0, 1, 2] bcast_S2x8x4096_S2x8x4096x1_0_1_2
        (maximumf (broadcastInDim S2x8x4096 ![] bcast_S_S2x8x4096 (constant S_ .f32 0xFF800000#32)) y)))) (ix4 b h r c)
      = Ideal.exp (S (ix4 b h r c) - max (Ideal.ofBits .f32 0xFF800000#32) (y (ix3 b h r))) := by
  pointwise []

/-- The unnormalised weights. -/
theorem e_is (b : Fin 2) (h : Fin 8) (r c : Fin 4096) :
    val_main_v33 (F := Ideal) x0 x1 (ix4 b h r c) = (((HH b h).e r c : ℝ) : EReal) := by
  refine (exp_at (val_main_v12_0 (F := Ideal) x0 x1) (val_main_v13 (F := Ideal) x0 x1) b h r c).trans ?_
  rw [masked_is G, max_is G, bot_eq, max_eq_right bot_le]
  exact exp_masked _ _ _

/-- The rows' sums. -/
theorem l_is (b : Fin 2) (h : Fin 8) (r : Fin 4096) :
    val_main_v34 (F := Ideal) x0 x1 (ix3 b h r) = (((HH b h).l r : ℝ) : EReal) := by
  pointwise [val_main_v34, val_main_cst_9]
  exact sum_fin _ (fun c => (HH b h).e r c) (fun c => e_is G b h r c)

/-- The weights. -/
theorem p_is (b : Fin 2) (h : Fin 8) (r c : Fin 4096) :
    val_main_v37 (F := Ideal) x0 x1 (ix4 b h r c) = (((HH b h).p r c : ℝ) : EReal) := by
  pointwise [val_main_v37, val_main_v36, val_main_v35]
  rw [e_is G, l_is G, div_coe _ _ ((HH b h).l_pos r r.isLt).ne', (HH b h).p_eq r c r.isLt]

/-- The gradient of the weights. -/
theorem dp_is (b : Fin 2) (h : Fin 8) (r c : Fin 4096) :
    val_main_v47 (F := Ideal) x2 x3 (ix4 b h r c) = (((HH b h).dp r c : ℝ) : EReal) := by
  pointwise [val_main_v47]
  exact sum_mul _ _ (fun d => (HH b h).g r d) (fun d => (HH b h).v c d) (fun d => g_is G b h d r) (v_is G b c h)

/-- The gradient of the scores. -/
theorem ds_is (b : Fin 2) (h : Fin 8) (r c : Fin 4096) :
    val_main_v62 (F := Ideal) x0 x1 x2 x3 (ix4 b h r c) = (((HH b h).ds r c : ℝ) : EReal) := by
  have hl := ((HH b h).l_pos r r.isLt).ne'
  pointwise [val_main_v62, val_main_v12_1, val_main_v11, val_main_v10, val_main_v9, val_main_v8, val_main_v7, val_main_v6, val_main_call1_v0, val_main_call1_cst, val_main_v61, val_main_v60, val_main_v59, val_main_v58, val_main_v57, val_main_v56, val_main_v55, val_main_v54, val_main_v53, val_main_cst_11, val_main_cst_12, val_main_v52, val_main_v51, val_main_v50, val_main_v40, val_main_v39, val_main_v38, val_main_v35, val_main_cst_10]
  rw [mask _ _ c.isLt r.isLt, l_is G, dp_is G, e_is G, div_coe _ _ hl, ← EReal.coe_mul, ← EReal.coe_one, div_coe _ _ (mul_ne_zero hl hl),
    Finset.sum_const, Finset.card_univ, Fintype.card_fin, one_smul,
    sum_fin (n := 4096) _ (fun j => (HH b h).dp r j * (1 / ((HH b h).l r * (HH b h).l r)) * (HH b h).e r j)
      (fun j => by rw [dp_is G, e_is G, ← EReal.coe_mul, ← EReal.coe_mul])]
  rw [← EReal.coe_neg, ← EReal.coe_add, ← EReal.coe_mul, (HH b h).ds_eq r c r.isLt]
  split
  · rfl
  · rw [(HH b h).ds_zero r c (by omega)]; rfl

/-- The gradient of the values, before its axes are put back. -/
theorem dv_at (b : Fin 2) (h : Fin 8) (d : Fin 128) (c : Fin 4096) :
    val_main_v48 (F := Ideal) x0 x1 x3 (ix4 b h d c) = (((HH b h).dv c d : ℝ) : EReal) := by
  pointwise [val_main_v48]
  refine (sum_mul _ _ (fun r => (HH b h).g r d) (fun r => (HH b h).p r c) (g_is G b h d) (fun r => p_is G b h r c)).trans ?_
  exact congrArg _ (Finset.sum_congr rfl fun r _ => mul_comm _ _)

/-- The gradient of the keys, before its axes are put back. -/
theorem dk_at (b : Fin 2) (h : Fin 8) (c : Fin 4096) (d : Fin 128) :
    val_main_v63 (F := Ideal) x0 x1 x2 x3 (ix4 b h c d) = (((HH b h).dk c d : ℝ) : EReal) := by
  pointwise [val_main_v63]
  exact sum_mul _ _ (fun r => (HH b h).ds r c) (fun r => (HH b h).q r d) (fun r => ds_is G b h r c) (fun r => q_is G b r h d)

/-- The gradient of the queries, before its axes are put back. -/
theorem dq_at (b : Fin 2) (h : Fin 8) (r : Fin 4096) (d : Fin 128) :
    val_main_v65 (F := Ideal) x0 x1 x2 x3 (ix4 b h r d) = (((HH b h).dq r d : ℝ) : EReal) := by
  pointwise [val_main_v65]
  exact sum_mul _ _ (fun c => (HH b h).ds r c) (fun c => (HH b h).k c d) (ds_is G b h r) (fun c => k_is G b c h d)

/-- The result that is the gradient of the queries. -/
theorem dq_is : Is (a := 8192) (b := 1024) (val_main_v69 (F := Ideal) x0 x1 x2 x3) fun R C => (HH (R / 4096) (C / 128)).dq (R % 4096) (C % 128) := by
  intro R C
  pointwise [val_main_v69, val_main_v66]
  exact dq_at G _ _ _ _

/-- The result that is the gradient of the keys. -/
theorem dk_is : Is (a := 8192) (b := 1024) (val_main_v68 (F := Ideal) x0 x1 x2 x3) fun R C => (HH (R / 4096) (C / 128)).dk (R % 4096) (C % 128) := by
  intro R C
  pointwise [val_main_v68, val_main_v64]
  exact dk_at G _ _ _ _

/-- The result that is the gradient of the values. -/
theorem dv_is : Is (a := 8192) (b := 1024) (val_main_v67 (F := Ideal) x0 x1 x3) fun R C => (HH (R / 4096) (C / 128)).dv (R % 4096) (C % 128) := by
  intro R C
  pointwise [val_main_v67, val_main_v49]
  exact dv_at G _ _ _ _

end

end Cert.ReferenceIdeal.Value

end
-- ==== Proof.Finite.lean ====
module

public import proofs.«01_k».proof.Defs
public import proofs.«01_k».proof.Proof.Heads
public import Idealize.ShloMosaic.Lib.Pipeline.ValueKit
public import Idealize.ShloMosaic.Lib.ReduceAll

@[expose] public section

set_option maxRecDepth 16384

noncomputable section

/-! # What the precondition says: every entry of the four arguments is a real number -/

namespace Cert.Finite

open Cert.Attn Cert.KernelIdeal.Value
open Idealize.ShloMosaic Idealize.ShloMosaic.TcCoe

/-- The side conditions the predicate states. -/
instance facts : Cert.Pre_finite.Facts := ⟨by decide, by decide, by decide, by decide, by decide⟩

/-- An extended real whose absolute value is below `+∞` is a real. -/
theorem coe_of_abs (a : EReal) (h : max a (-a) < ⊤) : ((a.toReal : ℝ) : EReal) = a := by
  have h1 : a ≠ ⊤ := fun e => by rw [e] at h; simp at h
  have h2 : a ≠ ⊥ := fun e => by rw [e] at h; simp at h
  exact EReal.coe_toReal h1 h2

/-- The array's entries as reals, zero outside it. -/
def real {a b : ℕ} (x : (⟨2, ![a, b]⟩ : Shape).Idx → EReal) (r c : ℕ) : ℝ :=
  if h : r < a ∧ c < b then (x (ix2 ⟨r, h.1⟩ ⟨c, h.2⟩)).toReal else 0

/-- An array whose entries are reals holds its entries as reals. -/
theorem real_is {a b : ℕ} (x : (⟨2, ![a, b]⟩ : Shape).Idx → EReal) (h : ∀ r c, max (x (ix2 r c)) (-x (ix2 r c)) < ⊤) : Is x (real x) := by
  intro r c
  unfold real
  rw [dif_pos ⟨r.isLt, c.isLt⟩]
  exact (coe_of_abs _ (h r c)).symm

/-- A comparison that says one holds. -/
theorem of_one {p : Prop} [Decidable p] (h : BitVec.ofBool (decide p) = 1#1) : p := by
  by_contra hp
  rw [decide_eq_false hp] at h
  exact absurd h (by decide)

/-- Under the precondition the four arguments hold real numbers. -/
theorem args (x0 x1 x2 : FVec Ideal Cert.Pre_finite.S8192x1024 .f32) (x3 : FVec Ideal Cert.Pre_finite.S8192x2560 .f32)
    (h : Cert.Pre_finite.fn (F := Ideal) x0 x1 x2 x3 = fun _ => 1#1) : Args x0 x1 x2 x3 (real x0) (real x1) (real x2) (real x3) := by
  have e := congrFun h ix0
  dsimp only [Cert.Pre_finite.fn, Cert.Pre_finite.fn_part1] at e
  obtain ⟨e, e3⟩ := IntOp.andi_eq_one.1 e
  obtain ⟨e, e2⟩ := IntOp.andi_eq_one.1 e
  obtain ⟨e0, e1⟩ := IntOp.andi_eq_one.1 e
  refine ⟨real_is _ fun r c => ?_, real_is _ fun r c => ?_, real_is _ fun r c => ?_, real_is _ fun r c => ?_⟩
  · have hb := Host.reduce_andi_all _ _ _ _ _ e0 (ix2 r c)
    pointwise at hb
    rw [top_eq] at hb
    exact of_one hb
  · have hb := Host.reduce_andi_all _ _ _ _ _ e1 (ix2 r c)
    pointwise at hb
    rw [top_eq] at hb
    exact of_one hb
  · have hb := Host.reduce_andi_all _ _ _ _ _ e2 (ix2 r c)
    pointwise at hb
    rw [top_eq] at hb
    exact of_one hb
  · have hb := Host.reduce_andi_all _ _ _ _ _ e3 (ix2 r c)
    pointwise at hb
    rw [top_eq] at hb
    exact of_one hb

end Cert.Finite

end
-- ==== Proof.Twin.lean ====
module

public import proofs.«01_k».proof.Proof.Run
public import proofs.«01_k».proof.Proof.Gen.Kernel
public import proofs.«01_k».proof.Defs

@[expose] public section

set_option maxRecDepth 16384

noncomputable section

open Idealize.ShloMosaic Idealize.SL.Sem

/-! # The kernel over machine numbers is the program whose run `Run` gives, taken at machine numbers -/

namespace Cert.Twin

/-- The two programs' tables of bodies are one. -/
theorem bodies : Cert.KernelIdeal.defs₀ (F := Bits) = Cert.Kernel.defs₀ (F := Bits) := by
  unfold Cert.KernelIdeal.defs₀ Cert.Kernel.defs₀
  refine congrArg Defs.onTc ?_
  funext ℓ x
  match ℓ, x with
  | 0, (t, s) => rfl

/-- The two programs' tables of bodies and pipelines are one. -/
theorem table : Cert.KernelIdeal.defs (F := Bits) = Cert.Kernel.defs (F := Bits) :=
  congrArg (Pipeline.defs Cert.Kernel.pcfgs) bodies

set_option maxHeartbeats 2000000 in
/-- The two programs' host code is one. -/
theorem code : Cert.KernelIdeal.main (F := Bits) = Cert.Kernel.main (F := Bits) := rfl

/-- A run of a program is a run of an equal one. -/
theorem carry {nD : ℕ} {τ : Topo} {sig : RefSig} {Λ : Labels} {d d' : Defs nD τ sig (Elt Bits) Λ} (hd : d = d')
    {p p' : Dev nD → Prog (TpuEff nD τ sig (Elt Bits) Λ .tc) PUnit} (hp : p = p') {s : MemSt nD τ sig (Elt Bits)} {Q}
    (h : θ_run d (onTc p) s Q) : θ_run d' (onTc p') s Q := by
  subst hd; subst hp; exact h

/-- The kernel over machine numbers ends with its arguments unchanged and every counter at zero. -/
theorem frame : Cert.quiescent_Kernel := fun m ρ _ =>
  carry table code (Cert.KernelIdeal.Gen.frame_main (F := Bits) m ρ)

end Cert.Twin

end
-- ==== Proof.DownInput.lean ====
module

public import proofs.«01_k».proof.Defs
public import proofs.«01_k».proof.Proof.Gen.Kernel2Ideal.Frame
public import proofs.«01_k».proof.Proof.Gen.Reference2Ideal
public import Idealize.ShloMosaic.Lib.Pipeline.ValueKit
public import Idealize.ShloMosaic.Lib.Claim
public import Idealize.ShloMosaic.Init

/-! The product that is the input gradient of the down projection: what its kernel
leaves in the result, and that the reference leaves the same. -/

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry. -/
abbrev REF (X : FVec Ideal S8192x1024 .f32) (W : FVec Ideal S2816x1024 .f32) : FVec Ideal S8192x2816 .f32 :=
  fun y => (∑ k : Fin 1024, X (ix2 (y 0) k) * W (ix2 (y 1) k))

/-- The blocks a point of the grid reads and the block it writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The block the body stores, entry by entry. -/
theorem pay_at (x0 : Vec Ideal S1024x1024 .f32) (x1 : Vec Ideal S1408x1024 .bf16) (y) :
    k0_pay1 (F := Ideal) x0 x1 y = (∑ k : Fin 1024, x0 (ix2 (y 0) k) * x1 (ix2 (y 1) k)) := by
  pointwise [k0_pay1]
  done

/-- The narrowed copy of an argument holds the argument's entries. -/
theorem entry_v0 (c : Dev nD) (y) : V m c main_v0 y = m ((c.tc : Thread nD τ).loc main_arg0) y := by
  entry_read
  pointwise
  done

/-- The kernel leaves the product in its result. -/
theorem final (c : Dev nD) : (dats m 0 c).arrAt 2 (cfgs 0).N
    = REF (m ((c.tc : Thread nD τ).loc main_arg1)) (m ((c.tc : Thread nD τ).loc main_arg0)) := by
  refine (dats m 0 c).arrAt_eq_of_covers 2 _ (by decide +kernel) fun t _ y => ?_
  blk_simp
  rw [after0_2]; frame_out
  refine (pay_at _ _ _).trans ?_
  refine Fin.sum_fin_congr fun k => congrArg₂ (· * ·) ?_ ?_
  · blk_ext [iblk, V, idx t]
  · blk_simp [iblk]
    rw [entry_v0]
    blk_ext [idx t]

/-- Kernel and reference leave the same result. -/
theorem algebraic : Cert.algebraic_Kernel2Ideal_Reference2Ideal := by
  pair_intro
  · run_from Cert.Kernel2Ideal.Gen.run_main m g
  · hlo_run
    rw [final m c]
    funext y
    pointwise

/-- The reference runs to its end and leaves nothing pending. -/
theorem frame_reference : Cert.quiescent_Reference2Ideal := by
  intro m g _
  hlo_run
  · exact fun _ => ⟨trivial, trivial⟩
  · exact Idealize.ShloMosaic.sem_eq_zero_of_no_sems (by decide) _

end Cert.Kernel2Ideal.Value

end
-- ==== Proof.DownWeight.lean ====
module

public import proofs.«01_k».proof.Defs
public import proofs.«01_k».proof.Proof.Gen.Kernel3Ideal.Frame
public import proofs.«01_k».proof.Proof.Gen.Reference3Ideal
public import Idealize.ShloMosaic.Lib.Pipeline.ValueKit
public import Idealize.ShloMosaic.Lib.Claim
public import Idealize.ShloMosaic.Init

/-! The product that is the weight gradient of the down projection: what its kernel
leaves in the result, and that the reference leaves the same. -/

@[expose] public section

set_option maxRecDepth 16384

noncomputable section

namespace Cert.Kernel3Ideal.Value

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula: entry `(i, j)` sums the products of the entries `i` and `j` of the rows. -/
abbrev REF (X : FVec Ideal S8192x2816 .f32) (W : FVec Ideal S8192x1024 .f32) : FVec Ideal S2816x1024 .bf16 :=
  fun y => ∑ k : Fin 8192, X (ix2 k (y 0)) * W (ix2 k (y 1))

/-- The blocks a point of the grid reads and the block it writes. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of two blocks, as the first point of a run stores it. -/
theorem pay2_at (x0 : Vec Ideal S1024x1408 .bf16) (x1 : Vec Ideal S1024x1024 .f32) (y) :
    k0_pay2 (F := Ideal) x0 x1 y = ∑ k : Fin 1024, x0 (ix2 k (y 0)) * x1 (ix2 k (y 1)) := by
  pointwise [k0_pay2, k0_pay1]
  done

/-- The sum so far plus the product of two blocks, as a later point stores it. -/
theorem pay3_at (x0 : Vec Ideal S1024x1408 .bf16) (x1 : Vec Ideal S1024x1024 .f32) (a) (y) :
    k0_pay3 (F := Ideal) x0 x1 a y = a y + ∑ k : Fin 1024, x0 (ix2 k (y 0)) * x1 (ix2 k (y 1)) := by
  pointwise [k0_pay3, k0_pay1]
  done

/-- The last point of a run writes the sum out unchanged. -/
theorem pay4_at (a : Vec Ideal S1408x1024 .f32) (y) : k0_pay4 (F := Ideal) a y = a y := by
  pointwise [k0_pay4]
  done

/-- The narrowed copy of an argument holds the argument's entries. -/
theorem entry_v0 (c : Dev nD) (y) : V m c main_v0 y = m ((c.tc : Thread nD τ).loc main_arg0) y := by
  entry_read
  pointwise
  done

/-- What one point of a run adds to the sum. -/
def part (c : Dev nD) (t : Fin cfg0.N) (y : S1408x1024.Idx) : EReal :=
  ∑ k : Fin 1024, (show Vec Ideal S1024x1408 .bf16 from iblk m c 0 t) (ix2 k (y 0)) * (show Vec Ideal S1024x1024 .f32 from iblk m c 1 t) (ix2 k (y 1))

/-- The first point of a run leaves its own part. -/
theorem first (c : Dev nD) (t : Fin cfg0.N) (h : t.val % 8 = 0) (y) : (outsAt0 m c t.val t.isLt).2 y = 0 + part m c t y := by
  rw [outsAt0_A m c t h (by omega) (by omega)]; frame_out
  rw [zero_add]; exact pay2_at _ _ y

/-- A later point of a run adds its part to what the point before it left. -/
theorem later (c : Dev nD) (t : Fin cfg0.N) (h : ¬ t.val % 8 = 0) (y) :
    (outsAt0 m c t.val t.isLt).2 y = (outsAt0 m c (t.val - 1) (Nat.lt_of_le_of_lt (Nat.sub_le _ _) t.isLt)).2 y + part m c t y := by
  by_cases h7 : t.val % 8 = 7
  · rw [outsAt0_C m c t h (by omega) h7]; frame_out
    exact (pay3_at _ _ _ y).trans (congrArg (· + _) (congrFun (Memref.IsWhole.read_unread _ _) y))
  · rw [outsAt0_B m c t h (by omega) h7]; frame_out
    exact (pay3_at _ _ _ y).trans (congrArg (· + _) (congrFun (Memref.IsWhole.read_unread _ _) y))

/-- The last point of a run writes out the sum it has just completed. -/
theorem last (c : Dev nD) (t : Fin cfg0.N) (h : t.val % 8 = 7) (y) :
    (outsAt0 m c t.val t.isLt).1 y = (outsAt0 m c t.val t.isLt).2 y := by
  rw [later m c t (by omega) y]
  rw [outsAt0_C m c t (by omega) (by omega) h]; frame_out
  refine (pay4_at _ y).trans ?_
  exact (pay3_at _ _ _ y).trans (congrArg (· + _) (congrFun (Memref.IsWhole.read_unread _ _) y))

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  have h7 := (flush0_2 t).mp hf
  blk_simp
  rw [after0_2]
  refine (last m c t h7 y).trans ?_
  rw [Pipeline.eq_sum_fin_of_reset_step_apply_of_flush (fun n h => (outsAt0 m c n h).2) 8 (fun _ => 0) (part m c) (first m c) (later m c) t h7 y, zero_add]
  unfold part REF
  refine Fin.sum_mul_add_congr fun s k hl => congrArg₂ (· * ·) ?_ ?_
  · blk_simp [iblk]
    rw [entry_v0]
    blk_ext [idx t, idx ⟨_, Pipeline.run_point_lt_of_flush t h7 s⟩]
  · blk_ext [iblk, V, idx t, idx ⟨_, Pipeline.run_point_lt_of_flush t h7 s⟩]

/-- Kernel and reference leave the same result. -/
theorem algebraic : Cert.algebraic_Kernel3Ideal_Reference3Ideal := by
  pair_intro
  · run_from Cert.Kernel3Ideal.Gen.run_main m g
  · hlo_run
    rw [final m c]
    funext y
    pointwise
    exact Fin.sum_fin_congr fun k => mul_comm _ _

/-- The reference runs to its end and leaves nothing pending. -/
theorem frame_reference : Cert.quiescent_Reference3Ideal := by
  intro m g _
  hlo_run
  · exact fun _ => ⟨trivial, trivial⟩
  · exact Idealize.ShloMosaic.sem_eq_zero_of_no_sems (by decide) _

end Cert.Kernel3Ideal.Value

end
-- ==== Proof.GateInput.lean ====
module

public import proofs.«01_k».proof.Defs
public import proofs.«01_k».proof.Proof.Gen.Kernel4Ideal.Frame
public import proofs.«01_k».proof.Proof.Gen.Reference4Ideal
public import Idealize.ShloMosaic.Lib.Pipeline.ValueKit
public import Idealize.ShloMosaic.Lib.Claim
public import Idealize.ShloMosaic.Init

/-! The product that is the input gradient of the gate half of the up projection: what its kernel
leaves in the result, and that the reference leaves the same. -/

@[expose] public section

set_option maxRecDepth 16384

noncomputable section

namespace Cert.Kernel4Ideal.Value

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry. -/
abbrev REF (X : FVec Ideal S8192x2816 .f32) (W : FVec Ideal S1024x5632 .f32) : FVec Ideal S8192x1024 .f32 :=
  fun y => (∑ k : Fin 2816, X (ix2 (y 0) k) * W (ix2 (y 1) ⟨k.val, by have := k.isLt; omega⟩))

/-- The blocks a point of the grid reads and the block it writes. -/
theorem idx : ∀ t : Fin cfg0.N, win0_0.index t = ![t.val, 0] ∧ win0_1.index t = ![0, 0] ∧ win0_2.index t = ![t.val, 0] :=
  (by decide +kernel : ∀ t : Fin grid0.N, _)

/-- The block the body stores, entry by entry. -/
theorem pay_at (x0 : Vec Ideal S1024x2816 .bf16) (x1 : Vec Ideal S1024x2816 .bf16) (y) :
    k0_pay1 (F := Ideal) x0 x1 y = (∑ k : Fin 2816, x0 (ix2 (y 0) k) * x1 (ix2 (y 1) k)) := by
  pointwise [k0_pay1]
  done

/-- The narrowed copy of an argument holds the argument's entries. -/
theorem entry_v0 (c : Dev nD) (y) : V m c main_v0 y = m ((c.tc : Thread nD τ).loc main_arg1) y := by
  entry_read
  pointwise
  done

/-- The narrowed copy of an argument holds the argument's entries. -/
theorem entry_v1 (c : Dev nD) (y) : V m c main_v1 y = m ((c.tc : Thread nD τ).loc main_arg0) y := by
  entry_read
  pointwise
  done

/-- The kernel leaves the product in its result. -/
theorem final (c : Dev nD) : (dats m 0 c).arrAt 2 (cfgs 0).N
    = REF (m ((c.tc : Thread nD τ).loc main_arg1)) (m ((c.tc : Thread nD τ).loc main_arg0)) := by
  refine (dats m 0 c).arrAt_eq_of_covers 2 _ (by decide +kernel) fun t _ y => ?_
  blk_simp
  rw [after0_2]; frame_out
  refine (pay_at _ _ _).trans ?_
  refine Fin.sum_fin_congr fun k => congrArg₂ (· * ·) ?_ ?_
  · blk_simp [iblk]
    rw [entry_v0]
    blk_ext [idx t]
  · blk_simp [iblk]
    rw [entry_v1]
    blk_ext [idx t]

/-- Kernel and reference leave the same result. -/
theorem algebraic : Cert.algebraic_Kernel4Ideal_Reference4Ideal := by
  pair_intro
  · run_from Cert.Kernel4Ideal.Gen.run_main m g
  · hlo_run
    rw [final m c]
    funext y
    pointwise

/-- The reference runs to its end and leaves nothing pending. -/
theorem frame_reference : Cert.quiescent_Reference4Ideal := by
  intro m g _
  hlo_run
  · exact fun _ => ⟨trivial, trivial⟩
  · exact Idealize.ShloMosaic.sem_eq_zero_of_no_sems (by decide) _

end Cert.Kernel4Ideal.Value

end
-- ==== Proof.ValueInput.lean ====
module

public import proofs.«01_k».proof.Defs
public import proofs.«01_k».proof.Proof.Gen.Kernel5Ideal.Frame
public import proofs.«01_k».proof.Proof.Gen.Reference5Ideal
public import Idealize.ShloMosaic.Lib.Pipeline.ValueKit
public import Idealize.ShloMosaic.Lib.Claim
public import Idealize.ShloMosaic.Init

/-! The product that is the input gradient of the value half of the up projection, added to a term passed in: what its kernel
leaves in the result, and that the reference leaves the same. -/

@[expose] public section

set_option maxRecDepth 16384

noncomputable section

namespace Cert.Kernel5Ideal.Value

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry, with the term passed in added. -/
abbrev REF (X : FVec Ideal S8192x2816 .f32) (W : FVec Ideal S1024x5632 .f32) (R : FVec Ideal S8192x1024 .f32) : FVec Ideal S8192x1024 .f32 :=
  fun y => (∑ k : Fin 2816, X (ix2 (y 0) k) * W (ix2 (y 1) ⟨2816 + k.val, by have := k.isLt; omega⟩)) + R y

/-- The blocks a point of the grid reads and the block it writes. -/
theorem idx : ∀ t : Fin cfg0.N, win0_0.index t = ![t.val, 0] ∧ win0_1.index t = ![0, 1] ∧ win0_2.index t = ![t.val, 0] ∧ win0_3.index t = ![t.val, 0] :=
  (by decide +kernel : ∀ t : Fin grid0.N, _)

/-- The block the body stores, entry by entry. -/
theorem pay_at (x0 : Vec Ideal S1024x2816 .bf16) (x1 : Vec Ideal S1024x2816 .bf16) (x2 : Vec Ideal S1024x1024 .f32) (y) :
    k0_pay1 (F := Ideal) x0 x1 x2 y = (∑ k : Fin 2816, x0 (ix2 (y 0) k) * x1 (ix2 (y 1) k)) + x2 y := by
  pointwise [k0_pay1]
  done

/-- The narrowed copy of an argument holds the argument's entries. -/
theorem entry_v0 (c : Dev nD) (y) : V m c main_v0 y = m ((c.tc : Thread nD τ).loc main_arg1) y := by
  entry_read
  pointwise
  done

/-- The narrowed copy of an argument holds the argument's entries. -/
theorem entry_v1 (c : Dev nD) (y) : V m c main_v1 y = m ((c.tc : Thread nD τ).loc main_arg0) y := by
  entry_read
  pointwise
  done

/-- The kernel leaves the product in its result. -/
theorem final (c : Dev nD) : (dats m 0 c).arrAt 3 (cfgs 0).N
    = REF (m ((c.tc : Thread nD τ).loc main_arg1)) (m ((c.tc : Thread nD τ).loc main_arg0)) (m ((c.tc : Thread nD τ).loc main_arg2)) := by
  refine (dats m 0 c).arrAt_eq_of_covers 3 _ (by decide +kernel) fun t _ y => ?_
  blk_simp
  rw [after0_3]; frame_out
  refine (pay_at _ _ _ _).trans ?_
  refine congrArg₂ (· + ·) (Fin.sum_fin_congr fun k => congrArg₂ (· * ·) ?_ ?_) ?_
  · blk_simp [iblk]
    rw [entry_v0]
    blk_ext [idx t]
  · blk_simp [iblk]
    rw [entry_v1]
    blk_ext [idx t]
  · blk_ext [iblk, V, idx t]

/-- Kernel and reference leave the same result. -/
theorem algebraic : Cert.algebraic_Kernel5Ideal_Reference5Ideal := by
  pair_intro
  · run_from Cert.Kernel5Ideal.Gen.run_main m g
  · hlo_run
    rw [final m c]
    funext y
    pointwise

/-- The reference runs to its end and leaves nothing pending. -/
theorem frame_reference : Cert.quiescent_Reference5Ideal := by
  intro m g _
  hlo_run
  · exact fun _ => ⟨trivial, trivial, trivial⟩
  · exact Idealize.ShloMosaic.sem_eq_zero_of_no_sems (by decide) _

end Cert.Kernel5Ideal.Value

end
-- ==== Proof.UpWeight.lean ====
module

public import proofs.«01_k».proof.Defs
public import proofs.«01_k».proof.Proof.Gen.Kernel6Ideal.Frame
public import proofs.«01_k».proof.Proof.Gen.Reference6Ideal
public import Idealize.ShloMosaic.Lib.Pipeline.ValueKit
public import Idealize.ShloMosaic.Lib.Claim
public import Idealize.ShloMosaic.Init

/-! The product that is the weight gradient of one half of the up projection: what its kernel
leaves in the result, and that the reference leaves the same. -/

@[expose] public section

set_option maxRecDepth 16384

noncomputable section

namespace Cert.Kernel6Ideal.Value

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula: entry `(i, j)` sums the products of the entries `i` and `j` of the rows. -/
abbrev REF (X : FVec Ideal S8192x1024 .f32) (W : FVec Ideal S8192x2816 .f32) : FVec Ideal S1024x2816 .bf16 :=
  fun y => ∑ k : Fin 8192, X (ix2 k (y 0)) * W (ix2 k (y 1))

/-- The blocks a point of the grid reads and the block it writes. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of two blocks, as the first point of a run stores it. -/
theorem pay2_at (x0 : Vec Ideal S1024x1024 .bf16) (x1 : Vec Ideal S1024x1408 .bf16) (y) :
    k0_pay2 (F := Ideal) x0 x1 y = ∑ k : Fin 1024, x0 (ix2 k (y 0)) * x1 (ix2 k (y 1)) := by
  pointwise [k0_pay2, k0_pay1]
  done

/-- The sum so far plus the product of two blocks, as a later point stores it. -/
theorem pay3_at (x0 : Vec Ideal S1024x1024 .bf16) (x1 : Vec Ideal S1024x1408 .bf16) (a) (y) :
    k0_pay3 (F := Ideal) x0 x1 a y = a y + ∑ k : Fin 1024, x0 (ix2 k (y 0)) * x1 (ix2 k (y 1)) := by
  pointwise [k0_pay3, k0_pay1]
  done

/-- The last point of a run writes the sum out unchanged. -/
theorem pay4_at (a : Vec Ideal S1024x1408 .f32) (y) : k0_pay4 (F := Ideal) a y = a y := by
  pointwise [k0_pay4]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- What one point of a run adds to the sum. -/
def part (c : Dev nD) (t : Fin cfg0.N) (y : S1024x1408.Idx) : EReal :=
  ∑ k : Fin 1024, (show Vec Ideal S1024x1024 .bf16 from iblk m c 0 t) (ix2 k (y 0)) * (show Vec Ideal S1024x1408 .bf16 from iblk m c 1 t) (ix2 k (y 1))

/-- The first point of a run leaves its own part. -/
theorem first (c : Dev nD) (t : Fin cfg0.N) (h : t.val % 8 = 0) (y) : (outsAt0 m c t.val t.isLt).2 y = 0 + part m c t y := by
  rw [outsAt0_A m c t h (by omega) (by omega)]; frame_out
  rw [zero_add]; exact pay2_at _ _ y

/-- A later point of a run adds its part to what the point before it left. -/
theorem later (c : Dev nD) (t : Fin cfg0.N) (h : ¬ t.val % 8 = 0) (y) :
    (outsAt0 m c t.val t.isLt).2 y = (outsAt0 m c (t.val - 1) (Nat.lt_of_le_of_lt (Nat.sub_le _ _) t.isLt)).2 y + part m c t y := by
  by_cases h7 : t.val % 8 = 7
  · rw [outsAt0_C m c t h (by omega) h7]; frame_out
    exact (pay3_at _ _ _ y).trans (congrArg (· + _) (congrFun (Memref.IsWhole.read_unread _ _) y))
  · rw [outsAt0_B m c t h (by omega) h7]; frame_out
    exact (pay3_at _ _ _ y).trans (congrArg (· + _) (congrFun (Memref.IsWhole.read_unread _ _) y))

/-- The last point of a run writes out the sum it has just completed. -/
theorem last (c : Dev nD) (t : Fin cfg0.N) (h : t.val % 8 = 7) (y) :
    (outsAt0 m c t.val t.isLt).1 y = (outsAt0 m c t.val t.isLt).2 y := by
  rw [later m c t (by omega) y]
  rw [outsAt0_C m c t (by omega) (by omega) h]; frame_out
  refine (pay4_at _ y).trans ?_
  exact (pay3_at _ _ _ y).trans (congrArg (· + _) (congrFun (Memref.IsWhole.read_unread _ _) y))

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  have h7 := (flush0_2 t).mp hf
  blk_simp
  rw [after0_2]
  refine (last m c t h7 y).trans ?_
  rw [Pipeline.eq_sum_fin_of_reset_step_apply_of_flush (fun n h => (outsAt0 m c n h).2) 8 (fun _ => 0) (part m c) (first m c) (later m c) t h7 y, zero_add]
  unfold part REF
  refine Fin.sum_mul_add_congr fun s k hl => congrArg₂ (· * ·) ?_ ?_
  · blk_simp [iblk]
    rw [entry_v0]
    blk_ext [idx t, idx ⟨_, Pipeline.run_point_lt_of_flush t h7 s⟩]
  · blk_simp [iblk]
    rw [entry_v1]
    blk_ext [idx t, idx ⟨_, Pipeline.run_point_lt_of_flush t h7 s⟩]

/-- Kernel and reference leave the same result. -/
theorem algebraic : Cert.algebraic_Kernel6Ideal_Reference6Ideal := by
  pair_intro
  · run_from Cert.Kernel6Ideal.Gen.run_main m g
  · hlo_run
    rw [final m c]
    funext y
    pointwise
    exact Fin.sum_fin_congr fun k => mul_comm _ _

/-- The reference runs to its end and leaves nothing pending. -/
theorem frame_reference : Cert.quiescent_Reference6Ideal := by
  intro m g _
  hlo_run
  · exact fun _ => ⟨trivial, trivial⟩
  · exact Idealize.ShloMosaic.sem_eq_zero_of_no_sems (by decide) _

end Cert.Kernel6Ideal.Value

end
-- ==== Proof.OutInput.lean ====
module

public import proofs.«01_k».proof.Defs
public import proofs.«01_k».proof.Proof.Gen.Kernel7Ideal.Frame
public import proofs.«01_k».proof.Proof.Gen.Reference7Ideal
public import Idealize.ShloMosaic.Lib.Pipeline.ValueKit
public import Idealize.ShloMosaic.Lib.Claim
public import Idealize.ShloMosaic.Init

/-! The product that is the input gradient of the output projection: what its kernel
leaves in the result, and that the reference leaves the same. -/

@[expose] public section

set_option maxRecDepth 16384

noncomputable section

namespace Cert.Kernel7Ideal.Value

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry. -/
abbrev REF (X : FVec Ideal S8192x1024 .f32) (W : FVec Ideal S2560x1024 .f32) : FVec Ideal S8192x2560 .f32 :=
  fun y => (∑ k : Fin 1024, X (ix2 (y 0) k) * W (ix2 (y 1) k))

/-- The blocks a point of the grid reads and the block it writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The block the body stores, entry by entry. -/
theorem pay_at (x0 : Vec Ideal S1024x1024 .f32) (x1 : Vec Ideal S1280x1024 .bf16) (y) :
    k0_pay1 (F := Ideal) x0 x1 y = (∑ k : Fin 1024, x0 (ix2 (y 0) k) * x1 (ix2 (y 1) k)) := by
  pointwise [k0_pay1]
  done

/-- The narrowed copy of an argument holds the argument's entries. -/
theorem entry_v0 (c : Dev nD) (y) : V m c main_v0 y = m ((c.tc : Thread nD τ).loc main_arg0) y := by
  entry_read
  pointwise
  done

/-- The kernel leaves the product in its result. -/
theorem final (c : Dev nD) : (dats m 0 c).arrAt 2 (cfgs 0).N
    = REF (m ((c.tc : Thread nD τ).loc main_arg1)) (m ((c.tc : Thread nD τ).loc main_arg0)) := by
  refine (dats m 0 c).arrAt_eq_of_covers 2 _ (by decide +kernel) fun t _ y => ?_
  blk_simp
  rw [after0_2]; frame_out
  refine (pay_at _ _ _).trans ?_
  refine Fin.sum_fin_congr fun k => congrArg₂ (· * ·) ?_ ?_
  · blk_ext [iblk, V, idx t]
  · blk_simp [iblk]
    rw [entry_v0]
    blk_ext [idx t]

/-- Kernel and reference leave the same result. -/
theorem algebraic : Cert.algebraic_Kernel7Ideal_Reference7Ideal := by
  pair_intro
  · run_from Cert.Kernel7Ideal.Gen.run_main m g
  · hlo_run
    rw [final m c]
    funext y
    pointwise

/-- The reference runs to its end and leaves nothing pending. -/
theorem frame_reference : Cert.quiescent_Reference7Ideal := by
  intro m g _
  hlo_run
  · exact fun _ => ⟨trivial, trivial⟩
  · exact Idealize.ShloMosaic.sem_eq_zero_of_no_sems (by decide) _

end Cert.Kernel7Ideal.Value

end
-- ==== Proof.OutWeight.lean ====
module

public import proofs.«01_k».proof.Defs
public import proofs.«01_k».proof.Proof.Gen.Kernel8Ideal.Frame
public import proofs.«01_k».proof.Proof.Gen.Reference8Ideal
public import Idealize.ShloMosaic.Lib.Pipeline.ValueKit
public import Idealize.ShloMosaic.Lib.Claim
public import Idealize.ShloMosaic.Init

/-! The product that is the weight gradient of the output projection: what its kernel
leaves in the result, and that the reference leaves the same. -/

@[expose] public section

set_option maxRecDepth 16384

noncomputable section

namespace Cert.Kernel8Ideal.Value

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula: entry `(i, j)` sums the products of the entries `i` and `j` of the rows. -/
abbrev REF (X : FVec Ideal S8192x2560 .f32) (W : FVec Ideal S8192x1024 .f32) : FVec Ideal S2560x1024 .bf16 :=
  fun y => ∑ k : Fin 8192, X (ix2 k (y 0)) * W (ix2 k (y 1))

/-- The blocks a point of the grid reads and the block it writes. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of two blocks, as the first point of a run stores it. -/
theorem pay2_at (x0 : Vec Ideal S1024x1280 .bf16) (x1 : Vec Ideal S1024x1024 .f32) (y) :
    k0_pay2 (F := Ideal) x0 x1 y = ∑ k : Fin 1024, x0 (ix2 k (y 0)) * x1 (ix2 k (y 1)) := by
  pointwise [k0_pay2, k0_pay1]
  done

/-- The sum so far plus the product of two blocks, as a later point stores it. -/
theorem pay3_at (x0 : Vec Ideal S1024x1280 .bf16) (x1 : Vec Ideal S1024x1024 .f32) (a) (y) :
    k0_pay3 (F := Ideal) x0 x1 a y = a y + ∑ k : Fin 1024, x0 (ix2 k (y 0)) * x1 (ix2 k (y 1)) := by
  pointwise [k0_pay3, k0_pay1]
  done

/-- The last point of a run writes the sum out unchanged. -/
theorem pay4_at (a : Vec Ideal S1280x1024 .f32) (y) : k0_pay4 (F := Ideal) a y = a y := by
  pointwise [k0_pay4]
  done

/-- The narrowed copy of an argument holds the argument's entries. -/
theorem entry_v0 (c : Dev nD) (y) : V m c main_v0 y = m ((c.tc : Thread nD τ).loc main_arg0) y := by
  entry_read
  pointwise
  done

/-- What one point of a run adds to the sum. -/
def part (c : Dev nD) (t : Fin cfg0.N) (y : S1280x1024.Idx) : EReal :=
  ∑ k : Fin 1024, (show Vec Ideal S1024x1280 .bf16 from iblk m c 0 t) (ix2 k (y 0)) * (show Vec Ideal S1024x1024 .f32 from iblk m c 1 t) (ix2 k (y 1))

/-- The first point of a run leaves its own part. -/
theorem first (c : Dev nD) (t : Fin cfg0.N) (h : t.val % 8 = 0) (y) : (outsAt0 m c t.val t.isLt).2 y = 0 + part m c t y := by
  rw [outsAt0_A m c t h (by omega) (by omega)]; frame_out
  rw [zero_add]; exact pay2_at _ _ y

/-- A later point of a run adds its part to what the point before it left. -/
theorem later (c : Dev nD) (t : Fin cfg0.N) (h : ¬ t.val % 8 = 0) (y) :
    (outsAt0 m c t.val t.isLt).2 y = (outsAt0 m c (t.val - 1) (Nat.lt_of_le_of_lt (Nat.sub_le _ _) t.isLt)).2 y + part m c t y := by
  by_cases h7 : t.val % 8 = 7
  · rw [outsAt0_C m c t h (by omega) h7]; frame_out
    exact (pay3_at _ _ _ y).trans (congrArg (· + _) (congrFun (Memref.IsWhole.read_unread _ _) y))
  · rw [outsAt0_B m c t h (by omega) h7]; frame_out
    exact (pay3_at _ _ _ y).trans (congrArg (· + _) (congrFun (Memref.IsWhole.read_unread _ _) y))

/-- The last point of a run writes out the sum it has just completed. -/
theorem last (c : Dev nD) (t : Fin cfg0.N) (h : t.val % 8 = 7) (y) :
    (outsAt0 m c t.val t.isLt).1 y = (outsAt0 m c t.val t.isLt).2 y := by
  rw [later m c t (by omega) y]
  rw [outsAt0_C m c t (by omega) (by omega) h]; frame_out
  refine (pay4_at _ y).trans ?_
  exact (pay3_at _ _ _ y).trans (congrArg (· + _) (congrFun (Memref.IsWhole.read_unread _ _) y))

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  have h7 := (flush0_2 t).mp hf
  blk_simp
  rw [after0_2]
  refine (last m c t h7 y).trans ?_
  rw [Pipeline.eq_sum_fin_of_reset_step_apply_of_flush (fun n h => (outsAt0 m c n h).2) 8 (fun _ => 0) (part m c) (first m c) (later m c) t h7 y, zero_add]
  unfold part REF
  refine Fin.sum_mul_add_congr fun s k hl => congrArg₂ (· * ·) ?_ ?_
  · blk_simp [iblk]
    rw [entry_v0]
    blk_ext [idx t, idx ⟨_, Pipeline.run_point_lt_of_flush t h7 s⟩]
  · blk_ext [iblk, V, idx t, idx ⟨_, Pipeline.run_point_lt_of_flush t h7 s⟩]

/-- Kernel and reference leave the same result. -/
theorem algebraic : Cert.algebraic_Kernel8Ideal_Reference8Ideal := by
  pair_intro
  · run_from Cert.Kernel8Ideal.Gen.run_main m g
  · hlo_run
    rw [final m c]
    funext y
    pointwise
    exact Fin.sum_fin_congr fun k => mul_comm _ _

/-- The reference runs to its end and leaves nothing pending. -/
theorem frame_reference : Cert.quiescent_Reference8Ideal := by
  intro m g _
  hlo_run
  · exact fun _ => ⟨trivial, trivial⟩
  · exact Idealize.ShloMosaic.sem_eq_zero_of_no_sems (by decide) _

end Cert.Kernel8Ideal.Value

end
-- ==== Proof.InInput.lean ====
module

public import proofs.«01_k».proof.Defs
public import proofs.«01_k».proof.Proof.Gen.Kernel9Ideal.Frame
public import proofs.«01_k».proof.Proof.Gen.Reference9Ideal
public import Idealize.ShloMosaic.Lib.Pipeline.ValueKit
public import Idealize.ShloMosaic.Lib.Claim
public import Idealize.ShloMosaic.Init

/-! The product that is the input gradient of the input projection: what its kernel
leaves in the result, and that the reference leaves the same. -/

@[expose] public section

set_option maxRecDepth 16384

noncomputable section

namespace Cert.Kernel9Ideal.Value

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry. -/
abbrev REF (X : FVec Ideal S8192x4096 .f32) (W : FVec Ideal S1024x4096 .f32) : FVec Ideal S8192x1024 .f32 :=
  fun y => (∑ k : Fin 4096, X (ix2 (y 0) k) * W (ix2 (y 1) k))

/-- The blocks a point of the grid reads and the block it writes. -/
theorem idx : ∀ t : Fin cfg0.N, win0_0.index t = ![t.val, 0] ∧ win0_1.index t = ![0, 0] ∧ win0_2.index t = ![t.val, 0] :=
  (by decide +kernel : ∀ t : Fin grid0.N, _)

/-- The block the body stores, entry by entry. -/
theorem pay_at (x0 : Vec Ideal S1024x4096 .bf16) (x1 : Vec Ideal S1024x4096 .bf16) (y) :
    k0_pay1 (F := Ideal) x0 x1 y = (∑ k : Fin 4096, x0 (ix2 (y 0) k) * x1 (ix2 (y 1) k)) := by
  pointwise [k0_pay1]
  done

/-- The narrowed copy of an argument holds the argument's entries. -/
theorem entry_v0 (c : Dev nD) (y) : V m c main_v0 y = m ((c.tc : Thread nD τ).loc main_arg1) y := by
  entry_read
  pointwise
  done

/-- The narrowed copy of an argument holds the argument's entries. -/
theorem entry_v1 (c : Dev nD) (y) : V m c main_v1 y = m ((c.tc : Thread nD τ).loc main_arg0) y := by
  entry_read
  pointwise
  done

/-- The kernel leaves the product in its result. -/
theorem final (c : Dev nD) : (dats m 0 c).arrAt 2 (cfgs 0).N
    = REF (m ((c.tc : Thread nD τ).loc main_arg1)) (m ((c.tc : Thread nD τ).loc main_arg0)) := by
  refine (dats m 0 c).arrAt_eq_of_covers 2 _ (by decide +kernel) fun t _ y => ?_
  blk_simp
  rw [after0_2]; frame_out
  refine (pay_at _ _ _).trans ?_
  refine Fin.sum_fin_congr fun k => congrArg₂ (· * ·) ?_ ?_
  · blk_simp [iblk]
    rw [entry_v0]
    blk_ext [idx t]
  · blk_simp [iblk]
    rw [entry_v1]
    blk_ext [idx t]

/-- Kernel and reference leave the same result. -/
theorem algebraic : Cert.algebraic_Kernel9Ideal_Reference9Ideal := by
  pair_intro
  · run_from Cert.Kernel9Ideal.Gen.run_main m g
  · hlo_run
    rw [final m c]
    funext y
    pointwise

/-- The reference runs to its end and leaves nothing pending. -/
theorem frame_reference : Cert.quiescent_Reference9Ideal := by
  intro m g _
  hlo_run
  · exact fun _ => ⟨trivial, trivial⟩
  · exact Idealize.ShloMosaic.sem_eq_zero_of_no_sems (by decide) _

end Cert.Kernel9Ideal.Value

end
-- ==== Proof.InWeight.lean ====
module

public import proofs.«01_k».proof.Defs
public import proofs.«01_k».proof.Proof.Gen.Kernel10Ideal.Frame
public import proofs.«01_k».proof.Proof.Gen.Reference10Ideal
public import Idealize.ShloMosaic.Lib.Pipeline.ValueKit
public import Idealize.ShloMosaic.Lib.Claim
public import Idealize.ShloMosaic.Init

/-! The product that is the weight gradient of the input projection: what its kernel
leaves in the result, and that the reference leaves the same. -/

@[expose] public section

set_option maxRecDepth 16384

noncomputable section

namespace Cert.Kernel10Ideal.Value

open Cert.Kernel10Ideal Cert.Kernel10Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula: entry `(i, j)` sums the products of the entries `i` and `j` of the rows. -/
abbrev REF (X : FVec Ideal S8192x1024 .f32) (W : FVec Ideal S8192x4096 .f32) : FVec Ideal S1024x4096 .bf16 :=
  fun y => ∑ k : Fin 8192, X (ix2 k (y 0)) * W (ix2 k (y 1))

/-- The blocks a point of the grid reads and the block it writes. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of two blocks, as the first point of a run stores it. -/
theorem pay2_at (x0 : Vec Ideal S1024x1024 .bf16) (x1 : Vec Ideal S1024x1024 .bf16) (y) :
    k0_pay2 (F := Ideal) x0 x1 y = ∑ k : Fin 1024, x0 (ix2 k (y 0)) * x1 (ix2 k (y 1)) := by
  pointwise [k0_pay2, k0_pay1]
  done

/-- The sum so far plus the product of two blocks, as a later point stores it. -/
theorem pay3_at (x0 : Vec Ideal S1024x1024 .bf16) (x1 : Vec Ideal S1024x1024 .bf16) (a) (y) :
    k0_pay3 (F := Ideal) x0 x1 a y = a y + ∑ k : Fin 1024, x0 (ix2 k (y 0)) * x1 (ix2 k (y 1)) := by
  pointwise [k0_pay3, k0_pay1]
  done

/-- The last point of a run writes the sum out unchanged. -/
theorem pay4_at (a : Vec Ideal S1024x1024 .f32) (y) : k0_pay4 (F := Ideal) a y = a y := by
  pointwise [k0_pay4]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- What one point of a run adds to the sum. -/
def part (c : Dev nD) (t : Fin cfg0.N) (y : S1024x1024.Idx) : EReal :=
  ∑ k : Fin 1024, (show Vec Ideal S1024x1024 .bf16 from iblk m c 0 t) (ix2 k (y 0)) * (show Vec Ideal S1024x1024 .bf16 from iblk m c 1 t) (ix2 k (y 1))

/-- The first point of a run leaves its own part. -/
theorem first (c : Dev nD) (t : Fin cfg0.N) (h : t.val % 8 = 0) (y) : (outsAt0 m c t.val t.isLt).2 y = 0 + part m c t y := by
  rw [outsAt0_A m c t h (by omega) (by omega)]; frame_out
  rw [zero_add]; exact pay2_at _ _ y

/-- A later point of a run adds its part to what the point before it left. -/
theorem later (c : Dev nD) (t : Fin cfg0.N) (h : ¬ t.val % 8 = 0) (y) :
    (outsAt0 m c t.val t.isLt).2 y = (outsAt0 m c (t.val - 1) (Nat.lt_of_le_of_lt (Nat.sub_le _ _) t.isLt)).2 y + part m c t y := by
  by_cases h7 : t.val % 8 = 7
  · rw [outsAt0_C m c t h (by omega) h7]; frame_out
    exact (pay3_at _ _ _ y).trans (congrArg (· + _) (congrFun (Memref.IsWhole.read_unread _ _) y))
  · rw [outsAt0_B m c t h (by omega) h7]; frame_out
    exact (pay3_at _ _ _ y).trans (congrArg (· + _) (congrFun (Memref.IsWhole.read_unread _ _) y))

/-- The last point of a run writes out the sum it has just completed. -/
theorem last (c : Dev nD) (t : Fin cfg0.N) (h : t.val % 8 = 7) (y) :
    (outsAt0 m c t.val t.isLt).1 y = (outsAt0 m c t.val t.isLt).2 y := by
  rw [later m c t (by omega) y]
  rw [outsAt0_C m c t (by omega) (by omega) h]; frame_out
  refine (pay4_at _ y).trans ?_
  exact (pay3_at _ _ _ y).trans (congrArg (· + _) (congrFun (Memref.IsWhole.read_unread _ _) y))

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  have h7 := (flush0_2 t).mp hf
  blk_simp
  rw [after0_2]
  refine (last m c t h7 y).trans ?_
  rw [Pipeline.eq_sum_fin_of_reset_step_apply_of_flush (fun n h => (outsAt0 m c n h).2) 8 (fun _ => 0) (part m c) (first m c) (later m c) t h7 y, zero_add]
  unfold part REF
  refine Fin.sum_mul_add_congr fun s k hl => congrArg₂ (· * ·) ?_ ?_
  · blk_simp [iblk]
    rw [entry_v0]
    blk_ext [idx t, idx ⟨_, Pipeline.run_point_lt_of_flush t h7 s⟩]
  · blk_simp [iblk]
    rw [entry_v1]
    blk_ext [idx t, idx ⟨_, Pipeline.run_point_lt_of_flush t h7 s⟩]

/-- Kernel and reference leave the same result. -/
theorem algebraic : Cert.algebraic_Kernel10Ideal_Reference10Ideal := by
  pair_intro
  · run_from Cert.Kernel10Ideal.Gen.run_main m g
  · hlo_run
    rw [final m c]
    funext y
    pointwise
    exact Fin.sum_fin_congr fun k => mul_comm _ _

/-- The reference runs to its end and leaves nothing pending. -/
theorem frame_reference : Cert.quiescent_Reference10Ideal := by
  intro m g _
  hlo_run
  · exact fun _ => ⟨trivial, trivial⟩
  · exact Idealize.ShloMosaic.sem_eq_zero_of_no_sems (by decide) _

end Cert.Kernel10Ideal.Value

end
-- ==== Proof.InForward.lean ====
module

public import proofs.«01_k».proof.Defs
public import proofs.«01_k».proof.Proof.Gen.Kernel11Ideal.Frame
public import proofs.«01_k».proof.Proof.Gen.Reference11Ideal
public import Idealize.ShloMosaic.Lib.Pipeline.ValueKit
public import Idealize.ShloMosaic.Lib.Claim
public import Idealize.ShloMosaic.Init

/-! The product that is the input projection: what its kernel
leaves in the result, and that the reference leaves the same. -/

@[expose] public section

set_option maxRecDepth 16384

noncomputable section

namespace Cert.Kernel11Ideal.Value

open Cert.Kernel11Ideal Cert.Kernel11Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry. -/
abbrev REF (X : FVec Ideal S8192x1024 .f32) (W : FVec Ideal S1024x4096 .f32) : FVec Ideal S8192x4096 .f32 :=
  fun y => (∑ k : Fin 1024, X (ix2 (y 0) k) * W (ix2 k (y 1)))

/-- The blocks a point of the grid reads and the block it writes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The block the body stores, entry by entry. -/
theorem pay_at (x0 : Vec Ideal S2048x1024 .bf16) (x1 : Vec Ideal S1024x1024 .bf16) (y) :
    k0_pay1 (F := Ideal) x0 x1 y = (∑ k : Fin 1024, x0 (ix2 (y 0) k) * x1 (ix2 k (y 1))) := by
  pointwise [k0_pay1]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  refine (pay_at _ _ _).trans ?_
  refine Fin.sum_fin_congr fun k => congrArg₂ (· * ·) ?_ ?_
  · blk_simp [iblk]
    rw [entry_v0]
    blk_ext [idx t]
  · blk_simp [iblk]
    rw [entry_v1]
    blk_ext [idx t]

/-- Kernel and reference leave the same result. -/
theorem algebraic : Cert.algebraic_Kernel11Ideal_Reference11Ideal := by
  pair_intro
  · run_from Cert.Kernel11Ideal.Gen.run_main m g
  · hlo_run
    rw [final m c]
    funext y
    pointwise

/-- The reference runs to its end and leaves nothing pending. -/
theorem frame_reference : Cert.quiescent_Reference11Ideal := by
  intro m g _
  hlo_run
  · exact fun _ => ⟨trivial, trivial⟩
  · exact Idealize.ShloMosaic.sem_eq_zero_of_no_sems (by decide) _

end Cert.Kernel11Ideal.Value

end
-- ==== Proof.OutForward.lean ====
module

public import proofs.«01_k».proof.Defs
public import proofs.«01_k».proof.Proof.Gen.Kernel12Ideal.Frame
public import proofs.«01_k».proof.Proof.Gen.Reference12Ideal
public import Idealize.ShloMosaic.Lib.Pipeline.ValueKit
public import Idealize.ShloMosaic.Lib.Claim
public import Idealize.ShloMosaic.Init

/-! The product that is the output projection with the residual added: what its kernel
leaves in the result, and that the reference leaves the same. -/

@[expose] public section

set_option maxRecDepth 16384

noncomputable section

namespace Cert.Kernel12Ideal.Value

open Cert.Kernel12Ideal Cert.Kernel12Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry, with the term passed in added. -/
abbrev REF (X : FVec Ideal S8192x2560 .f32) (W : FVec Ideal S2560x1024 .f32) (R : FVec Ideal S8192x1024 .f32) : FVec Ideal S8192x1024 .f32 :=
  fun y => (∑ k : Fin 2560, X (ix2 (y 0) k) * W (ix2 k (y 1))) + R y

/-- The blocks a point of the grid reads and the block it writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The block the body stores, entry by entry. -/
theorem pay_at (x0 : Vec Ideal S1024x2560 .bf16) (x1 : Vec Ideal S2560x1024 .bf16) (x2 : Vec Ideal S1024x1024 .f32) (y) :
    k0_pay1 (F := Ideal) x0 x1 x2 y = (∑ k : Fin 2560, x0 (ix2 (y 0) k) * x1 (ix2 k (y 1))) + x2 y := by
  pointwise [k0_pay1]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- The kernel leaves the product in its result. -/
theorem final (c : Dev nD) : (dats m 0 c).arrAt 3 (cfgs 0).N
    = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; frame_out
  refine (pay_at _ _ _ _).trans ?_
  refine congrArg₂ (· + ·) (Fin.sum_fin_congr fun k => congrArg₂ (· * ·) ?_ ?_) ?_
  · blk_simp [iblk]
    rw [entry_v0]
    blk_ext [idx t]
  · blk_simp [iblk]
    rw [entry_v1]
    blk_ext [idx t]
  · blk_ext [iblk, V, idx t]

/-- Kernel and reference leave the same result. -/
theorem algebraic : Cert.algebraic_Kernel12Ideal_Reference12Ideal := by
  pair_intro
  · run_from Cert.Kernel12Ideal.Gen.run_main m g
  · hlo_run
    rw [final m c]
    funext y
    pointwise
    exact add_comm _ _

/-- The reference runs to its end and leaves nothing pending. -/
theorem frame_reference : Cert.quiescent_Reference12Ideal := by
  intro m g _
  hlo_run
  · exact fun _ => ⟨trivial, trivial, trivial⟩
  · exact Idealize.ShloMosaic.sem_eq_zero_of_no_sems (by decide) _

end Cert.Kernel12Ideal.Value

end
-- ==== Proof.UpForward.lean ====
module

public import proofs.«01_k».proof.Defs
public import proofs.«01_k».proof.Proof.Gen.Kernel13Ideal.Frame
public import proofs.«01_k».proof.Proof.Gen.Reference13Ideal
public import Idealize.ShloMosaic.Lib.Pipeline.ValueKit
public import Idealize.ShloMosaic.Lib.Claim
public import Idealize.ShloMosaic.Init

/-! The product that is the up projection: what its kernel
leaves in the result, and that the reference leaves the same. -/

@[expose] public section

set_option maxRecDepth 16384

noncomputable section

namespace Cert.Kernel13Ideal.Value

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry. -/
abbrev REF (X : FVec Ideal S8192x1024 .f32) (W : FVec Ideal S1024x5632 .f32) : FVec Ideal S8192x5632 .f32 :=
  fun y => (∑ k : Fin 1024, X (ix2 (y 0) k) * W (ix2 k (y 1)))

/-- The blocks a point of the grid reads and the block it writes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The block the body stores, entry by entry. -/
theorem pay_at (x0 : Vec Ideal S2048x1024 .bf16) (x1 : Vec Ideal S1024x1408 .bf16) (y) :
    k0_pay1 (F := Ideal) x0 x1 y = (∑ k : Fin 1024, x0 (ix2 (y 0) k) * x1 (ix2 k (y 1))) := by
  pointwise [k0_pay1]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  refine (pay_at _ _ _).trans ?_
  refine Fin.sum_fin_congr fun k => congrArg₂ (· * ·) ?_ ?_
  · blk_simp [iblk]
    rw [entry_v0]
    blk_ext [idx t]
  · blk_simp [iblk]
    rw [entry_v1]
    blk_ext [idx t]

/-- Kernel and reference leave the same result. -/
theorem algebraic : Cert.algebraic_Kernel13Ideal_Reference13Ideal := by
  pair_intro
  · run_from Cert.Kernel13Ideal.Gen.run_main m g
  · hlo_run
    rw [final m c]
    funext y
    pointwise

/-- The reference runs to its end and leaves nothing pending. -/
theorem frame_reference : Cert.quiescent_Reference13Ideal := by
  intro m g _
  hlo_run
  · exact fun _ => ⟨trivial, trivial⟩
  · exact Idealize.ShloMosaic.sem_eq_zero_of_no_sems (by decide) _

end Cert.Kernel13Ideal.Value

end
-- ==== Proof.DownForward.lean ====
module

public import proofs.«01_k».proof.Defs
public import proofs.«01_k».proof.Proof.Gen.Kernel14Ideal.Frame
public import proofs.«01_k».proof.Proof.Gen.Reference14Ideal
public import Idealize.ShloMosaic.Lib.Pipeline.ValueKit
public import Idealize.ShloMosaic.Lib.Claim
public import Idealize.ShloMosaic.Init

/-! The product that is the down projection with the residual added: what its kernel
leaves in the result, and that the reference leaves the same. -/

@[expose] public section

set_option maxRecDepth 16384

noncomputable section

namespace Cert.Kernel14Ideal.Value

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula, entry by entry, with the term passed in added. -/
abbrev REF (X : FVec Ideal S8192x2816 .f32) (W : FVec Ideal S2816x1024 .f32) (R : FVec Ideal S8192x1024 .f32) : FVec Ideal S8192x1024 .f32 :=
  fun y => (∑ k : Fin 2816, X (ix2 (y 0) k) * W (ix2 k (y 1))) + R y

/-- The blocks a point of the grid reads and the block it writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The block the body stores, entry by entry. -/
theorem pay_at (x0 : Vec Ideal S1024x2816 .bf16) (x1 : Vec Ideal S2816x1024 .bf16) (x2 : Vec Ideal S1024x1024 .f32) (y) :
    k0_pay1 (F := Ideal) x0 x1 x2 y = (∑ k : Fin 2816, x0 (ix2 (y 0) k) * x1 (ix2 k (y 1))) + x2 y := by
  pointwise [k0_pay1]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- The kernel leaves the product in its result. -/
theorem final (c : Dev nD) : (dats m 0 c).arrAt 3 (cfgs 0).N
    = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; frame_out
  refine (pay_at _ _ _ _).trans ?_
  refine congrArg₂ (· + ·) (Fin.sum_fin_congr fun k => congrArg₂ (· * ·) ?_ ?_) ?_
  · blk_simp [iblk]
    rw [entry_v0]
    blk_ext [idx t]
  · blk_simp [iblk]
    rw [entry_v1]
    blk_ext [idx t]
  · blk_ext [iblk, V, idx t]

/-- Kernel and reference leave the same result. -/
theorem algebraic : Cert.algebraic_Kernel14Ideal_Reference14Ideal := by
  pair_intro
  · run_from Cert.Kernel14Ideal.Gen.run_main m g
  · hlo_run
    rw [final m c]
    funext y
    pointwise
    exact add_comm _ _

/-- The reference runs to its end and leaves nothing pending. -/
theorem frame_reference : Cert.quiescent_Reference14Ideal := by
  intro m g _
  hlo_run
  · exact fun _ => ⟨trivial, trivial, trivial⟩
  · exact Idealize.ShloMosaic.sem_eq_zero_of_no_sems (by decide) _

end Cert.Kernel14Ideal.Value

end
-- ==== Proof.QueryWeight.lean ====
module

public import proofs.«01_k».proof.Defs
public import proofs.«01_k».proof.Proof.Gen.Kernel15Ideal.Frame
public import proofs.«01_k».proof.Proof.Gen.Reference15Ideal
public import Idealize.ShloMosaic.Lib.Pipeline.ValueKit
public import Idealize.ShloMosaic.Lib.Claim
public import Idealize.ShloMosaic.Init

/-! The product that is the weight gradient of the query projection: what its kernel
leaves in the result, and that the reference leaves the same. -/

@[expose] public section

set_option maxRecDepth 16384

noncomputable section

namespace Cert.Kernel15Ideal.Value

open Cert.Kernel15Ideal Cert.Kernel15Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula: entry `(i, j)` sums the products of the entries `i` and `j` of the rows. -/
abbrev REF (X : FVec Ideal S8192x384 .f32) (W : FVec Ideal S8192x1024 .f32) : FVec Ideal S384x1024 .bf16 :=
  fun y => ∑ k : Fin 8192, X (ix2 k (y 0)) * W (ix2 k (y 1))

/-- The blocks a point of the grid reads and the block it writes. -/
theorem idx : ∀ t : Fin cfg0.N, win0_0.index t = ![t.val % 8, 0] ∧ win0_1.index t = ![t.val % 8, 0] ∧ win0_2.index t = ![0, 0] :=
  (by decide +kernel : ∀ t : Fin grid0.N, _)

/-- The product of two blocks, as the first point of a run stores it. -/
theorem pay2_at (x0 : Vec Ideal S1024x384 .bf16) (x1 : Vec Ideal S1024x1024 .bf16) (y) :
    k0_pay2 (F := Ideal) x0 x1 y = ∑ k : Fin 1024, x0 (ix2 k (y 0)) * x1 (ix2 k (y 1)) := by
  pointwise [k0_pay2, k0_pay1]
  done

/-- The sum so far plus the product of two blocks, as a later point stores it. -/
theorem pay3_at (x0 : Vec Ideal S1024x384 .bf16) (x1 : Vec Ideal S1024x1024 .bf16) (a) (y) :
    k0_pay3 (F := Ideal) x0 x1 a y = a y + ∑ k : Fin 1024, x0 (ix2 k (y 0)) * x1 (ix2 k (y 1)) := by
  pointwise [k0_pay3, k0_pay1]
  done

/-- The last point of a run writes the sum out unchanged. -/
theorem pay4_at (a : Vec Ideal S384x1024 .f32) (y) : k0_pay4 (F := Ideal) a y = a y := by
  pointwise [k0_pay4]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- What one point of a run adds to the sum. -/
def part (c : Dev nD) (t : Fin cfg0.N) (y : S384x1024.Idx) : EReal :=
  ∑ k : Fin 1024, (show Vec Ideal S1024x384 .bf16 from iblk m c 0 t) (ix2 k (y 0)) * (show Vec Ideal S1024x1024 .bf16 from iblk m c 1 t) (ix2 k (y 1))

/-- The first point of a run leaves its own part. -/
theorem first (c : Dev nD) (t : Fin cfg0.N) (h : t.val % 8 = 0) (y) : (outsAt0 m c t.val t.isLt).2 y = 0 + part m c t y := by
  have hN : t.val < 8 := t.isLt
  rw [outsAt0_A m c t h (by omega) (by omega)]; frame_out
  rw [zero_add]; exact pay2_at _ _ y

/-- A later point of a run adds its part to what the point before it left. -/
theorem later (c : Dev nD) (t : Fin cfg0.N) (h : ¬ t.val % 8 = 0) (y) :
    (outsAt0 m c t.val t.isLt).2 y = (outsAt0 m c (t.val - 1) (Nat.lt_of_le_of_lt (Nat.sub_le _ _) t.isLt)).2 y + part m c t y := by
  have hN : t.val < 8 := t.isLt
  by_cases h7 : t.val % 8 = 7
  · rw [outsAt0_C m c t h (by omega) h7]; frame_out
    exact (pay3_at _ _ _ y).trans (congrArg (· + _) (congrFun (Memref.IsWhole.read_unread _ _) y))
  · rw [outsAt0_B m c t h (by omega) h7]; frame_out
    exact (pay3_at _ _ _ y).trans (congrArg (· + _) (congrFun (Memref.IsWhole.read_unread _ _) y))

/-- The last point of a run writes out the sum it has just completed. -/
theorem last (c : Dev nD) (t : Fin cfg0.N) (h : t.val % 8 = 7) (y) :
    (outsAt0 m c t.val t.isLt).1 y = (outsAt0 m c t.val t.isLt).2 y := by
  have hN : t.val < 8 := t.isLt
  rw [later m c t (by omega) y]
  rw [outsAt0_C m c t (by omega) (by omega) h]; frame_out
  refine (pay4_at _ y).trans ?_
  exact (pay3_at _ _ _ y).trans (congrArg (· + _) (congrFun (Memref.IsWhole.read_unread _ _) y))

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  have h7 := (flush0_2 t).mp hf
  blk_simp
  rw [after0_2]
  refine (last m c t h7 y).trans ?_
  rw [Pipeline.eq_sum_fin_of_reset_step_apply_of_flush (fun n h => (outsAt0 m c n h).2) 8 (fun _ => 0) (part m c) (first m c) (later m c) t h7 y, zero_add]
  unfold part REF
  refine Fin.sum_mul_add_congr fun s k hl => congrArg₂ (· * ·) ?_ ?_
  · blk_simp [iblk]
    rw [entry_v0]
    blk_ext [idx t, idx ⟨_, Pipeline.run_point_lt_of_flush t h7 s⟩]
  · blk_simp [iblk]
    rw [entry_v1]
    blk_ext [idx t, idx ⟨_, Pipeline.run_point_lt_of_flush t h7 s⟩]

/-- Kernel and reference leave the same result. -/
theorem algebraic : Cert.algebraic_Kernel15Ideal_Reference15Ideal := by
  pair_intro
  · run_from Cert.Kernel15Ideal.Gen.run_main m g
  · hlo_run
    rw [final m c]
    funext y
    pointwise
    exact Fin.sum_fin_congr fun k => mul_comm _ _

/-- The reference runs to its end and leaves nothing pending. -/
theorem frame_reference : Cert.quiescent_Reference15Ideal := by
  intro m g _
  hlo_run
  · exact fun _ => ⟨trivial, trivial⟩
  · exact Idealize.ShloMosaic.sem_eq_zero_of_no_sems (by decide) _

end Cert.Kernel15Ideal.Value

end
-- ==== Proof.KeyValueWeight.lean ====
module

public import proofs.«01_k».proof.Defs
public import proofs.«01_k».proof.Proof.Gen.Kernel16Ideal.Frame
public import proofs.«01_k».proof.Proof.Gen.Reference16Ideal
public import Idealize.ShloMosaic.Lib.Pipeline.ValueKit
public import Idealize.ShloMosaic.Lib.Claim
public import Idealize.ShloMosaic.Init

/-! The product that is the weight gradient of the key and value projection: what its kernel
leaves in the result, and that the reference leaves the same. -/

@[expose] public section

set_option maxRecDepth 16384

noncomputable section

namespace Cert.Kernel16Ideal.Value

open Cert.Kernel16Ideal Cert.Kernel16Ideal.Gen
open Idealize.ShloMosaic Idealize.ShloMosaic.TcCoe Idealize.SL.Sem
open Idealize.ShloMosaic.Pipeline (Dat)

variable (m : (ℓ : Loc nD τ sig) → Buf (Elt Ideal) ℓ)

/-- The product as a formula: entry `(i, j)` sums the products of the entries `i` and `j` of the rows. -/
abbrev REF (X : FVec Ideal S8192x256 .f32) (W : FVec Ideal S8192x2048 .f32) : FVec Ideal S256x2048 .bf16 :=
  fun y => ∑ k : Fin 8192, X (ix2 k (y 0)) * W (ix2 k (y 1))

/-- The blocks a point of the grid reads and the block it writes. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of two blocks, as the first point of a run stores it. -/
theorem pay2_at (x0 : Vec Ideal S1024x256 .bf16) (x1 : Vec Ideal S1024x1024 .bf16) (y) :
    k0_pay2 (F := Ideal) x0 x1 y = ∑ k : Fin 1024, x0 (ix2 k (y 0)) * x1 (ix2 k (y 1)) := by
  pointwise [k0_pay2, k0_pay1]
  done

/-- The sum so far plus the product of two blocks, as a later point stores it. -/
theorem pay3_at (x0 : Vec Ideal S1024x256 .bf16) (x1 : Vec Ideal S1024x1024 .bf16) (a) (y) :
    k0_pay3 (F := Ideal) x0 x1 a y = a y + ∑ k : Fin 1024, x0 (ix2 k (y 0)) * x1 (ix2 k (y 1)) := by
  pointwise [k0_pay3, k0_pay1]
  done

/-- The last point of a run writes the sum out unchanged. -/
theorem pay4_at (a : Vec Ideal S256x1024 .f32) (y) : k0_pay4 (F := Ideal) a y = a y := by
  pointwise [k0_pay4]
  done

/-- The narrowed copy of an argument holds the argument's entries. -/
theorem entry_v0 (c : Dev nD) (y) : V m c main_v0 y = m ((c.tc : Thread nD τ).loc main_arg0) y := by
  entry_read
  pointwise
  done

/-- The narrowed copy of an argument holds the argument's entries. -/
theorem entry_v1 (c : Dev nD) (y) : V m c main_v1 y = m ((c.tc : Thread nD τ).loc main_arg1) y := by
  entry_read
  pointwise
  done

/-- What one point of a run adds to the sum. -/
def part (c : Dev nD) (t : Fin cfg0.N) (y : S256x1024.Idx) : EReal :=
  ∑ k : Fin 1024, (show Vec Ideal S1024x256 .bf16 from iblk m c 0 t) (ix2 k (y 0)) * (show Vec Ideal S1024x1024 .bf16 from iblk m c 1 t) (ix2 k (y 1))

/-- The first point of a run leaves its own part. -/
theorem first (c : Dev nD) (t : Fin cfg0.N) (h : t.val % 8 = 0) (y) : (outsAt0 m c t.val t.isLt).2 y = 0 + part m c t y := by
  rw [outsAt0_A m c t h (by omega) (by omega)]; frame_out
  rw [zero_add]; exact pay2_at _ _ y

/-- A later point of a run adds its part to what the point before it left. -/
theorem later (c : Dev nD) (t : Fin cfg0.N) (h : ¬ t.val % 8 = 0) (y) :
    (outsAt0 m c t.val t.isLt).2 y = (outsAt0 m c (t.val - 1) (Nat.lt_of_le_of_lt (Nat.sub_le _ _) t.isLt)).2 y + part m c t y := by
  by_cases h7 : t.val % 8 = 7
  · rw [outsAt0_C m c t h (by omega) h7]; frame_out
    exact (pay3_at _ _ _ y).trans (congrArg (· + _) (congrFun (Memref.IsWhole.read_unread _ _) y))
  · rw [outsAt0_B m c t h (by omega) h7]; frame_out
    exact (pay3_at _ _ _ y).trans (congrArg (· + _) (congrFun (Memref.IsWhole.read_unread _ _) y))

/-- The last point of a run writes out the sum it has just completed. -/
theorem last (c : Dev nD) (t : Fin cfg0.N) (h : t.val % 8 = 7) (y) :
    (outsAt0 m c t.val t.isLt).1 y = (outsAt0 m c t.val t.isLt).2 y := by
  rw [later m c t (by omega) y]
  rw [outsAt0_C m c t (by omega) (by omega) h]; frame_out
  refine (pay4_at _ y).trans ?_
  exact (pay3_at _ _ _ y).trans (congrArg (· + _) (congrFun (Memref.IsWhole.read_unread _ _) y))

/-- The kernel leaves the product in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  have h7 := (flush0_2 t).mp hf
  blk_simp
  rw [after0_2]
  refine (last m c t h7 y).trans ?_
  rw [Pipeline.eq_sum_fin_of_reset_step_apply_of_flush (fun n h => (outsAt0 m c n h).2) 8 (fun _ => 0) (part m c) (first m c) (later m c) t h7 y, zero_add]
  unfold part REF
  refine Fin.sum_mul_add_congr fun s k hl => congrArg₂ (· * ·) ?_ ?_
  · blk_simp [iblk]
    rw [entry_v0]
    blk_ext [idx t, idx ⟨_, Pipeline.run_point_lt_of_flush t h7 s⟩]
  · blk_simp [iblk]
    rw [entry_v1]
    blk_ext [idx t, idx ⟨_, Pipeline.run_point_lt_of_flush t h7 s⟩]

/-- Kernel and reference leave the same result. -/
theorem algebraic : Cert.algebraic_Kernel16Ideal_Reference16Ideal := by
  pair_intro
  · run_from Cert.Kernel16Ideal.Gen.run_main m g
  · hlo_run
    rw [final m c]
    funext y
    pointwise
    exact Fin.sum_fin_congr fun k => mul_comm _ _

/-- The reference runs to its end and leaves nothing pending. -/
theorem frame_reference : Cert.quiescent_Reference16Ideal := by
  intro m g _
  hlo_run
  · exact fun _ => ⟨trivial, trivial⟩
  · exact Idealize.ShloMosaic.sem_eq_zero_of_no_sems (by decide) _

end Cert.Kernel16Ideal.Value

end
-- ==== Proof.RowNorm.lean ====
module

public import proofs.«01_k».proof.Defs
public import proofs.«01_k».proof.Proof.Gen.Kernel17Ideal.Frame
public import proofs.«01_k».proof.Proof.Gen.Reference17Ideal
public import Idealize.ShloMosaic.Lib.Pipeline.ValueKit
public import Idealize.ShloMosaic.Lib.Claim
public import Idealize.ShloMosaic.Init

/-! The normalisation of the rows: what its kernel leaves in the result, and that the reference leaves the same. -/

@[expose] public section

set_option maxRecDepth 16384

noncomputable section

namespace Cert.Kernel17Ideal.Value

open Cert.Kernel17Ideal Cert.Kernel17Ideal.Gen
open Idealize.ShloMosaic Idealize.ShloMosaic.TcCoe Idealize.SL.Sem
open Idealize.ShloMosaic.Pipeline (Dat)

variable (m : (ℓ : Loc nD τ sig) → Buf (Elt Ideal) ℓ)

/-- The reciprocal root of the mean of the squares of a row, the small constant added. -/
abbrev root (f : Fin 1024 → EReal) : EReal :=
  Ideal.rsqrt (Ideal.div (∑ k : Fin 1024, f k * f k) (Ideal.ofBits FTy.f32 1149239296#32) + Ideal.ofBits FTy.f32 897988541#32)

/-- The normalised rows, entry by entry. -/
abbrev REF (X : FVec Ideal S8192x1024 .f32) (W : FVec Ideal S1024 .f32) : FVec Ideal S8192x1024 .bf16 :=
  fun y => X y * root (fun k => X (ix2 (y 0) k)) * W (ix1 (y 1))

/-- The blocks a point of the grid reads and the block it writes. -/
theorem idx : ∀ t : Fin cfg0.N, win0_0.index t = ![t.val, 0] ∧ win0_1.index t = ![0, 0] ∧ win0_2.index t = ![t.val, 0] :=
  (by decide +kernel : ∀ t : Fin grid0.N, _)

/-- The block the body stores, entry by entry. -/
theorem pay_at (x0 : Vec Ideal S1024x1024 .f32) (x1 : Vec Ideal S1x1024 .f32) (y) :
    k0_pay1 (F := Ideal) x0 x1 y = x0 (ix2 (y 0) (y 1)) * root (fun k => x0 (ix2 (y 0) k)) * x1 (ix2 0 (y 1)) := by
  pointwise [k0_pay1]
  first | done | rfl

/-- The row of weights the kernel reads is the argument. -/
theorem entry (c : Dev nD) (y) : V m c main_v0 y = m ((c.tc : Thread nD τ).loc main_arg1) (ix1 (y 1)) := by
  entry_read
  pointwise

/-- The kernel leaves the normalised rows in its result. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  refine (pay_at _ _ _).trans ?_
  refine congrArg₂ (· * ·) (congrArg₂ (· * ·) ?_ (congrArg root (funext fun k => ?_))) ?_
  · blk_ext [iblk, V, idx t]
  · blk_ext [iblk, V, idx t]
  · blk_simp [iblk]
    rw [entry]
    blk_ext [idx t]

/-- Kernel and reference leave the same result. -/
theorem algebraic : Cert.algebraic_Kernel17Ideal_Reference17Ideal := by
  pair_intro
  · run_from Cert.Kernel17Ideal.Gen.run_main m g
  · hlo_run
    rw [final m c]
    funext y
    pointwise
    first | done | rfl

/-- The reference runs to its end and leaves nothing pending. -/
theorem frame_reference : Cert.quiescent_Reference17Ideal := by
  intro m g _
  hlo_run
  · exact fun _ => ⟨trivial, trivial⟩
  · exact Idealize.ShloMosaic.sem_eq_zero_of_no_sems (by decide) _

end Cert.Kernel17Ideal.Value

end
-- ==== Proof.RowNormGrad.lean ====
module

public import proofs.«01_k».proof.Defs
public import proofs.«01_k».proof.Proof.Gen.Kernel20Ideal.Frame
public import proofs.«01_k».proof.Proof.Gen.Reference20Ideal
public import Idealize.ShloMosaic.Lib.Pipeline.ValueKit
public import Idealize.ShloMosaic.Lib.Claim
public import Idealize.ShloMosaic.Init

/-! The gradient of the normalisation of the rows: what its kernel leaves in the two results, and that the reference leaves the
same, whatever the entries of the arguments. -/

@[expose] public section

set_option maxRecDepth 16384

noncomputable section

namespace Cert.Kernel20Ideal.Value

open Cert.Kernel20Ideal Cert.Kernel20Ideal.Gen
open Idealize.ShloMosaic Idealize.ShloMosaic.TcCoe Idealize.SL.Sem
open Idealize.ShloMosaic.Pipeline (Dat)

variable (m : (ℓ : Loc nD τ sig) → Buf (Elt Ideal) ℓ)

/-- The word for the width of a row is the number 1024. -/
theorem word_width : Ideal.ofBits FTy.f32 1149239296#32 = ((1024 : ℝ) : EReal) := by
  simp [Ideal.ofBits, Ideal.ieee, -EReal.coe_mul]; norm_num

/-- The word for minus one half. -/
theorem word_half : Ideal.ofBits FTy.f32 3204448256#32 = ((-(1 / 2) : ℝ) : EReal) := by
  simp [Ideal.ofBits, Ideal.ieee, -EReal.coe_mul, -EReal.coe_neg]; norm_num

/-- The small constant is a positive real number. -/
theorem word_small : ∃ e : ℝ, 0 < e ∧ Ideal.ofBits FTy.f32 897988541#32 = (e : EReal) := by
  refine ⟨8796093 / 2 ^ 43, by positivity, ?_⟩
  simp [Ideal.ofBits, Ideal.ieee, -EReal.coe_mul]; norm_num

/-- The mean of the squares of a row, the small constant added. -/
abbrev mean (f : Fin 1024 → EReal) : EReal :=
  Ideal.div (∑ k : Fin 1024, f k * f k) (Ideal.ofBits FTy.f32 1149239296#32) + Ideal.ofBits FTy.f32 897988541#32

/-- A square is not negative. -/
theorem square_nonneg (a : EReal) : 0 ≤ a * a := by
  induction a with
  | bot => simp
  | top => simp
  | coe r => rw [← EReal.coe_mul]; exact EReal.coe_nonneg.mpr (mul_self_nonneg r)

/-- The mean of the squares is plus infinity or a positive real number. -/
theorem mean_cases (f : Fin 1024 → EReal) : mean f = ⊤ ∨ ∃ v : ℝ, 0 < v ∧ mean f = (v : EReal) := by
  obtain ⟨e, he, hw⟩ := word_small
  have hS : 0 ≤ ∑ k : Fin 1024, f k * f k := Finset.sum_nonneg fun k _ => square_nonneg (f k)
  unfold mean
  rw [hw, word_width, Ideal.div_coe (by norm_num)]
  generalize (∑ k : Fin 1024, f k * f k) = S at hS
  induction S with
  | bot => simp at hS
  | top => left; rw [EReal.top_mul_coe_of_pos (by norm_num)]; rfl
  | coe s =>
    right
    refine ⟨s * (1 / 1024) + e, ?_, by push_cast; rfl⟩
    have := EReal.coe_nonneg.mp hS
    positivity

/-- A positive real factor goes into a sum, whatever its terms. -/
theorem mul_sum_pos {ι : Type*} (s : Finset ι) (f : ι → EReal) (r : ℝ) (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The gradient at one entry of a row as the kernel computes it: the row of values, the row of gradients times weights,
the entry of each, and the residual's gradient. -/
abbrev ker (f d : Fin 1024 → EReal) (x g z : EReal) : EReal :=
  Ideal.rsqrt (mean f) * (g - x * Ideal.rsqrt (mean f) *
    Ideal.div (∑ k : Fin 1024, d k * (f k * Ideal.rsqrt (mean f))) (Ideal.ofBits FTy.f32 1149239296#32)) + z

/-- What the reference adds to the gradient of each square. -/
abbrev slope (f d : Fin 1024 → EReal) : EReal :=
  Ideal.div ((∑ k : Fin 1024, f k * d k) * (Ideal.ofBits FTy.f32 3204448256#32 * Ideal.div (Ideal.rsqrt (mean f)) (mean f)))
    (Ideal.ofBits FTy.f32 1149239296#32)

/-- The two ways of computing the gradient at one entry agree, whatever the entries. -/
theorem two_ways (f d : Fin 1024 → EReal) (x g z : EReal) :
    g * Ideal.rsqrt (mean f) + x * slope f d + slope f d * x + z = ker f d x g z := by
  unfold ker slope
  refine congrArg (· + z) ?_
  rcases mean_cases f with h | ⟨v, hv, h⟩
  · rw [h, Ideal.rsqrt_top, word_width, Ideal.div_coe (by norm_num), Ideal.div_coe (by norm_num)]
    have : Ideal.div 0 (⊤ : EReal) = 0 := by unfold Ideal.div; simp
    rw [this]
    simp
  · have hr : Ideal.rsqrt (mean f) = (((Real.sqrt v)⁻¹ : ℝ) : EReal) := by
      rw [h, Ideal.rsqrt_coe, if_neg (not_lt.mpr hv.le), if_neg hv.ne']
    have hρ : 0 < (Real.sqrt v)⁻¹ := inv_pos.mpr (Real.sqrt_pos.mpr hv)
    have hsq : (Real.sqrt v)⁻¹ * (Real.sqrt v)⁻¹ = v⁻¹ := by rw [← mul_inv, Real.mul_self_sqrt hv.le]
    rw [hr, h]
    generalize (Real.sqrt v)⁻¹ = ρ at hρ hsq
    have hd : ∀ a : EReal, Ideal.div a ((1024 : ℝ) : EReal) = a * ((1 / 1024 : ℝ) : EReal) := fun a => Ideal.div_coe (by norm_num) a
    rw [word_width, word_half, hd, hd, Ideal.div_coe hv.ne']
    rw [show (∑ k : Fin 1024, d k * (f k * (ρ : EReal))) = (ρ : EReal) * ∑ k : Fin 1024, f k * d k from
      ((mul_sum_pos _ _ ρ hρ.le).trans (Finset.sum_congr rfl fun k _ => by ac_rfl)).symm]
    generalize (∑ k : Fin 1024, f k * d k) = S
    rw [EReal.mul_sub_of_nonneg_of_ne_top (EReal.coe_nonneg.mpr hρ.le) (EReal.coe_ne_top ρ)]
    rw [add_assoc, sub_eq_add_neg]
    refine congrArg₂ (· + ·) (mul_comm _ _) ?_
    have two : ∀ a : EReal, a + a = ((2 : ℝ) : EReal) * a := fun a => by
      rw [show ((2 : ℝ) : EReal) = 1 + 1 by norm_cast, EReal.right_distrib_of_nonneg zero_le_one zero_le_one, one_mul]
    rw [mul_comm _ x, two]
    have e1 : ((2 : ℝ) : EReal) * (x * (S * (((-(1 / 2) : ℝ) : EReal) * ((ρ : EReal) * ((1 / v : ℝ) : EReal))) * ((1 / 1024 : ℝ) : EReal)))
        = x * S * (((2 : ℝ) : EReal) * ((-(1 / 2) : ℝ) : EReal) * (ρ : EReal) * ((1 / v : ℝ) : EReal) * ((1 / 1024 : ℝ) : EReal)) := by
      ac_rfl
    have e2 : (ρ : EReal) * (x * (ρ : EReal) * ((ρ : EReal) * S * ((1 / 1024 : ℝ) : EReal)))
        = x * S * ((ρ : EReal) * (ρ : EReal) * (ρ : EReal) * ((1 / 1024 : ℝ) : EReal)) := by ac_rfl
    rw [e1, e2, ← mul_neg]
    refine congrArg (x * S * ·) ?_
    norm_cast
    rw [hsq]
    field_simp

/-- The blocks a point of the grid reads and the blocks it writes. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

/-- The gradient of the rows as a formula. -/
abbrev REF (X : FVec Ideal S8192x1024 .f32) (W : FVec Ideal S1024 .f32) (D R : FVec Ideal S8192x1024 .f32) : FVec Ideal S8192x1024 .f32 :=
  fun y => ker (fun k => X (ix2 (y 0) k)) (fun k => D (ix2 (y 0) k) * W (ix1 k)) (X y) (D y * W (ix1 (y 1))) (R y)

/-- The gradient of the weights as a formula, in the row the kernel keeps it in. -/
abbrev REFW (X D : FVec Ideal S8192x1024 .f32) : FVec Ideal S1x1024 .f32 :=
  fun y => ∑ r : Fin 8192, D (ix2 r (y 1)) * (X (ix2 r (y 1)) * Ideal.rsqrt (mean fun k => X (ix2 r k)))

/-- The running sum of the weights' gradient. -/
theorem pay1_at (a : FVec Ideal S1x1024 .f32) (b : Vec Ideal S1x1024 .f32) (y) : k0_pay1 (F := Ideal) a b y = b y + a y := by
  pointwise [k0_pay1]
  first | done | rfl

/-- What the rows of a block add to the weights' gradient. -/
theorem pay4_at (x0 x2 : Vec Ideal S512x1024 .f32) (y) : k0_pay4 (F := Ideal) x0 x2 y
    = ∑ r : Fin 512, x2 (ix2 r (y 1)) * (x0 (ix2 r (y 1)) * Ideal.rsqrt (mean fun k => x0 (ix2 r k))) := by
  pointwise [k0_pay4, k0_pay3, k0_pay2]
  first | done | rfl

/-- The gradient of the rows of a block. -/
theorem pay5_at (x0 : Vec Ideal S512x1024 .f32) (x1 : Vec Ideal S1x1024 .f32) (x2 x3 : Vec Ideal S512x1024 .f32) (y) :
    k0_pay5 (F := Ideal) x0 x1 x2 x3 y
      = ker (fun k => x0 (ix2 (y 0) k)) (fun k => x2 (ix2 (y 0) k) * x1 (ix2 0 k)) (x0 y) (x2 y * x1 (ix2 0 (y 1))) (x3 y) := by
  pointwise [k0_pay5, k0_pay3, k0_pay2]
  first | done | rfl

/-- The row of weights the kernel reads is the argument. -/
theorem entry (c : Dev nD) (y : S1x1024.Idx) : (V m c main_v0 : FVec Ideal S1x1024 .f32) y = (m ((c.tc : Thread nD τ).loc main_arg1) : FVec Ideal S1024 .f32) (ix1 (y 1)) := by
  change StableHlo.after hostOps0 (fun b => m (c, b)) (Proc.devRef .tc main_v0) y = _
  entry_read
  pointwise

/-- What a point adds to the weights' gradient. -/
def part (c : Dev nD) (t : Fin cfg0.N) (y : S1x1024.Idx) : EReal :=
  k0_pay4 (F := Ideal) (show Vec Ideal S512x1024 .f32 from iblk m c 0 t) (show Vec Ideal S512x1024 .f32 from iblk m c 2 t) y

/-- The first point leaves its own part of the weights' gradient. -/
theorem first (c : Dev nD) (t : Fin cfg0.N) (h : t.val % 16 = 0) (y) : (outsAt0 m c t.val t.isLt).2 y = 0 + part m c t y := by
  have hN : t.val < 16 := t.isLt
  rw [outsAt0_A m c t h (by omega)]; frame_out
  rw [zero_add]; rfl

/-- A later point adds its part. -/
theorem later (c : Dev nD) (t : Fin cfg0.N) (h : ¬ t.val % 16 = 0) (y) :
    (outsAt0 m c t.val t.isLt).2 y = (outsAt0 m c (t.val - 1) (Nat.lt_of_le_of_lt (Nat.sub_le _ _) t.isLt)).2 y + part m c t y := by
  rw [outsAt0_B m c t h (by omega)]; frame_out
  exact pay1_at _ _ y

/-- Every point writes the gradient of its rows. -/
theorem rows (c : Dev nD) (t : Fin cfg0.N) (y) :
    (outsAt0 m c t.val t.isLt).1 y = k0_pay5 (F := Ideal) (iblk m c 0 t) (iblk m c 1 t) (iblk m c 2 t) (iblk m c 3 t) y := by
  have hN : t.val < 16 := t.isLt
  by_cases h : t.val % 16 = 0
  · rw [outsAt0_A m c t h (by omega)]; frame_out
  · rw [outsAt0_B m c t h (by omega)]; frame_out

/-- The kernel leaves the gradient of the rows in its first result. -/
theorem final (c : Dev nD) : (dats m 0 c).arrAt 4 (cfgs 0).N
    = REF (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t _ y => ?_
  blk_simp
  rw [after0_4]
  refine (rows m c t y).trans ?_
  refine (pay5_at _ _ _ _ y).trans ?_
  have e1 : ∀ k : Fin 1024, (show Vec Ideal S1x1024 .f32 from iblk m c 1 t) (ix2 0 k)
      = (m ((c.tc : Thread nD τ).loc main_arg1) : FVec Ideal S1024 .f32) (ix1 k) := fun k => by
    blk_simp [iblk]
    rw [entry]
    blk_ext [idx t]
  have hk : ∀ (f f' d d' : Fin 1024 → EReal) (x x' g g' z z' : EReal), f = f' → d = d' → x = x' → g = g' → z = z' →
      ker f d x g z = ker f' d' x' g' z' := by
    rintro _ _ _ _ _ _ _ _ _ _ rfl rfl rfl rfl rfl; rfl
  refine hk _ _ _ _ _ _ _ _ _ _ (funext fun k => ?_) (funext fun k => congrArg₂ (· * ·) ?_ ?_) ?_ (congrArg₂ (· * ·) ?_ ?_) ?_
  · blk_ext [iblk, V, idx t]
  · blk_ext [iblk, V, idx t]
  · exact e1 k
  · blk_ext [iblk, V, idx t]
  · blk_ext [iblk, V, idx t]
  · refine (e1 (y 1)).trans ?_
    blk_ext [idx t]
  · blk_ext [iblk, V, idx t]

/-- The kernel leaves the gradient of the weights in the row of its second result. -/
theorem finalW (c : Dev nD) : (dats m 0 c).arrAt 5 (cfgs 0).N
    = REFW (m ((c.tc : Thread nD τ).loc main_arg0)) (m ((c.tc : Thread nD τ).loc main_arg2)) := by
  refine (dats m 0 c).arrAt_eq_of_covers 5 _ (by decide +kernel) fun t hf y => ?_
  have h7 := (flush0_5 t).mp hf
  blk_simp
  rw [after0_5]
  rw [Pipeline.eq_sum_fin_of_reset_step_apply_of_flush (fun n h => (outsAt0 m c n h).2) 16 (fun _ => 0) (part m c) (first m c) (later m c) t h7 y, zero_add]
  unfold REFW
  refine (Fin.sum_fin_congr fun s => (pay4_at _ _ y)).trans ?_
  refine Fin.sum_mul_add_congr fun s k hl => congrArg₂ (· * ·) ?_ (congrArg₂ (· * ·) ?_ (congrArg (fun f => Ideal.rsqrt (mean f)) (funext fun l => ?_)))
  · blk_ext [iblk, V, idx t, idx ⟨_, Pipeline.run_point_lt_of_flush t h7 s⟩]
  · blk_ext [iblk, V, idx t, idx ⟨_, Pipeline.run_point_lt_of_flush t h7 s⟩]
  · blk_ext [iblk, V, idx t, idx ⟨_, Pipeline.run_point_lt_of_flush t h7 s⟩]

/-- What the host's line behind the call leaves in the second result. -/
theorem tail (c : Dev nD) (y : S1024.Idx) :
    (Pipeline.afterTail₀ cfgs (dats m) 0 (V0 m) [hostOps1] c main_v2 : FVec Ideal S1024 .f32) y
      = REFW (m ((c.tc : Thread nD τ).loc main_arg0)) (m ((c.tc : Thread nD τ).loc main_arg2)) (ix2 0 (y 0)) := by
  rw [← finalW m c]
  change StableHlo.after hostOps1 (Pipeline.withArrays (cfgs 0).spec c (V0 m c) fun w => (dats m 0 c).arrAt w (cfgs 0).N) (Proc.devRef .tc main_v2) y = _
  entry_read
  pointwise
  exact congrFun (Pipeline.withArrays_arr (cfgs 0).spec launch0.win.arr_inj c _ _ 5) _

/-- Kernel and reference leave the same results. -/
theorem algebraic : Cert.algebraic_Kernel20Ideal_Reference20Ideal := by
  pair_intro
  · run_from Cert.Kernel20Ideal.Gen.run_main m g
    exact W_main_arg1 m (dats m) c
  · hlo_run
    · rw [final m c]
      funext y
      pointwise
      refine Eq.trans ?_ (two_ways _ _ _ _ _)
      first | done | rfl | (simp; done)
    · funext y
      refine Eq.trans ?_ (tail m c y).symm
      pointwise
      refine (Finset.sum_congr rfl fun _ _ => Finset.sum_congr rfl fun r _ => mul_comm _ _).trans ?_
      simp only [Finset.univ_unique, Finset.sum_singleton]
      rfl

/-- The reference runs to its end and leaves nothing pending. -/
theorem frame_reference : Cert.quiescent_Reference20Ideal := by
  intro m g _
  hlo_run
  · exact fun _ => ⟨trivial, trivial, trivial, trivial⟩
  · exact Idealize.ShloMosaic.sem_eq_zero_of_no_sems (by decide) _

end Cert.Kernel20Ideal.Value
end
-- ==== Proof.ScanConv.lean ====
module

public import proofs.«01_k».proof.Defs
public import proofs.«01_k».proof.Proof.Gen.Kernel18Ideal.Frame
public import proofs.«01_k».proof.Proof.Gen.Reference18Ideal
public import Idealize.ShloMosaic.Lib.Pipeline.ValueKit
public import Idealize.ShloMosaic.Lib.Claim
public import Idealize.ShloMosaic.Init

/-! The convolution in front of the scan, and its gate: what its kernel leaves in the result, and that the reference leaves the same. -/

@[expose] public section

set_option maxRecDepth 16384

noncomputable section

namespace Cert.Kernel18Ideal.Value

open Cert.Kernel18Ideal Cert.Kernel18Ideal.Gen
open Idealize.ShloMosaic Idealize.ShloMosaic.TcCoe Idealize.SL.Sem
open Idealize.ShloMosaic.Pipeline (Dat)

variable (m : (ℓ : Loc nD τ sig) → Buf (Elt Ideal) ℓ)

/-- The value a position takes `s` rows above: zero where that row lies before the start of the sequence. -/
def tap (X : FVec Ideal S8192x4096 .f32) (s : ℕ) (r : Fin 8192) (j : Fin 1536) : EReal :=
  if r.val % 4096 < s then 0 else X (ix2 ⟨r.val - s, by omega⟩ ⟨1024 + j.val, by omega⟩)

/-- The gate: a number times its logistic function. -/
def gate (p : EReal) : EReal := p * Ideal.div 1 (1 + Ideal.exp (-p))

/-- The convolution with four weights per channel and its gate, as a formula. -/
abbrev REF (X : FVec Ideal S8192x4096 .f32) (W : FVec Ideal S4x1536 .f32) (B : FVec Ideal S1536 .f32) : FVec Ideal S8192x1536 .f32 :=
  fun y => gate (tap X 3 (y 0) (y 1) * W (ix2 0 (y 1)) + B (ix1 (y 1)) + tap X 2 (y 0) (y 1) * W (ix2 1 (y 1))
    + tap X 1 (y 0) (y 1) * W (ix2 2 (y 1)) + tap X 0 (y 0) (y 1) * W (ix2 3 (y 1)))

/-- The blocks a point of the grid reads and the block it writes. -/
theorem idx : ∀ t : Fin cfg0.N, win0_0.index t = ![t.val / 3, t.val % 3 + 2] ∧ win0_1.index t = ![t.val / 3 * 128 - 1, t.val % 3 + 2]
    ∧ win0_2.index t = ![0, t.val % 3] ∧ win0_3.index t = ![0, t.val % 3] ∧ win0_4.index t = ![t.val / 3, t.val % 3] :=
  (by decide +kernel : ∀ t : Fin grid0.N, _)

/-- The eight rows above a block and the block, the eight rows zero where the block starts a sequence. -/
def slab (n : ℕ) (x0 : Vec Ideal S1024x512 .f32) (x1 : Vec Ideal S8x512 .f32) : FVec Ideal S1032x512 .f32 :=
  fun y => if h : (y 0).val < 8 then (if n % 4 = 0 then 0 else x1 (ix2 ⟨(y 0).val, h⟩ (y 1)))
    else x0 (ix2 ⟨(y 0).val - 8, by have := (y 0).isLt; change (y 0).val < 1032 at this; omega⟩ (y 1))

/-- A row of the slab at or below the eighth is a row of the block. -/
theorem slab_low (n : ℕ) (x0 : Vec Ideal S1024x512 .f32) (x1 : Vec Ideal S8x512 .f32) (a : Fin 1032) (b : Fin 512) (h : ¬ a.val < 8) :
    slab n x0 x1 (ix2 a b) = x0 (ix2 ⟨a.val - 8, by omega⟩ b) := dif_neg (show ¬ ((ix2 a b) 0).val < 8 from h)

/-- One of the first eight rows is the row above the block, or zero. -/
theorem slab_high (n : ℕ) (x0 : Vec Ideal S1024x512 .f32) (x1 : Vec Ideal S8x512 .f32) (a : Fin 1032) (b : Fin 512) (h : a.val < 8) :
    slab n x0 x1 (ix2 a b) = if n % 4 = 0 then 0 else x1 (ix2 ⟨a.val, h⟩ b) := dif_pos (show ((ix2 a b) 0).val < 8 from h)

/-- Two positions are the same when their numbers are. -/
theorem at2 {p q : ℕ} {a a' : Fin p} {b b' : Fin q} (h : a.val = a'.val) (h' : b.val = b'.val) : ix2 a b = ix2 a' b' := by
  rw [Fin.ext h, Fin.ext h']

/-- The rows the body joins are that slab. -/
theorem pay2_is (i : grid0.Coords) (x0 : Vec Ideal S1024x512 .f32) (x1 : Vec Ideal S8x512 .f32) :
    k0_pay2 (F := Ideal) i x0 x1 = slab (i 0).val x0 x1 := by
  funext y
  unfold slab
  pointwise [k0_pay2]
  have hi : (i 0).val < 8 := (i 0).isLt
  generalize (i 0).val = n at hi
  interval_cases n <;> rfl

/-- The block the body stores, entry by entry. -/
theorem pay_at (i : grid0.Coords) (x0 : Vec Ideal S1024x512 .f32) (x1 x2 : Vec Ideal S8x512 .f32) (x3 : Vec Ideal S1x512 .f32)
    (a : Fin 1024) (b : Fin 512) :
    k0_pay1 (F := Ideal) (k0_pay2 i x0 x1) (k0_pay3 x2) (k0_pay4 i x0 x1 x2 x3) (ix2 a b) = gate (
      slab (i 0).val x0 x1 (ix2 ⟨(8 + a.val + 1032 - 3) % 1032, Nat.mod_lt _ (by decide)⟩ b) * x2 (ix2 0 b) + x3 (ix2 0 b)
      + slab (i 0).val x0 x1 (ix2 ⟨(8 + a.val + 1032 - 2) % 1032, Nat.mod_lt _ (by decide)⟩ b) * x2 (ix2 1 b)
      + slab (i 0).val x0 x1 (ix2 ⟨(8 + a.val + 1032 - 1) % 1032, Nat.mod_lt _ (by decide)⟩ b) * x2 (ix2 2 b)
      + slab (i 0).val x0 x1 (ix2 ⟨8 + a.val, by omega⟩ b) * x2 (ix2 3 b)) := by
  unfold k0_pay4
  rw [pay2_is]
  unfold gate
  rw [← zero_sub]
  pointwise [k0_pay1, k0_pay3]

/-- The weights the kernel reads are the argument's. -/
theorem entry_v0 (c : Dev nD) (k : Fin 4) (j : Fin 1536) :
    (V m c main_v0 : FVec Ideal S8x1536 .f32) (ix2 ⟨k.val, by omega⟩ j) = (m ((c.tc : Thread nD τ).loc main_arg1) : FVec Ideal S4x1536 .f32) (ix2 k j) := by
  simp only [V, hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise

/-- The row of constants the kernel reads is the argument. -/
theorem entry_v1 (c : Dev nD) (y : S1x1536.Idx) :
    (V m c main_v1 : FVec Ideal S1x1536 .f32) y = (m ((c.tc : Thread nD τ).loc main_arg2) : FVec Ideal S1536 .f32) (ix1 (y 1)) := by
  simp only [V, hostOps0, hostOps0_1, hostOps0_2, List.flatten_cons, List.flatten_nil, List.cons_append, List.nil_append, List.append_nil]
  entry_read
  pointwise

/-- What the body reads `s` rows above a position of its block is the value `s` rows above in the array. -/
theorem tap_at (c : Dev nD) (t : Fin cfg0.N) (s : ℕ) (hs : s ≤ 3) (a : Fin 1024) (b : Fin 512) (u : Fin 1032) (hu : u.val = 8 + a.val - s)
    (r : Fin 8192) (j : Fin 1536) (hr : r.val = t.val / 3 * 1024 + a.val) (hj : j.val = t.val % 3 * 512 + b.val) :
    slab (grid0.coords t 0).val (show Vec Ideal S1024x512 .f32 from iblk m c 0 t) (show Vec Ideal S8x512 .f32 from iblk m c 1 t) (ix2 u b)
      = tap (m ((c.tc : Thread nD τ).loc main_arg0)) s r j := by
  have ht : t.val < 24 := t.isLt
  have h0 : (grid0.coords t 0).val = t.val / 3 % 8 := Pipeline.Grid.coords_val t 0 (by decide) rfl
  have x0_at : ∀ (a : Fin 1024) (b : Fin 512), (show Vec Ideal S1024x512 .f32 from iblk m c 0 t) (ix2 a b)
      = (m ((c.tc : Thread nD τ).loc main_arg0) : FVec Ideal S8192x4096 .f32)
        (ix2 ⟨t.val / 3 * 1024 + a.val, by omega⟩ ⟨(t.val % 3 + 2) * 512 + b.val, by omega⟩) := fun a b => by
    blk_ext [iblk, V, idx t]
  have x1_at : ∀ (a : Fin 8) (b : Fin 512), (show Vec Ideal S8x512 .f32 from iblk m c 1 t) (ix2 a b)
      = (m ((c.tc : Thread nD τ).loc main_arg0) : FVec Ideal S8192x4096 .f32)
        (ix2 ⟨(t.val / 3 * 128 - 1) * 8 + a.val, by omega⟩ ⟨(t.val % 3 + 2) * 512 + b.val, by omega⟩) := fun a b => by
    blk_ext [iblk, V, idx t]
  unfold tap
  by_cases h : a.val < s
  · rw [slab_high _ _ _ _ _ (by omega), h0]
    by_cases hn : t.val / 3 % 8 % 4 = 0
    · rw [if_pos hn, if_pos (by omega)]
    · rw [if_neg hn, if_neg (by omega)]
      refine (x1_at _ b).trans (congrArg _ (at2 ?_ ?_))
      · change (t.val / 3 * 128 - 1) * 8 + u.val = r.val - s
        omega
      · change (t.val % 3 + 2) * 512 + b.val = 1024 + j.val
        omega
  · rw [slab_low _ _ _ _ _ (by omega), if_neg (by omega)]
    refine (x0_at _ b).trans (congrArg _ (at2 ?_ ?_))
    · change t.val / 3 * 1024 + (u.val - 8) = r.val - s
      omega
    · change (t.val % 3 + 2) * 512 + b.val = 1024 + j.val
      omega

/-- The kernel leaves the gated convolution in its result. -/
theorem final (c : Dev nD) : (dats m 0 c).arrAt 4 (cfgs 0).N
    = REF (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]; frame_out
  obtain ⟨a, b, rfl⟩ : ∃ (a : Fin 1024) (b : Fin 512), y = ix2 a b := ⟨y 0, y 1, funext fun k => by fin_cases k <;> rfl⟩
  refine (pay_at _ _ _ _ _ a b).trans ?_
  have ht : t.val < 24 := t.isLt
  have hr : (((win0_4.blk t).view.emb (ix2 a b)) 0).val = t.val / 3 * 1024 + a.val := by
    blk_simp [idx t]
  have hj : (((win0_4.blk t).view.emb (ix2 a b)) 1).val = t.val % 3 * 512 + b.val := by
    blk_simp [idx t]
  have w_at : ∀ k : Fin 4, (show Vec Ideal S8x512 .f32 from iblk m c 2 t) (ix2 ⟨k.val, by omega⟩ b)
      = (m ((c.tc : Thread nD τ).loc main_arg1) : FVec Ideal S4x1536 .f32) (ix2 k (((win0_4.blk t).view.emb (ix2 a b)) 1)) := fun k => by
    refine Eq.trans ?_ (entry_v0 m c k _)
    blk_ext [iblk, idx t]
  have b_at : (show Vec Ideal S1x512 .f32 from iblk m c 3 t) (ix2 0 b)
      = (m ((c.tc : Thread nD τ).loc main_arg2) : FVec Ideal S1536 .f32) (ix1 (((win0_4.blk t).view.emb (ix2 a b)) 1)) := by
    blk_simp [iblk]
    rw [entry_v1]
    blk_ext [idx t]
  refine congrArg gate (congrArg₂ (· + ·) (congrArg₂ (· + ·) (congrArg₂ (· + ·) (congrArg₂ (· + ·) (congrArg₂ (· * ·) ?_ ?_) ?_) (congrArg₂ (· * ·) ?_ ?_))
    (congrArg₂ (· * ·) ?_ ?_)) (congrArg₂ (· * ·) ?_ ?_))
  · exact tap_at m c t 3 (by omega) a b _ (by change (8 + a.val + 1032 - 3) % 1032 = _; omega) _ _ hr hj
  · exact w_at 0
  · exact b_at
  · exact tap_at m c t 2 (by omega) a b _ (by change (8 + a.val + 1032 - 2) % 1032 = _; omega) _ _ hr hj
  · exact w_at 1
  · exact tap_at m c t 1 (by omega) a b _ (by change (8 + a.val + 1032 - 1) % 1032 = _; omega) _ _ hr hj
  · exact w_at 2
  · exact tap_at m c t 0 (by omega) a b _ rfl _ _ hr hj
  · exact w_at 3

/-- The value the reference takes at a position of the padded rows. -/
theorem tap_ref (X : FVec Ideal S8192x4096 .f32) (s k : ℕ) (hs : k + s = 3) (r : Fin 8192) (j : Fin 1536)
    (p : ¬ k + r.val % 4096 < 3 → r.val / 4096 * 4096 + (k + r.val % 4096 - 3) < 8192) (q : 1024 + j.val < 4096) :
    (if h : k + r.val % 4096 < 3 then (0 : EReal) else X (ix2 ⟨r.val / 4096 * 4096 + (k + r.val % 4096 - 3), p h⟩ ⟨1024 + j.val, q⟩))
      = tap X s r j := by
  unfold tap
  by_cases h : k + r.val % 4096 < 3
  · rw [dif_pos h, if_pos (by omega)]
  · rw [dif_neg h, if_neg (by omega)]
    exact congrArg X (at2 (by change r.val / 4096 * 4096 + (k + r.val % 4096 - 3) = r.val - s; omega) rfl)

/-- The value the reference takes at a position itself. -/
theorem tap_self (X : FVec Ideal S8192x4096 .f32) (r : Fin 8192) (j : Fin 1536) (u : Fin 8192) (v : Fin 4096) (hu : u.val = r.val) (hv : v.val = 1024 + j.val) :
    X (ix2 u v) = tap X 0 r j := by
  unfold tap
  exact (congrArg X (at2 hu hv)).trans (if_neg (Nat.not_lt_zero _)).symm

/-- Kernel and reference leave the same result. -/
theorem algebraic : Cert.algebraic_Kernel18Ideal_Reference18Ideal := by
  pair_intro
  · run_from Cert.Kernel18Ideal.Gen.run_main m g
    · exact V_main_arg1 m c
    · exact V_main_arg2 m c
  · hlo_run
    rw [final m c]
    funext y
    pointwise
    unfold REF gate
    refine congrArg₂ (· * ·) ?A (congrArg (Ideal.div 1) (congrArg (1 + ·) (congrArg Ideal.exp (congrArg Neg.neg ?A))))
    refine congrArg₂ (· + ·) (congrArg₂ (· + ·) (congrArg₂ (· + ·) (congrArg₂ (· + ·) (congrArg₂ (· * ·) ?_ rfl) rfl) (congrArg₂ (· * ·) ?_ rfl))
      (congrArg₂ (· * ·) ?_ rfl)) (congrArg₂ (· * ·) ?_ rfl)
    · refine Eq.trans ?_ (tap_ref (m ((c.tc : Thread nD τ).loc main_arg0)) 3 0 rfl (y 0) (y 1) (fun _ => by have := (y 0).isLt; change (y 0).val < 8192 at this; omega) (by have := (y 1).isLt; change (y 1).val < 1536 at this; omega))
      simp only [Nat.zero_add]
    · refine Eq.trans ?_ (tap_ref (m ((c.tc : Thread nD τ).loc main_arg0)) 2 1 rfl (y 0) (y 1) (fun _ => by have := (y 0).isLt; change (y 0).val < 8192 at this; omega) (by have := (y 1).isLt; change (y 1).val < 1536 at this; omega))
      rfl
    · refine Eq.trans ?_ (tap_ref (m ((c.tc : Thread nD τ).loc main_arg0)) 1 2 rfl (y 0) (y 1) (fun _ => by have := (y 0).isLt; change (y 0).val < 8192 at this; omega) (by have := (y 1).isLt; change (y 1).val < 1536 at this; omega))
      rfl
    · exact tap_self (m ((c.tc : Thread nD τ).loc main_arg0)) (y 0) (y 1) _ _ (by simp only [Fin.val_mk]; exact Nat.div_add_mod' _ _) rfl

/-- The reference runs to its end and leaves nothing pending. -/
theorem frame_reference : Cert.quiescent_Reference18Ideal := by
  intro m g _
  hlo_run
  · exact fun _ => ⟨trivial, trivial, trivial⟩
  · exact Idealize.ShloMosaic.sem_eq_zero_of_no_sems (by decide) _

end Cert.Kernel18Ideal.Value
end
-- ==== Proof.ForwardGate.lean ====
module

public import proofs.«01_k».proof.Defs
public import proofs.«01_k».proof.Proof.Gen.Kernel19Ideal.Frame
public import proofs.«01_k».proof.Proof.Gen.Reference19Ideal
public import Idealize.ShloMosaic.Lib.Pipeline.ValueKit
public import Idealize.ShloMosaic.Lib.Claim
public import Idealize.ShloMosaic.Init

/-! The convolution and the gate of the feed-forward block: what its kernel leaves in the result, and that the reference leaves the same. -/

@[expose] public section

set_option maxRecDepth 16384

noncomputable section

namespace Cert.Kernel19Ideal.Value

open Cert.Kernel19Ideal Cert.Kernel19Ideal.Gen
open Idealize.ShloMosaic Idealize.ShloMosaic.TcCoe Idealize.SL.Sem
open Idealize.ShloMosaic.Pipeline (Dat)

variable (m : (ℓ : Loc nD τ sig) → Buf (Elt Ideal) ℓ)

/-- The value a position takes `s` rows above: zero where that row lies before the start of the sequence. -/
def tap (X : FVec Ideal S8192x5632 .f32) (s : ℕ) (r : Fin 8192) (j : Fin 5632) : EReal :=
  if r.val % 4096 < s then 0 else X (ix2 ⟨r.val - s, by omega⟩ j)

/-- The convolution with three weights per channel, at a position. -/
def conv (X : FVec Ideal S8192x5632 .f32) (W : FVec Ideal S3x5632 .f32) (B : FVec Ideal S5632 .f32) (r : Fin 8192) (j : Fin 5632) : EReal :=
  tap X 2 r j * W (ix2 0 j) + B (ix1 j) + tap X 1 r j * W (ix2 1 j) + tap X 0 r j * W (ix2 2 j)

/-- The gate: a number times its logistic function. -/
def gate (p : EReal) : EReal := p * Ideal.div 1 (1 + Ideal.exp (-p))

/-- The gate of the first half of the channels times the second half, as a formula. -/
abbrev REF (X : FVec Ideal S8192x5632 .f32) (W : FVec Ideal S3x5632 .f32) (B : FVec Ideal S5632 .f32) : FVec Ideal S8192x2816 .bf16 :=
  fun y => gate (conv X W B (y 0) ⟨(y 1).val, Nat.lt_of_lt_of_le (y 1).isLt (by decide)⟩)
    * conv X W B (y 0) ⟨2816 + (y 1).val, Nat.add_lt_add_left (y 1).isLt 2816⟩

/-- The blocks a point of the grid reads and the block it writes. -/
theorem idx : ∀ t : Fin cfg0.N, win0_0.index t = ![t.val / 2, t.val % 2] ∧ win0_1.index t = ![t.val / 2 * 64 - 1, t.val % 2]
    ∧ win0_2.index t = ![t.val / 2, t.val % 2 + 2] ∧ win0_3.index t = ![t.val / 2 * 64 - 1, t.val % 2 + 2]
    ∧ win0_4.index t = ![0, t.val % 2] ∧ win0_5.index t = ![0, t.val % 2 + 2]
    ∧ win0_6.index t = ![0, t.val % 2] ∧ win0_7.index t = ![0, t.val % 2 + 2] ∧ win0_8.index t = ![t.val / 2, t.val % 2] :=
  (by decide +kernel : ∀ t : Fin grid0.N, _)

/-- The eight rows above a block and the block, the eight rows zero where the block starts a sequence. -/
def slab (n : ℕ) (x0 : Vec Ideal S512x1408 .f32) (x1 : Vec Ideal S8x1408 .f32) : FVec Ideal S520x1408 .f32 :=
  fun y => if h : (y 0).val < 8 then (if n % 8 = 0 then 0 else x1 (ix2 ⟨(y 0).val, h⟩ (y 1)))
    else x0 (ix2 ⟨(y 0).val - 8, by have := (y 0).isLt; change (y 0).val < 520 at this; omega⟩ (y 1))

/-- A row of the slab at or below the eighth is a row of the block. -/
theorem slab_low (n : ℕ) (x0 : Vec Ideal S512x1408 .f32) (x1 : Vec Ideal S8x1408 .f32) (a : Fin 520) (b : Fin 1408) (h : ¬ a.val < 8) :
    slab n x0 x1 (ix2 a b) = x0 (ix2 ⟨a.val - 8, by omega⟩ b) := dif_neg (show ¬ ((ix2 a b) 0).val < 8 from h)

/-- One of the first eight rows is the row above the block, or zero. -/
theorem slab_high (n : ℕ) (x0 : Vec Ideal S512x1408 .f32) (x1 : Vec Ideal S8x1408 .f32) (a : Fin 520) (b : Fin 1408) (h : a.val < 8) :
    slab n x0 x1 (ix2 a b) = if n % 8 = 0 then 0 else x1 (ix2 ⟨a.val, h⟩ b) := dif_pos (show ((ix2 a b) 0).val < 8 from h)

/-- Two positions are the same when their numbers are. -/
theorem at2 {p q : ℕ} {a a' : Fin p} {b b' : Fin q} (h : a.val = a'.val) (h' : b.val = b'.val) : ix2 a b = ix2 a' b' := by
  rw [Fin.ext h, Fin.ext h']

/-- Whether the block at a point of the grid starts a sequence, as the body works it out. -/
def starts (n : ℕ) : BitVec 1 :=
  let q : BitVec 32 := Scalar.select (Scalar.cmpi .eq 8#32 0#32) 1#32 8#32
  let u : BitVec 32 := Scalar.remsi (BitVec.ofNat 32 n) q
  Scalar.cmpi .eq (Scalar.select (Scalar.andi (Scalar.xori (Scalar.cmpi .slt u 0#32) (Scalar.cmpi .slt q 0#32)) (Scalar.cmpi .ne u 0#32)) (Scalar.addi u q) u) 0#32

/-- The rows the body joins. -/
def joined (f : BitVec 1) (x0 : Vec Ideal S512x1408 .f32) (x1 : Vec Ideal S8x1408 .f32) : FVec Ideal S520x1408 .f32 :=
  concatenate S520x1408 0 [⟨S8x1408, Scalar.select f (broadcast S8x1408 (Scalar.ofBits .f32 0x00000000#32 : Ideal .f32)) x1⟩, ⟨S512x1408, x0⟩]
    concatenates_S8x1408_S512x1408_S520x1408_d0

/-- They are the slab. -/
theorem joined_is (n : ℕ) (hn : n < 16) (x0 : Vec Ideal S512x1408 .f32) (x1 : Vec Ideal S8x1408 .f32) : joined (starts n) x0 x1 = slab n x0 x1 := by
  funext y
  unfold slab joined starts
  pointwise
  interval_cases n <;> rfl

/-- The convolution the body takes of the rows it joined. -/
def lines (s : FVec Ideal S520x1408 .f32) (w : Vec Ideal S8x1408 .f32) (b : Vec Ideal S1x1408 .f32) : FVec Ideal S512x1408 .f32 :=
  let w' : FVec Ideal S8x1408 .f32 := shapeCast S8x1408 w shapeCasts_S8x1408_S8x1408
  let row (o : Fin 2 → ℕ) (h : S8x1408.Slices o S1x1408) : FVec Ideal S512x1408 .f32 :=
    broadcastTo S512x1408 (extractStridedSlice S1x1408 o w' h) broadcasts_S1x1408_S512x1408
  let back (k : BitVec 32) : FVec Ideal S512x1408 .f32 := extractStridedSlice S512x1408 ![8, 0] (dynamicRotate 0 k none s rotates_S520x1408_d0) slices_S520x1408_o8_0_S512x1408
  addf (addf (addf (mulf (back 2#32) (row ![0, 0] slices_S8x1408_o0_0_S1x1408))
    (broadcastTo S512x1408 (shapeCast S1x1408 b shapeCasts_S1x1408_S1x1408 : FVec Ideal S1x1408 .f32) broadcasts_S1x1408_S512x1408))
    (mulf (back 1#32) (row ![1, 0] slices_S8x1408_o1_0_S1x1408)))
    (mulf (extractStridedSlice S512x1408 ![8, 0] s slices_S520x1408_o8_0_S512x1408) (row ![2, 0] slices_S8x1408_o2_0_S1x1408))

/-- That convolution, entry by entry. -/
theorem lines_at (s : FVec Ideal S520x1408 .f32) (w : Vec Ideal S8x1408 .f32) (x : Vec Ideal S1x1408 .f32) (a : Fin 512) (b : Fin 1408) :
    lines s w x (ix2 a b) = s (ix2 ⟨(8 + a.val + 520 - 2) % 520, Nat.mod_lt _ (by decide)⟩ b) * w (ix2 0 b) + x (ix2 0 b)
      + s (ix2 ⟨(8 + a.val + 520 - 1) % 520, Nat.mod_lt _ (by decide)⟩ b) * w (ix2 1 b)
      + s (ix2 ⟨8 + a.val, by omega⟩ b) * w (ix2 2 b) := by
  pointwise [lines]

/-- The first half's convolution in the body is that of the slab. -/
theorem pay2_is (i : grid0.Coords) (x0 : Vec Ideal S512x1408 .f32) (x1 w : Vec Ideal S8x1408 .f32) (x : Vec Ideal S1x1408 .f32) :
    k0_pay2 (F := Ideal) i x0 x1 w x = lines (slab (i 0).val x0 x1) w x := by
  rw [← joined_is _ (i 0).isLt]
  rfl

/-- The block the body stores is the gate of the first half's convolution times the second half's. -/
theorem pay1_is (n : ℕ) (hn : n < 16) (p : FVec Ideal S512x1408 .f32) (x0 : Vec Ideal S512x1408 .f32) (x1 w : Vec Ideal S8x1408 .f32) (x : Vec Ideal S1x1408 .f32)
    (y : S512x1408.Idx) : k0_pay1 (F := Ideal) (starts n) p x0 x1 w x y = gate (p y) * lines (slab n x0 x1) w x y := by
  rw [← joined_is _ hn]
  have h : k0_pay1 (F := Ideal) (starts n) p x0 x1 w x = (truncf .bf16 (mulf (mulf p (divf (broadcast S512x1408 (Scalar.ofBits .f32 0x3F800000#32))
      (addf (broadcast S512x1408 (Scalar.ofBits .f32 0x3F800000#32)) (exp (subf (broadcast S512x1408 (Scalar.ofBits .f32 0x00000000#32)) p)))))
      (lines (joined (starts n) x0 x1) w x)) bitsLt_bf16_f32 : FVec Ideal S512x1408 .bf16) := rfl
  rw [h]
  generalize lines (joined (starts n) x0 x1) w x = q
  unfold gate
  rw [← zero_sub]
  pointwise

/-- The convolution of the slab is the array's, where the block and the rows above it are the array's. -/
theorem lines_is (X : FVec Ideal S8192x5632 .f32) (W : FVec Ideal S3x5632 .f32) (B : FVec Ideal S5632 .f32) (n o : ℕ) (hn : n < 16) (ho : o + 1408 ≤ 5632)
    (x0 : Vec Ideal S512x1408 .f32) (x1 w : Vec Ideal S8x1408 .f32) (x : Vec Ideal S1x1408 .f32)
    (h0 : ∀ (a : Fin 512) (b : Fin 1408), x0 (ix2 a b) = X (ix2 ⟨n * 512 + a.val, by omega⟩ ⟨o + b.val, by omega⟩))
    (h1 : ∀ (a : Fin 8) (b : Fin 1408), x1 (ix2 a b) = X (ix2 ⟨(n * 64 - 1) * 8 + a.val, by omega⟩ ⟨o + b.val, by omega⟩))
    (hw : ∀ (k : Fin 3) (b : Fin 1408), w (ix2 ⟨k.val, by omega⟩ b) = W (ix2 k ⟨o + b.val, by omega⟩))
    (hx : ∀ b : Fin 1408, x (ix2 0 b) = B (ix1 ⟨o + b.val, by omega⟩))
    (a : Fin 512) (b : Fin 1408) (r : Fin 8192) (j : Fin 5632) (hr : r.val = n * 512 + a.val) (hj : j.val = o + b.val) :
    lines (slab n x0 x1) w x (ix2 a b) = conv X W B r j := by
  have tap_at : ∀ (s : ℕ), s ≤ 2 → ∀ u : Fin 520, u.val = 8 + a.val - s → slab n x0 x1 (ix2 u b) = tap X s r j := fun s hs u hu => by
    unfold tap
    by_cases h : a.val < s
    · rw [slab_high _ _ _ _ _ (by omega)]
      by_cases hq : n % 8 = 0
      · rw [if_pos hq, if_pos (by omega)]
      · rw [if_neg hq, if_neg (by omega)]
        exact (h1 _ b).trans (congrArg X (at2 (by change (n * 64 - 1) * 8 + u.val = r.val - s; omega) hj.symm))
    · rw [slab_low _ _ _ _ _ (by omega), if_neg (by omega)]
      exact (h0 _ b).trans (congrArg X (at2 (by change n * 512 + (u.val - 8) = r.val - s; omega) hj.symm))
  have hj' : (⟨o + b.val, by omega⟩ : Fin 5632) = j := Fin.ext hj.symm
  have w0 := hw 0 b
  have w1 := hw 1 b
  have w2 := hw 2 b
  have x' := hx b
  rw [hj'] at w0 w1 w2 x'
  rw [lines_at]
  unfold conv
  refine congrArg₂ (· + ·) (congrArg₂ (· + ·) (congrArg₂ (· + ·) (congrArg₂ (· * ·) ?_ w0) x') (congrArg₂ (· * ·) ?_ w1))
    (congrArg₂ (· * ·) ?_ w2)
  · exact tap_at 2 (by omega) _ (by change (8 + a.val + 520 - 2) % 520 = _; omega)
  · exact tap_at 1 (by omega) _ (by change (8 + a.val + 520 - 1) % 520 = _; omega)
  · exact tap_at 0 (by omega) _ rfl

/-- The weights the kernel reads are the argument's. -/
theorem entry_v0 (c : Dev nD) (k : Fin 3) (j : Fin 5632) :
    (V m c main_v0 : FVec Ideal S8x5632 .f32) (ix2 ⟨k.val, by omega⟩ j) = (m ((c.tc : Thread nD τ).loc main_arg1) : FVec Ideal S3x5632 .f32) (ix2 k j) := by
  simp only [V, hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise

/-- The row of constants the kernel reads is the argument. -/
theorem entry_v1 (c : Dev nD) (y : S1x5632.Idx) :
    (V m c main_v1 : FVec Ideal S1x5632 .f32) y = (m ((c.tc : Thread nD τ).loc main_arg2) : FVec Ideal S5632 .f32) (ix1 (y 1)) := by
  simp only [V, hostOps0, hostOps0_1, hostOps0_2, List.flatten_cons, List.flatten_nil, List.cons_append, List.nil_append, List.append_nil]
  entry_read
  pointwise

/-- The kernel leaves the gated convolution in its result. -/
theorem final (c : Dev nD) : (dats m 0 c).arrAt 8 (cfgs 0).N
    = REF (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after0_8]; frame_out
  obtain ⟨a, b, rfl⟩ : ∃ (a : Fin 512) (b : Fin 1408), y = ix2 a b := ⟨y 0, y 1, funext fun k => by fin_cases k <;> rfl⟩
  have ht : t.val < 32 := t.isLt
  have h0 : (grid0.coords t 0).val = t.val / 2 := (Pipeline.Grid.coords_val t 0 (by decide) rfl).trans (Nat.mod_eq_of_lt (by omega : t.val / 2 < 16))
  have hr : (((win0_8.blk t).view.emb (ix2 a b)) 0).val = t.val / 2 * 512 + a.val := by
    blk_simp [idx t]
  have hj : (((win0_8.blk t).view.emb (ix2 a b)) 1).val = t.val % 2 * 1408 + b.val := by
    blk_simp [idx t]
  refine (pay1_is (grid0.coords t 0).val (grid0.coords t 0).isLt _ _ _ _ _ (ix2 a b)).trans ?_
  rw [pay2_is, h0]
  refine congrArg₂ (· * ·) (congrArg gate ?_) ?_
  · refine lines_is _ _ _ (t.val / 2) (t.val % 2 * 1408) (by omega) (by omega) _ _ _ _ (fun a b => ?_) (fun a b => ?_) (fun k b => ?_) (fun b => ?_) a b _ _ hr hj
    · blk_ext [iblk, V, idx t]
    · blk_ext [iblk, V, idx t]
    · refine Eq.trans ?_ (entry_v0 m c k _)
      blk_ext [iblk, idx t]
    · blk_simp [iblk]
      rw [entry_v1]
      blk_ext [idx t]
  · refine lines_is _ _ _ (t.val / 2) ((t.val % 2 + 2) * 1408) (by omega) (by omega) _ _ _ _ (fun a b => ?_) (fun a b => ?_) (fun k b => ?_) (fun b => ?_) a b _ _ hr
      (by change 2816 + (((win0_8.blk t).view.emb (ix2 a b)) 1).val = _; omega)
    · blk_ext [iblk, V, idx t]
    · blk_ext [iblk, V, idx t]
    · refine Eq.trans ?_ (entry_v0 m c k _)
      blk_ext [iblk, idx t]
    · blk_simp [iblk]
      rw [entry_v1]
      blk_ext [idx t]

/-- The value the reference takes at a position of the padded rows. -/
theorem tap_ref (X : FVec Ideal S8192x5632 .f32) (s k : ℕ) (hs : k + s = 2) (r : Fin 8192) (j : Fin 5632)
    (p : ¬ k + r.val % 4096 < 2 → r.val / 4096 * 4096 + (k + r.val % 4096 - 2) < 8192) :
    (if h : k + r.val % 4096 < 2 then (0 : EReal) else X (ix2 ⟨r.val / 4096 * 4096 + (k + r.val % 4096 - 2), p h⟩ j)) = tap X s r j := by
  unfold tap
  by_cases h : k + r.val % 4096 < 2
  · rw [dif_pos h, if_pos (by omega)]
  · rw [dif_neg h, if_neg (by omega)]
    exact congrArg X (at2 (by change r.val / 4096 * 4096 + (k + r.val % 4096 - 2) = r.val - s; omega) rfl)

/-- The value the reference takes at a position itself. -/
theorem tap_self (X : FVec Ideal S8192x5632 .f32) (r : Fin 8192) (j : Fin 5632) (u : Fin 8192) (hu : u.val = r.val) :
    X (ix2 u j) = tap X 0 r j := by
  unfold tap
  exact (congrArg X (at2 hu rfl)).trans (if_neg (Nat.not_lt_zero _)).symm

/-- The convolution the reference takes of the padded rows. -/
theorem conv_ref (X : FVec Ideal S8192x5632 .f32) (W : FVec Ideal S3x5632 .f32) (B : FVec Ideal S5632 .f32) (r : Fin 8192) (j : Fin 5632)
    (p : ¬ r.val % 4096 < 2 → r.val / 4096 * 4096 + (r.val % 4096 - 2) < 8192) (q : ¬ 1 + r.val % 4096 < 2 → r.val / 4096 * 4096 + (1 + r.val % 4096 - 2) < 8192)
    (u : r.val / 4096 * 4096 + r.val % 4096 < 8192) :
    (if h : r.val % 4096 < 2 then (0 : EReal) else X (ix2 ⟨r.val / 4096 * 4096 + (r.val % 4096 - 2), p h⟩ j)) * W (ix2 0 j) + B (ix1 j)
      + (if h : 1 + r.val % 4096 < 2 then (0 : EReal) else X (ix2 ⟨r.val / 4096 * 4096 + (1 + r.val % 4096 - 2), q h⟩ j)) * W (ix2 1 j)
      + X (ix2 ⟨r.val / 4096 * 4096 + r.val % 4096, u⟩ j) * W (ix2 2 j) = conv X W B r j := by
  unfold conv
  refine congrArg₂ (· + ·) (congrArg₂ (· + ·) (congrArg₂ (· + ·) (congrArg₂ (· * ·) ?_ rfl) rfl) (congrArg₂ (· * ·) ?_ rfl)) (congrArg₂ (· * ·) ?_ rfl)
  · refine Eq.trans ?_ (tap_ref X 2 0 rfl r j (fun _ => by omega))
    simp only [Nat.zero_add]
  · exact tap_ref X 1 1 rfl r j q
  · exact tap_self X r j _ (Nat.div_add_mod' _ _)

/-- Kernel and reference leave the same result. -/
theorem algebraic : Cert.algebraic_Kernel19Ideal_Reference19Ideal := by
  pair_intro
  · run_from Cert.Kernel19Ideal.Gen.run_main m g
    · exact V_main_arg1 m c
    · exact V_main_arg2 m c
  · hlo_run
    rw [final m c]
    funext y
    pointwise
    have hr : (y 0).val < 8192 := (y 0).isLt
    unfold REF gate
    refine congrArg₂ (· * ·) (congrArg₂ (· * ·) ?A (congrArg (Ideal.div 1) (congrArg (1 + ·) (congrArg Ideal.exp (congrArg Neg.neg ?A))))) ?_
    · exact conv_ref (m ((c.tc : Thread nD τ).loc main_arg0)) (m ((c.tc : Thread nD τ).loc main_arg1)) (m ((c.tc : Thread nD τ).loc main_arg2)) (y 0) ⟨(y 1).val, Nat.lt_of_lt_of_le (y 1).isLt (by decide)⟩ (fun _ => by omega) (fun _ => by omega) (by omega)
    · exact conv_ref (m ((c.tc : Thread nD τ).loc main_arg0)) (m ((c.tc : Thread nD τ).loc main_arg1)) (m ((c.tc : Thread nD τ).loc main_arg2)) (y 0) ⟨2816 + (y 1).val, Nat.add_lt_add_left (y 1).isLt 2816⟩ (fun _ => by omega) (fun _ => by omega) (by omega)

/-- The reference runs to its end and leaves nothing pending. -/
theorem frame_reference : Cert.quiescent_Reference19Ideal := by
  intro m g _
  hlo_run
  · exact fun _ => ⟨trivial, trivial, trivial⟩
  · exact Idealize.ShloMosaic.sem_eq_zero_of_no_sems (by decide) _

end Cert.Kernel19Ideal.Value
end
-- ==== Proof.Online.lean ====
module

public import proofs.«01_k».proof.Proof.Heads

@[expose] public section

noncomputable section

/-! # The softmax of a row, keys seen block by block

A row's largest score so far, its sum of shifted exponentials and its weighted sum of values, after the first `n` keys. -/

namespace Cert.Attn

open Idealize.ShloMosaic Idealize.ShloMosaic.TcCoe
open Finset

/-- The weight of key `c` for query `r` when `μ` is taken off the score: zero above the diagonal. -/
def wt (H : Head) (μ : ℝ) (r c : ℕ) : ℝ := if c ≤ r then Real.exp (H.s r c - μ) else 0

/-- After the first `n` keys a row's state is the start, if there are none, and else a real number `μ` with the sums of the weights it gives. -/
def Seen (H : Head) (r n : ℕ) (m l : EReal) (a : Fin 128 → EReal) : Prop :=
  (n = 0 ∧ m = ⊥ ∧ l = 0 ∧ ∀ d, a d = 0) ∨
  ∃ μ : ℝ, m = (μ : EReal) ∧ l = ((∑ c ∈ range n, wt H μ r c : ℝ) : EReal) ∧
    ∀ d : Fin 128, a d = ((∑ c ∈ range n, wt H μ r c * H.v c d : ℝ) : EReal)

/-- A weight is rescaled by changing what is taken off the score. -/
theorem wt_shift (H : Head) (μ ν : ℝ) (r c : ℕ) : Real.exp (μ - ν) * wt H μ r c = wt H ν r c := by
  unfold wt
  split
  · rw [← Real.exp_add]; congr 1; ring
  · rw [mul_zero]

/-- The exponential of a masked score, `ν` taken off. -/
theorem exp_wt (H : Head) (ν : ℝ) (r c : ℕ) :
    Ideal.exp ((if c ≤ r then ((H.s r c : ℝ) : EReal) else ⊥) - (ν : EReal)) = ((wt H ν r c : ℝ) : EReal) := by
  unfold wt
  split
  · rw [← EReal.coe_sub]; rfl
  · rw [EReal.bot_sub]; rfl

/-- The largest score of a block of which the first key is not above the diagonal is a real number. -/
theorem fold_block (S : Fin 1024 → EReal) (H : Head) (r n : ℕ) (hn : n ≤ r)
    (hS : ∀ c : Fin 1024, S c = if n + c.val ≤ r then ((H.s r (n + c.val) : ℝ) : EReal) else ⊥) :
    ∃ M : ℝ, univ.fold max ⊥ S = (M : EReal) := by
  have ht : univ.fold max ⊥ S < ⊤ := by
    rw [Finset.fold_max_lt]
    refine ⟨bot_lt_top, fun c _ => ?_⟩
    rw [hS c]; split
    · exact EReal.coe_lt_top _
    · exact bot_lt_top
  have hb : ⊥ < univ.fold max ⊥ S := by
    rw [Finset.lt_fold_max]
    refine Or.inr ⟨0, mem_univ _, ?_⟩
    rw [hS 0, if_pos (by simpa using hn)]; exact EReal.bot_lt_coe _
  exact ⟨_, (EReal.coe_toReal ht.ne hb.ne').symm⟩

/-- One more block of keys: the new largest score, the old sums rescaled to it and the block's own added. -/
theorem Seen.step {H : Head} {r n : ℕ} {m l : EReal} {a : Fin 128 → EReal} (h : Seen H r n m l a) (hn : n ≤ r)
    {S : Fin 1024 → EReal} {V : Fin 1024 → Fin 128 → EReal} {m' : EReal}
    (hS : ∀ c : Fin 1024, S c = if n + c.val ≤ r then ((H.s r (n + c.val) : ℝ) : EReal) else ⊥)
    (hV : ∀ c d, V c d = ((H.v (n + c.val) d.val : ℝ) : EReal)) (hm : m' = max m (univ.fold max ⊥ S)) :
    Seen H r (n + 1024) m' (Ideal.exp (m - m') * l + ∑ c, Ideal.exp (S c - m'))
      (fun d => Ideal.exp (m - m') * a d + ∑ c, Ideal.exp (S c - m') * V c d) := by
  obtain ⟨M, hM⟩ := fold_block S H r n hn hS
  have hnu : ∃ ν : ℝ, m' = (ν : EReal) := by
    rcases h with ⟨_, h2, _⟩ | ⟨μ, h2, _⟩
    · exact ⟨M, by rw [hm, h2, hM]; exact max_eq_right bot_le⟩
    · exact ⟨max μ M, by rw [hm, h2, hM]; exact (EReal.coe_strictMono.monotone.map_max).symm⟩
  obtain ⟨ν, hν⟩ := hnu
  have old : Ideal.exp (m - m') * l = ((∑ c ∈ range n, wt H ν r c : ℝ) : EReal) ∧
      ∀ d, Ideal.exp (m - m') * a d = ((∑ c ∈ range n, wt H ν r c * H.v c d : ℝ) : EReal) := by
    rcases h with ⟨h1, h2, h3, h4⟩ | ⟨μ, h2, h3, h4⟩
    · subst h1
      refine ⟨by rw [h3]; simp, fun d => by rw [h4 d]; simp⟩
    · have he : Ideal.exp (m - m') = ((Real.exp (μ - ν) : ℝ) : EReal) := by rw [h2, hν, ← EReal.coe_sub]; rfl
      refine ⟨?_, fun d => ?_⟩
      · rw [he, h3, ← EReal.coe_mul, Finset.mul_sum]
        exact congrArg _ (Finset.sum_congr rfl fun c _ => wt_shift H μ ν r c)
      · rw [he, h4 d, ← EReal.coe_mul, Finset.mul_sum]
        exact congrArg _ (Finset.sum_congr rfl fun c _ => by rw [← mul_assoc, wt_shift])
  have new : ∀ c : Fin 1024, Ideal.exp (S c - m') = ((wt H ν r (n + c.val) : ℝ) : EReal) := fun c => by
    rw [hS c, hν]; exact exp_wt H ν r (n + c.val)
  refine Or.inr ⟨ν, hν, ?_, fun d => ?_⟩
  · rw [old.1, sum_fin _ (fun c => wt H ν r (n + c)) new, ← EReal.coe_add, Finset.sum_range_add]
  · show Ideal.exp (m - m') * a d + ∑ c, Ideal.exp (S c - m') * V c d = _
    rw [old.2 d, Cert.KernelIdeal.Value.sum_mul _ _ (fun c => wt H ν r (n + c)) (fun c => H.v (n + c) d) new (fun c => hV c d),
      ← EReal.coe_add, Finset.sum_range_add]

/-- Keys past the diagonal add nothing. -/
theorem sum_wt (H : Head) (μ : ℝ) (r n : ℕ) (f : ℕ → ℝ) (hr : r < n) (hn : n ≤ 4096) :
    ∑ c ∈ range n, wt H μ r c * f c = ∑ c ∈ range 4096, wt H μ r c * f c := by
  refine Finset.sum_subset (fun c hc => mem_range.mpr (by have := mem_range.mp hc; omega)) fun c _ hc => ?_
  have : n ≤ c := by by_contra h; exact hc (mem_range.mpr (by omega))
  unfold wt; rw [if_neg (by omega), zero_mul]

/-- When all keys up to the diagonal have been seen, the logarithm of the sum plus what was taken off is the row's, and the quotient of the two sums is the output. -/
theorem Seen.done {H : Head} {r n : ℕ} {m l : EReal} {a : Fin 128 → EReal} (h : Seen H r n m l a) (hr : r < n) (hn : n ≤ 4096) :
    m + Ideal.log l = ((H.lse r : ℝ) : EReal) ∧ ∀ d, Ideal.div (a d) l = ((H.o r d : ℝ) : EReal) := by
  rcases h with ⟨h1, _⟩ | ⟨μ, h2, h3, h4⟩
  · omega
  have hl : ∑ c ∈ range n, wt H μ r c = Real.exp (H.μ r - μ) * H.l r := by
    have e := sum_wt H μ r n (fun _ => 1) hr hn
    simp only [mul_one] at e
    rw [e]; unfold Head.l; rw [Finset.mul_sum]
    exact Finset.sum_congr rfl fun c _ => (wt_shift H (H.μ r) μ r c).symm
  have hp := H.l_pos r (by omega)
  have hpos : 0 < ∑ c ∈ range n, wt H μ r c := by rw [hl]; exact mul_pos (Real.exp_pos _) hp
  refine ⟨?_, fun d => ?_⟩
  · rw [h2, h3, log_coe _ hpos, ← EReal.coe_add, hl, Real.log_mul (Real.exp_pos _).ne' hp.ne', Real.log_exp]
    unfold Head.lse
    exact congrArg _ (by ring)
  · rw [h4 d, h3, div_coe _ _ hpos.ne', sum_wt H μ r n (fun c => H.v c d) hr hn, hl]
    refine congrArg _ ?_
    unfold Head.o
    rw [Finset.sum_div]
    refine Finset.sum_congr rfl fun c _ => ?_
    rw [H.p_eq r c (by omega), show H.e r c = wt H (H.μ r) r c from rfl, ← wt_shift H (H.μ r) μ r c]
    have := (Real.exp_pos (H.μ r - μ)).ne'
    have := hp.ne'
    field_simp

end Cert.Attn

end
-- ==== Proof.FwdBlock.lean ====
module

public import proofs.«01_k».proof.Proof.Online
public import proofs.«01_k».proof.Proof.Gen.Kernel23Ideal.Skeleton
public import Idealize.ShloMosaic.Lib.Pipeline.ValueKit

@[expose] public section

set_option maxRecDepth 16384

noncomputable section

/-! # The forward attention's body, block of keys by block of keys

Each group of expressions of the body — new row maxima, new row sums, new weighted sums — takes rows that have seen `n` keys to rows that have seen `n + 1024`. -/

namespace Cert.Kernel23Ideal.Value

open Cert.Kernel23Ideal Cert.Kernel23Ideal.Gen Cert.Attn
open Cert.KernelIdeal.Value (Is sum_mul)
open Idealize.ShloMosaic Idealize.ShloMosaic.TcCoe
open Finset

/-- The 1024 rows from `R` on have seen the first `n` keys. -/
def Rows (H : Head) (R n : ℕ) (m l : FVec Ideal S1024x1 .f32) (a : FVec Ideal S1024x128 .f32) : Prop :=
  ∀ r : Fin 1024, Seen H (R + r.val) n (m (ix2 r 0)) (l (ix2 r 0)) fun d => a (ix2 r d)

variable {H : Head} {R n : ℕ}
variable {q k v : FVec Ideal S1024x128 .bf16} {m l : FVec Ideal S1024x1 .f32} {a : FVec Ideal S1024x128 .f32}

/-- The start: nothing seen. -/
theorem rows_start : Rows H R 0 (k0_pay12 (F := Ideal)) (k0_pay13 (F := Ideal)) (k0_pay14 (F := Ideal)) := by
  intro r
  refine Or.inl ⟨rfl, ?_, ?_, fun d => ?_⟩
  · pointwise [k0_pay12]; exact bot_eq
  · pointwise [k0_pay13]; try simp
  · show (k0_pay14 (F := Ideal)) (ix2 r d) = 0
    pointwise [k0_pay14]; try simp

/-- A score of a block wholly on or below the diagonal. -/
theorem score_eq (x y : FVec Ideal S1024x128 .bf16) (hx : Is (a := 1024) (b := 128) x fun r d => H.q (R + r) d) (hy : Is (a := 1024) (b := 128) y fun c d => H.k (n + c) d)
    (h : n + 1024 ≤ R + 1) (r c : Fin 1024) :
    (∑ d : Fin 128, x (ix2 r d) * y (ix2 c d) : EReal) = if n + c.val ≤ R + r.val then ((H.s (R + r.val) (n + c.val) : ℝ) : EReal) else ⊥ := by
  rw [if_pos (by omega)]
  exact sum_mul _ _ (fun d => H.q (R + r.val) d) (fun d => H.k (n + c.val) d) (fun d => hx r d) (fun d => hy c d)

/-- A score of the block on the diagonal, those above it minus infinity. -/
theorem score_diag (x y : FVec Ideal S1024x128 .bf16) (hx : Is (a := 1024) (b := 128) x fun r d => H.q (R + r) d) (hy : Is (a := 1024) (b := 128) y fun c d => H.k (R + c) d) (r c : Fin 1024) :
    (if c.val ≤ r.val then (∑ d : Fin 128, x (ix2 r d) * y (ix2 c d) : EReal) else ⊥) = if R + c.val ≤ R + r.val then ((H.s (R + r.val) (R + c.val) : ℝ) : EReal) else ⊥ := by
  refine if_congr (by omega) ?_ rfl
  exact sum_mul _ _ (fun d => H.q (R + r.val) d) (fun d => H.k (R + c.val) d) (fun d => hx r d) (fun d => hy c d)

/-- A turn of the loop, for the upper rows of the block. -/
theorem loop_up (hq : Is (a := 1024) (b := 128) q fun r d => H.q (R + r) d) (hk : Is (a := 1024) (b := 128) k fun c d => H.k (n + c) d)
    (hv : Is (a := 1024) (b := 128) v fun c d => H.v (n + c) d) (h : Rows H R n m l a) (hn : n + 1024 ≤ R + 1) :
    Rows H R (n + 1024) (k0_pay18 (F := Ideal) q m k) (k0_pay21 (F := Ideal) q m l k) (k0_pay22 (F := Ideal) q m a k v) := by
  intro r
  have hm : (k0_pay18 (F := Ideal) q m k) (ix2 r 0) = max (m (ix2 r 0)) (univ.fold max ⊥ fun c : Fin 1024 => ∑ d : Fin 128, q (ix2 r d) * k (ix2 c d)) := by
    pointwise [k0_pay18, k0_pay17, k0_pay15, k0_pay10]
    simp only [bot_eq]
  have hl : (k0_pay21 (F := Ideal) q m l k) (ix2 r 0) = Ideal.exp (m (ix2 r 0) - (k0_pay18 (F := Ideal) q m k) (ix2 r 0)) * l (ix2 r 0) + ∑ c : Fin 1024, Ideal.exp ((∑ d : Fin 128, q (ix2 r d) * k (ix2 c d)) - (k0_pay18 (F := Ideal) q m k) (ix2 r 0)) := by
    pointwise [k0_pay21, k0_pay20, k0_pay19, k0_pay17, k0_pay15, k0_pay10]
    try rfl
  have ha : ∀ d : Fin 128, (k0_pay22 (F := Ideal) q m a k v) (ix2 r d) = Ideal.exp (m (ix2 r 0) - (k0_pay18 (F := Ideal) q m k) (ix2 r 0)) * a (ix2 r d) + ∑ c : Fin 1024, Ideal.exp ((∑ d : Fin 128, q (ix2 r d) * k (ix2 c d)) - (k0_pay18 (F := Ideal) q m k) (ix2 r 0)) * v (ix2 c d) := by
    intro d
    pointwise [k0_pay22, k0_pay20, k0_pay19, k0_pay17, k0_pay16, k0_pay15, k0_pay10]
    try rfl
  rw [hl, funext ha]
  exact (h r).step (V := fun c d => v (ix2 c d)) (by omega) (fun c => score_eq q k hq hk hn r c) (fun c d => hv c d) hm

/-- A turn of the loop, for the lower rows of the block. -/
theorem loop_lo (hq : Is (a := 1024) (b := 128) q fun r d => H.q (R + r) d) (hk : Is (a := 1024) (b := 128) k fun c d => H.k (n + c) d)
    (hv : Is (a := 1024) (b := 128) v fun c d => H.v (n + c) d) (h : Rows H R n m l a) (hn : n + 1024 ≤ R + 1) :
    Rows H R (n + 1024) (k0_pay24 (F := Ideal) q m k) (k0_pay27 (F := Ideal) q m l k) (k0_pay28 (F := Ideal) q m a k v) := by
  intro r
  have hm : (k0_pay24 (F := Ideal) q m k) (ix2 r 0) = max (m (ix2 r 0)) (univ.fold max ⊥ fun c : Fin 1024 => ∑ d : Fin 128, q (ix2 r d) * k (ix2 c d)) := by
    pointwise [k0_pay24, k0_pay23, k0_pay15, k0_pay11]
    simp only [bot_eq]
  have hl : (k0_pay27 (F := Ideal) q m l k) (ix2 r 0) = Ideal.exp (m (ix2 r 0) - (k0_pay24 (F := Ideal) q m k) (ix2 r 0)) * l (ix2 r 0) + ∑ c : Fin 1024, Ideal.exp ((∑ d : Fin 128, q (ix2 r d) * k (ix2 c d)) - (k0_pay24 (F := Ideal) q m k) (ix2 r 0)) := by
    pointwise [k0_pay27, k0_pay26, k0_pay25, k0_pay23, k0_pay15, k0_pay11]
    try rfl
  have ha : ∀ d : Fin 128, (k0_pay28 (F := Ideal) q m a k v) (ix2 r d) = Ideal.exp (m (ix2 r 0) - (k0_pay24 (F := Ideal) q m k) (ix2 r 0)) * a (ix2 r d) + ∑ c : Fin 1024, Ideal.exp ((∑ d : Fin 128, q (ix2 r d) * k (ix2 c d)) - (k0_pay24 (F := Ideal) q m k) (ix2 r 0)) * v (ix2 c d) := by
    intro d
    pointwise [k0_pay28, k0_pay26, k0_pay25, k0_pay23, k0_pay16, k0_pay15, k0_pay11]
    try rfl
  rw [hl, funext ha]
  exact (h r).step (V := fun c d => v (ix2 c d)) (by omega) (fun c => score_eq q k hq hk hn r c) (fun c d => hv c d) hm

/-- The block on the diagonal, for the upper rows. -/
theorem diag_up (hq : Is (a := 1024) (b := 128) q fun r d => H.q (R + r) d) (hk : Is (a := 1024) (b := 128) k fun c d => H.k (R + c) d)
    (hv : Is (a := 1024) (b := 128) v fun c d => H.v (R + c) d) (h : Rows H R R m l a) :
    Rows H R (R + 1024) (k0_pay46 (F := Ideal) q m k) (k0_pay50 (F := Ideal) m l (k0_pay46 (F := Ideal) q m k) (k0_pay47 (F := Ideal) q m k)) (k0_pay51 (F := Ideal) m a (k0_pay44 v) (k0_pay46 (F := Ideal) q m k) (k0_pay47 (F := Ideal) q m k)) := by
  intro r
  have hm : (k0_pay46 (F := Ideal) q m k) (ix2 r 0) = max (m (ix2 r 0)) (univ.fold max ⊥ fun c : Fin 1024 => if c.val ≤ r.val then ∑ d : Fin 128, q (ix2 r d) * k (ix2 c d) else ⊥) := by
    pointwise [k0_pay46, k0_pay45, k0_pay43, k0_pay10]
    simp only [bot_eq, Cert.KernelIdeal.Value.mask _ _ (Nat.lt_of_lt_of_le (Fin.isLt _) (by decide : 1024 ≤ 4096)) (Nat.lt_of_lt_of_le (Fin.isLt _) (by decide : 1024 ≤ 4096))]
  have hl : (k0_pay50 (F := Ideal) m l (k0_pay46 (F := Ideal) q m k) (k0_pay47 (F := Ideal) q m k)) (ix2 r 0) = Ideal.exp (m (ix2 r 0) - (k0_pay46 (F := Ideal) q m k) (ix2 r 0)) * l (ix2 r 0) + ∑ c : Fin 1024, Ideal.exp ((if c.val ≤ r.val then ∑ d : Fin 128, q (ix2 r d) * k (ix2 c d) else ⊥) - (k0_pay46 (F := Ideal) q m k) (ix2 r 0)) := by
    pointwise [k0_pay50, k0_pay49, k0_pay48, k0_pay47, k0_pay45, k0_pay43, k0_pay10]
    simp only [bot_eq, Cert.KernelIdeal.Value.mask _ _ (Nat.lt_of_lt_of_le (Fin.isLt _) (by decide : 1024 ≤ 4096)) (Nat.lt_of_lt_of_le (Fin.isLt _) (by decide : 1024 ≤ 4096))]
  have ha : ∀ d : Fin 128, (k0_pay51 (F := Ideal) m a (k0_pay44 v) (k0_pay46 (F := Ideal) q m k) (k0_pay47 (F := Ideal) q m k)) (ix2 r d) = Ideal.exp (m (ix2 r 0) - (k0_pay46 (F := Ideal) q m k) (ix2 r 0)) * a (ix2 r d) + ∑ c : Fin 1024, Ideal.exp ((if c.val ≤ r.val then ∑ d : Fin 128, q (ix2 r d) * k (ix2 c d) else ⊥) - (k0_pay46 (F := Ideal) q m k) (ix2 r 0)) * v (ix2 c d) := by
    intro d
    pointwise [k0_pay51, k0_pay49, k0_pay48, k0_pay47, k0_pay45, k0_pay44, k0_pay43, k0_pay10]
    simp only [bot_eq, Cert.KernelIdeal.Value.mask _ _ (Nat.lt_of_lt_of_le (Fin.isLt _) (by decide : 1024 ≤ 4096)) (Nat.lt_of_lt_of_le (Fin.isLt _) (by decide : 1024 ≤ 4096))]
  rw [hl, funext ha]
  exact (h r).step (V := fun c d => v (ix2 c d)) (by omega) (fun c => score_diag q k hq hk r c) (fun c d => hv c d) hm

/-- The block beside the diagonal, for the lower rows. -/
theorem below_lo (hq : Is (a := 1024) (b := 128) q fun r d => H.q (R + r) d) (hk : Is (a := 1024) (b := 128) k fun c d => H.k (n + c) d)
    (hv : Is (a := 1024) (b := 128) v fun c d => H.v (n + c) d) (h : Rows H R n m l a) (hn : n + 1024 ≤ R + 1) :
    Rows H R (n + 1024) (k0_pay53 (F := Ideal) (k0_pay11 q) m (k0_pay43 k)) (k0_pay56 (F := Ideal) (k0_pay11 q) m l (k0_pay43 k)) (k0_pay57 (F := Ideal) (k0_pay11 q) m a (k0_pay43 k) (k0_pay44 v)) := by
  intro r
  have hm : (k0_pay53 (F := Ideal) (k0_pay11 q) m (k0_pay43 k)) (ix2 r 0) = max (m (ix2 r 0)) (univ.fold max ⊥ fun c : Fin 1024 => ∑ d : Fin 128, q (ix2 r d) * k (ix2 c d)) := by
    pointwise [k0_pay53, k0_pay52, k0_pay43, k0_pay11]
    simp only [bot_eq]
  have hl : (k0_pay56 (F := Ideal) (k0_pay11 q) m l (k0_pay43 k)) (ix2 r 0) = Ideal.exp (m (ix2 r 0) - (k0_pay53 (F := Ideal) (k0_pay11 q) m (k0_pay43 k)) (ix2 r 0)) * l (ix2 r 0) + ∑ c : Fin 1024, Ideal.exp ((∑ d : Fin 128, q (ix2 r d) * k (ix2 c d)) - (k0_pay53 (F := Ideal) (k0_pay11 q) m (k0_pay43 k)) (ix2 r 0)) := by
    pointwise [k0_pay56, k0_pay55, k0_pay54, k0_pay52, k0_pay43, k0_pay11]
    try rfl
  have ha : ∀ d : Fin 128, (k0_pay57 (F := Ideal) (k0_pay11 q) m a (k0_pay43 k) (k0_pay44 v)) (ix2 r d) = Ideal.exp (m (ix2 r 0) - (k0_pay53 (F := Ideal) (k0_pay11 q) m (k0_pay43 k)) (ix2 r 0)) * a (ix2 r d) + ∑ c : Fin 1024, Ideal.exp ((∑ d : Fin 128, q (ix2 r d) * k (ix2 c d)) - (k0_pay53 (F := Ideal) (k0_pay11 q) m (k0_pay43 k)) (ix2 r 0)) * v (ix2 c d) := by
    intro d
    pointwise [k0_pay57, k0_pay55, k0_pay54, k0_pay52, k0_pay44, k0_pay43, k0_pay11]
    try rfl
  rw [hl, funext ha]
  exact (h r).step (V := fun c d => v (ix2 c d)) (by omega) (fun c => score_eq q k hq hk hn r c) (fun c d => hv c d) hm

/-- What the block on the diagonal adds to the lower rows' weighted sums. -/
def lastA (m : FVec Ideal S1024x1 .f32) (a : FVec Ideal S1024x128 .f32) (q k v : FVec Ideal S1024x128 .bf16) : FVec Ideal S1024x128 .f32 :=
  addf (mulf (broadcastTo S1024x128 (k0_pay4 (F := Ideal) m (k0_pay59 (k0_pay11 q) k) k0_pay60 (Scalar.ofBits .f32 0xFF800000#32)) broadcasts_S1024x1_S1024x128) a)
    (matmul dot_S1024x1024_S1024x128_S1024x128_1_0_0_1_n_n none (truncf .bf16 (k0_pay3 (F := Ideal) m (k0_pay59 (k0_pay11 q) k) k0_pay60 (Scalar.ofBits .f32 0xFF800000#32)) bitsLt_bf16_f32) (k0_pay58 v) (constant S1024x128 .f32 0x00000000#32))

/-- The block on the diagonal, for the lower rows. -/
theorem diag_lo (hq : Is (a := 1024) (b := 128) q fun r d => H.q (R + r) d) (hk : Is (a := 1024) (b := 128) k fun c d => H.k (R + c) d)
    (hv : Is (a := 1024) (b := 128) v fun c d => H.v (R + c) d) (h : Rows H R R m l a) :
    Rows H R (R + 1024) (k0_pay2 (F := Ideal) m (k0_pay59 (k0_pay11 q) k) k0_pay60 (Scalar.ofBits .f32 0xFF800000#32)) (k0_pay5 (F := Ideal) m l (k0_pay59 (k0_pay11 q) k) k0_pay60 (Scalar.ofBits .f32 0xFF800000#32)) (lastA m a q k v) := by
  intro r
  have hm : (k0_pay2 (F := Ideal) m (k0_pay59 (k0_pay11 q) k) k0_pay60 (Scalar.ofBits .f32 0xFF800000#32)) (ix2 r 0) = max (m (ix2 r 0)) (univ.fold max ⊥ fun c : Fin 1024 => if c.val ≤ r.val then ∑ d : Fin 128, q (ix2 r d) * k (ix2 c d) else ⊥) := by
    pointwise [k0_pay2, k0_pay1, k0_pay60, k0_pay59, k0_pay11]
    simp only [bot_eq, Cert.KernelIdeal.Value.mask _ _ (Nat.lt_of_lt_of_le (Fin.isLt _) (by decide : 1024 ≤ 4096)) (Nat.lt_of_lt_of_le (Fin.isLt _) (by decide : 1024 ≤ 4096))]
  have hl : (k0_pay5 (F := Ideal) m l (k0_pay59 (k0_pay11 q) k) k0_pay60 (Scalar.ofBits .f32 0xFF800000#32)) (ix2 r 0) = Ideal.exp (m (ix2 r 0) - (k0_pay2 (F := Ideal) m (k0_pay59 (k0_pay11 q) k) k0_pay60 (Scalar.ofBits .f32 0xFF800000#32)) (ix2 r 0)) * l (ix2 r 0) + ∑ c : Fin 1024, Ideal.exp ((if c.val ≤ r.val then ∑ d : Fin 128, q (ix2 r d) * k (ix2 c d) else ⊥) - (k0_pay2 (F := Ideal) m (k0_pay59 (k0_pay11 q) k) k0_pay60 (Scalar.ofBits .f32 0xFF800000#32)) (ix2 r 0)) := by
    pointwise [k0_pay5, k0_pay4, k0_pay3, k0_pay1, k0_pay60, k0_pay59, k0_pay11]
    simp only [bot_eq, Cert.KernelIdeal.Value.mask _ _ (Nat.lt_of_lt_of_le (Fin.isLt _) (by decide : 1024 ≤ 4096)) (Nat.lt_of_lt_of_le (Fin.isLt _) (by decide : 1024 ≤ 4096))]
  have ha : ∀ d : Fin 128, (lastA m a q k v) (ix2 r d) = Ideal.exp (m (ix2 r 0) - (k0_pay2 (F := Ideal) m (k0_pay59 (k0_pay11 q) k) k0_pay60 (Scalar.ofBits .f32 0xFF800000#32)) (ix2 r 0)) * a (ix2 r d) + ∑ c : Fin 1024, Ideal.exp ((if c.val ≤ r.val then ∑ d : Fin 128, q (ix2 r d) * k (ix2 c d) else ⊥) - (k0_pay2 (F := Ideal) m (k0_pay59 (k0_pay11 q) k) k0_pay60 (Scalar.ofBits .f32 0xFF800000#32)) (ix2 r 0)) * v (ix2 c d) := by
    intro d
    pointwise [lastA, k0_pay4, k0_pay3, k0_pay1, k0_pay60, k0_pay59, k0_pay58, k0_pay11]
    simp only [bot_eq, Cert.KernelIdeal.Value.mask _ _ (Nat.lt_of_lt_of_le (Fin.isLt _) (by decide : 1024 ≤ 4096)) (Nat.lt_of_lt_of_le (Fin.isLt _) (by decide : 1024 ≤ 4096))]
  rw [hl, funext ha]
  exact (h r).step (V := fun c d => v (ix2 c d)) (by omega) (fun c => score_diag q k hq hk r c) (fun c d => hv c d) hm

/-- The upper rows' outputs and logarithms. -/
theorem done_up (h : Rows H R (R + 1024) m l a) (hR : R + 1024 ≤ 4096) :
    Is (a := 1024) (b := 128) (k0_pay6 (F := Ideal) l a) (fun r d => H.o (R + r) d) ∧ Is (a := 1024) (b := 128) (k0_pay7 (F := Ideal) m l) (fun r _ => H.lse (R + r)) := by
  refine ⟨fun r d => ?_, fun r d => ?_⟩
  · pointwise [k0_pay6]
    exact ((h r).done (by omega) hR).2 d
  · pointwise [k0_pay7]
    exact ((h r).done (by omega) hR).1

/-- The lower rows' outputs and logarithms. -/
theorem done_lo (h : Rows H R (R + 1024) (k0_pay2 (F := Ideal) m (k0_pay59 (k0_pay11 q) k) k0_pay60 (Scalar.ofBits .f32 0xFF800000#32)) (k0_pay5 (F := Ideal) m l (k0_pay59 (k0_pay11 q) k) k0_pay60 (Scalar.ofBits .f32 0xFF800000#32)) (lastA m a q k v)) (hR : R + 1024 ≤ 4096) :
    Is (a := 1024) (b := 128) (k0_pay8 (F := Ideal) m l a (k0_pay58 v) (k0_pay59 (k0_pay11 q) k) k0_pay60 (Scalar.ofBits .f32 0xFF800000#32)) (fun r d => H.o (R + r) d) ∧
      Is (a := 1024) (b := 128) (k0_pay9 (F := Ideal) m l (k0_pay59 (k0_pay11 q) k) k0_pay60 (Scalar.ofBits .f32 0xFF800000#32)) (fun r _ => H.lse (R + r)) := by
  refine ⟨fun r d => ?_, fun r d => ?_⟩
  · refine Eq.trans ?_ (((h r).done (by omega) hR).2 d)
    pointwise [k0_pay8, lastA]
  · pointwise [k0_pay9]
    exact ((h r).done (by omega) hR).1

end Cert.Kernel23Ideal.Value

end
-- ==== Proof.FwdPoint.lean ====
module

public import proofs.«01_k».proof.Proof.FwdBlock
public import proofs.«01_k».proof.Proof.Gen.Kernel23Ideal.Frame
public import Idealize.ShloMosaic.Lib.VecWindow

@[expose] public section

set_option maxRecDepth 16384

noncomputable section

/-! # What a grid step of the forward attention leaves in its two blocks -/

namespace Cert.Kernel23Ideal.Value

open Cert.Kernel23Ideal Cert.Kernel23Ideal.Gen Cert.Attn
open Cert.KernelIdeal.Value (Is rows_is)
open Idealize.ShloMosaic Idealize.ShloMosaic.TcCoe
open Finset

/-- The loop of a grid step runs over the blocks of keys before the step's own rows. -/
theorem trips1 : ∀ i : grid0.Coords, (k0_t1_loop i).trips = 2 * (i 2).val := by decide +kernel
/-- The remainder loop makes no turn. -/
theorem trips2 : ∀ i : grid0.Coords, (k0_t2_loop i).trips = 0 := by decide +kernel
/-- Turn `k` loads block `k` of the keys and values. -/
theorem off1_eq : ∀ (i : grid0.Coords) (k : Fin (k0_t1_loop i).trips), k0_off1 i k = ![1024 * k.val, 0] := by decide +kernel
/-- The next block loaded is the one of the step's upper rows. -/
theorem off3_eq : ∀ i : grid0.Coords, k0_off3 i = ![2048 * (i 2).val, 0] := by decide +kernel
/-- The last block loaded is the one of the step's lower rows. -/
theorem off4_eq : ∀ i : grid0.Coords, k0_off4 i = ![2048 * (i 2).val + 1024, 0] := by decide +kernel

/-- Both halves of a step's rows have seen the first `n` keys. -/
def Both (H : Head) (R n : ℕ) (s : FVec Ideal S1024x1 .f32 × FVec Ideal S1024x1 .f32 × FVec Ideal S1024x128 .f32 × FVec Ideal S1024x1 .f32 × FVec Ideal S1024x1 .f32 × FVec Ideal S1024x128 .f32) : Prop :=
  Rows H R n s.1 s.2.1 s.2.2.1 ∧ Rows H (R + 1024) n s.2.2.2.1 s.2.2.2.2.1 s.2.2.2.2.2

/-- A block's rows from `o` on, as a load reads them. -/
theorem load_is (arg : Memref sig .tc .vmem S4096x128 .bf16) (X : BufTy.Contents (Elt Ideal) arg.view.ty) (f : ℕ → ℕ → ℝ)
    (hX : Is (a := 4096) (b := 128) (arg.view.read (Elt Ideal) X) f) (off : Fin 2 → ℕ) (o : ℕ) (ho : off = ![o, 0]) (h) :
    Is (a := 1024) (b := 128) (arg.view.readAt (Elt Ideal) (Rect.unit (s := S4096x128) off S1024x128.size h).toLoadRect X) (fun r d => f (o + r) d) :=
  rows_is (arg.view.read (Elt Ideal) X) f off o ho h hX

/-- The rows from `o` on of a block of 2048 rows. -/
theorem half_rows (x : S2048x128.Idx → EReal) (f : ℕ → ℕ → ℝ) (off : Fin 2 → ℕ) (o : ℕ) (ho : off = ![o, 0]) (h) (hx : Is (a := 2048) (b := 128) x f) :
    Is (a := 1024) (b := 128) (VecWindow.window (s := S2048x128) x off S1024x128.size h) (fun r d => f (o + r) d) := by
  subst ho
  intro r d
  have hr : o + r.val < 2048 := Nat.lt_of_lt_of_le (Nat.add_lt_add_left r.isLt o) (h 0)
  refine Eq.trans (b := x (ix2 ⟨o + r.val, hr⟩ d)) (congrArg x ?_) (hx _ _)
  blk_ext

/-- The half of a block of 2048 rows from `o` on, as a load reads it. -/
theorem half_is (arg : Memref sig .tc .vmem S2048x128 .bf16) (X : BufTy.Contents (Elt Ideal) arg.view.ty) (f : ℕ → ℕ → ℝ)
    (hX : Is (a := 2048) (b := 128) (arg.view.read (Elt Ideal) X) f) (o : ℕ) (h) :
    Is (a := 1024) (b := 128) (arg.view.readAt (Elt Ideal) (Rect.unit (s := S2048x128) ![o, 0] S1024x128.size h).toLoadRect X) (fun r d => f (o + r) d) :=
  half_rows (arg.view.read (Elt Ideal) X) f ![o, 0] o rfl h hX

/-- What one turn of the loop yields. -/
theorem turn_eq (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S2048x128 .f32) (harg7 : arg7.IsWhole)
    (q q' : Vec Ideal S1024x128 .bf16) (X4 : BufTy.Contents (Elt Ideal) arg4.view.ty) (X5 : BufTy.Contents (Elt Ideal) arg5.view.ty) (k : Fin (k0_t1_loop i).trips)
    (s : FVec Ideal S1024x1 .f32 × FVec Ideal S1024x1 .f32 × FVec Ideal S1024x128 .f32 × FVec Ideal S1024x1 .f32 × FVec Ideal S1024x1 .f32 × FVec Ideal S1024x128 .f32) :
    tripR_k0_t1 (F := Ideal) Variants.none c none i arg3 harg3 arg4 harg4 arg5 harg5 arg6 harg6 arg7 harg7 q q' X4 X5 k s
      = (k0_pay18 q s.1 (arg4.view.readAt (Elt Ideal) (Rect.unit (s := S4096x128) (k0_off1 i k) S1024x128.size (k0_off1_inb i k)).toLoadRect X4),
         k0_pay21 q s.1 s.2.1 (arg4.view.readAt (Elt Ideal) (Rect.unit (s := S4096x128) (k0_off1 i k) S1024x128.size (k0_off1_inb i k)).toLoadRect X4),
         k0_pay22 q s.1 s.2.2.1 (arg4.view.readAt (Elt Ideal) (Rect.unit (s := S4096x128) (k0_off1 i k) S1024x128.size (k0_off1_inb i k)).toLoadRect X4) (arg5.view.readAt (Elt Ideal) (Rect.unit (s := S4096x128) (k0_off1 i k) S1024x128.size (k0_off1_inb i k)).toLoadRect X5),
         k0_pay24 q' s.2.2.2.1 (arg4.view.readAt (Elt Ideal) (Rect.unit (s := S4096x128) (k0_off1 i k) S1024x128.size (k0_off1_inb i k)).toLoadRect X4),
         k0_pay27 q' s.2.2.2.1 s.2.2.2.2.1 (arg4.view.readAt (Elt Ideal) (Rect.unit (s := S4096x128) (k0_off1 i k) S1024x128.size (k0_off1_inb i k)).toLoadRect X4),
         k0_pay28 q' s.2.2.2.1 s.2.2.2.2.2 (arg4.view.readAt (Elt Ideal) (Rect.unit (s := S4096x128) (k0_off1 i k) S1024x128.size (k0_off1_inb i k)).toLoadRect X4) (arg5.view.readAt (Elt Ideal) (Rect.unit (s := S4096x128) (k0_off1 i k) S1024x128.size (k0_off1_inb i k)).toLoadRect X5)) := by
  unfold tripR_k0_t1 trip_k0_t1
  rfl

section
variable {H : Head} (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S2048x128 .f32) (harg7 : arg7.IsWhole)
variable (q q' : Vec Ideal S1024x128 .bf16) (X4 : BufTy.Contents (Elt Ideal) arg4.view.ty) (X5 : BufTy.Contents (Elt Ideal) arg5.view.ty)

/-- After `k` turns of the loop both halves have seen `k` blocks of keys. -/
theorem loop_both (hq : Is (a := 1024) (b := 128) q fun r d => H.q (2048 * (i 2).val + r) d) (hq' : Is (a := 1024) (b := 128) q' fun r d => H.q (2048 * (i 2).val + 1024 + r) d)
    (h4 : Is (a := 4096) (b := 128) (arg4.view.read (Elt Ideal) X4) H.k) (h5 : Is (a := 4096) (b := 128) (arg5.view.read (Elt Ideal) X5) H.v) :
    ∀ k : ℕ, k ≤ (k0_t1_loop i).trips → Both H (2048 * (i 2).val) (1024 * k)
      (st_k0_t1 (F := Ideal) Variants.none c none i arg3 harg3 arg4 harg4 arg5 harg5 arg6 harg6 arg7 harg7 q q' X4 X5 (k0_pay12, k0_pay13, k0_pay14, k0_pay12, k0_pay13, k0_pay14) k)
  | 0, _ => ⟨rows_start, rows_start⟩
  | k + 1, hk => by
    have ih := loop_both hq hq' h4 h5 k (by omega)
    have e := st_k0_t1_succ (F := Ideal) Variants.none c none i arg3 harg3 arg4 harg4 arg5 harg5 arg6 harg6 arg7 harg7 q q' X4 X5 (k0_pay12, k0_pay13, k0_pay14, k0_pay12, k0_pay13, k0_pay14) ⟨k, by omega⟩
    dsimp only at e
    rw [e, turn_eq]
    have hn := trips1 i
    have hb : 1024 * k + 1024 ≤ 2048 * (i 2).val := by omega
    have hb' : 1024 * k + 1024 ≤ 2048 * (i 2).val + 1 := by omega
    have hb'' : 1024 * k + 1024 ≤ 2048 * (i 2).val + 1024 + 1 := by omega
    exact ⟨loop_up hq (load_is arg4 X4 H.k h4 _ _ (off1_eq i ⟨k, by omega⟩) _) (load_is arg5 X5 H.v h5 _ _ (off1_eq i ⟨k, by omega⟩) _) ih.1 hb',
      loop_lo hq' (load_is arg4 X4 H.k h4 _ _ (off1_eq i ⟨k, by omega⟩) _) (load_is arg5 X5 H.v h5 _ _ (off1_eq i ⟨k, by omega⟩) _) ih.2 hb''⟩

/-- After both loops both halves have seen every key before the step's rows. -/
theorem loops_both (hq : Is (a := 1024) (b := 128) q fun r d => H.q (2048 * (i 2).val + r) d) (hq' : Is (a := 1024) (b := 128) q' fun r d => H.q (2048 * (i 2).val + 1024 + r) d)
    (h4 : Is (a := 4096) (b := 128) (arg4.view.read (Elt Ideal) X4) H.k) (h5 : Is (a := 4096) (b := 128) (arg5.view.read (Elt Ideal) X5) H.v) (n n2 : ℕ) (hn : n = (k0_t1_loop i).trips) (hn2 : n2 = (k0_t2_loop i).trips) :
    Both H (2048 * (i 2).val) (2048 * (i 2).val)
      (st_k0_t2 (F := Ideal) Variants.none c none i arg3 harg3 arg4 harg4 arg5 harg5 arg6 harg6 arg7 harg7 q q' X4 X5
        (st_k0_t1 (F := Ideal) Variants.none c none i arg3 harg3 arg4 harg4 arg5 harg5 arg6 harg6 arg7 harg7 q q' X4 X5 (k0_pay12, k0_pay13, k0_pay14, k0_pay12, k0_pay13, k0_pay14) n) n2) := by
  subst hn hn2
  rw [trips2, st_k0_t2_zero]
  have h := loop_both (H := H) c i arg3 harg3 arg4 harg4 arg5 harg5 arg6 harg6 arg7 harg7 q q' X4 X5 hq hq' h4 h5 _ le_rfl
  rw [trips1 i, show 1024 * (2 * (i 2).val) = 2048 * (i 2).val by omega] at h
  rw [trips1 i]
  exact h
end

/-- Two halves put over a block of 2048 rows are the whole block. -/
theorem halves_is (x : S2048x128.Idx → EReal) (u w : FVec Ideal S1024x128 .f32) (f : ℕ → ℕ → ℝ) (hu : Is (a := 1024) (b := 128) u f) (hw : Is (a := 1024) (b := 128) w fun r d => f (1024 + r) d) :
    Is (a := 2048) (b := 128) (VecWindow.put (s := S2048x128) (VecWindow.put (s := S2048x128) x ![0, 0] ![1024, 128] u) ![1024, 0] ![1024, 128] w) f := by
  intro r d
  unfold VecWindow.put
  by_cases c : 1024 ≤ r.val
  · rw [dif_pos (fun a => by
      have := r.isLt; have := d.isLt
      fin_cases a
      · exact ⟨c, by show r.val < 1024 + 1024; omega⟩
      · exact ⟨Nat.zero_le _, by show d.val < 0 + 128; omega⟩)]
    refine Eq.trans (b := w (ix2 (⟨r.val - 1024, by omega⟩ : Fin 1024) d)) (congrArg w ?_) ((hw _ _).trans ?_)
    · funext a; apply Fin.ext; fin_cases a
      · rfl
      · exact Nat.sub_zero _
    · show ((f (1024 + (r.val - 1024)) d.val : ℝ) : EReal) = _
      rw [show 1024 + (r.val - 1024) = r.val by omega]
  · rw [dif_neg (fun h => c (h 0).1), dif_pos (fun a => by
      have := r.isLt; have := d.isLt
      fin_cases a
      · exact ⟨Nat.zero_le _, by show r.val < 0 + 1024; omega⟩
      · exact ⟨Nat.zero_le _, by show d.val < 0 + 128; omega⟩)]
    refine Eq.trans (b := u (ix2 (⟨r.val, by omega⟩ : Fin 1024) d)) (congrArg u ?_) (hu _ _)
    funext a; apply Fin.ext; fin_cases a
    · exact Nat.sub_zero _
    · exact Nat.sub_zero _

section
variable {H : Head} (i : grid0.Coords) (q q' k1 v1 k2 v2 : FVec Ideal S1024x128 .bf16) (s : FVec Ideal S1024x1 .f32 × FVec Ideal S1024x1 .f32 × FVec Ideal S1024x128 .f32 × FVec Ideal S1024x1 .f32 × FVec Ideal S1024x1 .f32 × FVec Ideal S1024x128 .f32)

/-- From both halves after the loops, the block beside the diagonal and the blocks on it, the four stored pieces. -/
theorem pieces (hi : (i 2).val < 2) (hq : Is (a := 1024) (b := 128) q fun r d => H.q (2048 * (i 2).val + r) d) (hq' : Is (a := 1024) (b := 128) q' fun r d => H.q (2048 * (i 2).val + 1024 + r) d)
    (hk1 : Is (a := 1024) (b := 128) k1 fun r d => H.k (2048 * (i 2).val + r) d) (hv1 : Is (a := 1024) (b := 128) v1 fun r d => H.v (2048 * (i 2).val + r) d)
    (hk2 : Is (a := 1024) (b := 128) k2 fun r d => H.k (2048 * (i 2).val + 1024 + r) d) (hv2 : Is (a := 1024) (b := 128) v2 fun r d => H.v (2048 * (i 2).val + 1024 + r) d)
    (h : Both H (2048 * (i 2).val) (2048 * (i 2).val) s) :
    (Is (a := 1024) (b := 128) (k0_pay6 (F := Ideal) (k0_pay50 s.1 s.2.1 (k0_pay46 q s.1 k1) (k0_pay47 q s.1 k1)) (k0_pay51 s.1 s.2.2.1 (k0_pay44 v1) (k0_pay46 q s.1 k1) (k0_pay47 q s.1 k1))) (fun r d => H.o (2048 * (i 2).val + r) d) ∧
      Is (a := 1024) (b := 128) (k0_pay7 (F := Ideal) (k0_pay46 q s.1 k1) (k0_pay50 s.1 s.2.1 (k0_pay46 q s.1 k1) (k0_pay47 q s.1 k1))) (fun r _ => H.lse (2048 * (i 2).val + r))) ∧
    (Is (a := 1024) (b := 128) (k0_pay8 (F := Ideal) (k0_pay53 (k0_pay11 q') s.2.2.2.1 (k0_pay43 k1)) (k0_pay56 (k0_pay11 q') s.2.2.2.1 s.2.2.2.2.1 (k0_pay43 k1)) (k0_pay57 (k0_pay11 q') s.2.2.2.1 s.2.2.2.2.2 (k0_pay43 k1) (k0_pay44 v1)) (k0_pay58 v2) (k0_pay59 (k0_pay11 q') k2) k0_pay60 (Scalar.ofBits .f32 0xFF800000#32)) (fun r d => H.o (2048 * (i 2).val + 1024 + r) d) ∧
      Is (a := 1024) (b := 128) (k0_pay9 (F := Ideal) (k0_pay53 (k0_pay11 q') s.2.2.2.1 (k0_pay43 k1)) (k0_pay56 (k0_pay11 q') s.2.2.2.1 s.2.2.2.2.1 (k0_pay43 k1)) (k0_pay59 (k0_pay11 q') k2) k0_pay60 (Scalar.ofBits .f32 0xFF800000#32)) (fun r _ => H.lse (2048 * (i 2).val + 1024 + r))) :=
  ⟨done_up (diag_up hq hk1 hv1 h.1) (by omega), done_lo (diag_lo hq' hk2 hv2 (below_lo hq' hk1 hv1 h.2 (by omega))) (by omega)⟩
end

/-- The block of outputs a grid step leaves holds the head's outputs. -/
theorem out_o {H : Head} (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S2048x128 .f32) (harg7 : arg7.IsWhole)
    (x0 : Vec Ideal S2048x128 .bf16) (x1 : Vec Ideal S4096x128 .bf16) (x2 : Vec Ideal S4096x128 .bf16)
    (hi : (i 2).val < 2) (h0 : Is (a := 2048) (b := 128) x0 fun r d => H.q (2048 * (i 2).val + r) d) (h1 : Is (a := 4096) (b := 128) x1 H.k) (h2 : Is (a := 4096) (b := 128) x2 H.v) :
    Is (a := 2048) (b := 128) (out0_A_3 c i arg3 harg3 arg4 harg4 arg5 harg5 arg6 harg6 arg7 harg7 x0 x1 x2) (fun r d => H.o (2048 * (i 2).val + r) d) := by
  have r0 := half_is arg3 (harg3.unread x0) _ (by rw [harg3.read_unread]; exact h0)
  have r1 := load_is arg4 (harg4.unread x1) H.k (by rw [harg4.read_unread]; exact h1)
  have r2 := load_is arg5 (harg5.unread x2) H.v (by rw [harg5.read_unread]; exact h2)
  have q1 : Is (a := 1024) (b := 128) (arg3.view.readAt (Elt Ideal) (Rect.unit (s := S2048x128) ![0, 0] S1024x128.size inb_S2048x128_S1024x128_0_0).toLoadRect (harg3.unread x0)) fun r d => H.q (2048 * (i 2).val + r) d :=
    (r0 0 _).congr fun r _ d _ => by rw [Nat.zero_add]
  have q2 : Is (a := 1024) (b := 128) (arg3.view.readAt (Elt Ideal) (Rect.unit (s := S2048x128) ![1024, 0] S1024x128.size inb_S2048x128_S1024x128_1024_0).toLoadRect (harg3.unread x0)) fun r d => H.q (2048 * (i 2).val + 1024 + r) d :=
    (r0 1024 _).congr fun r _ d _ => by rw [Nat.add_assoc]
  have s := loops_both (H := H) c i arg3 harg3 arg4 harg4 arg5 harg5 arg6 harg6 arg7 harg7 _ _ (harg4.unread x1) (harg5.unread x2) q1 q2 (by rw [harg4.read_unread]; exact h1) (by rw [harg5.read_unread]; exact h2) _ _ rfl rfl
  have p := pieces (H := H) i _ _ _ _ _ _ _ hi q1 q2 (r1 _ _ (off3_eq i) (k0_off3_inb i)) (r2 _ _ (off3_eq i) (k0_off3_inb i)) (r1 _ _ (off4_eq i) (k0_off4_inb i)) (r2 _ _ (off4_eq i) (k0_off4_inb i)) s
  unfold out0_A_3 kernelRun0_A
  dsimp only
  rw [View.read_writes_cons_put VO0_3 _ _ _ _ rfl, View.read_writes_cons_put VO0_3 _ _ _ _ rfl]
  exact halves_is _ _ _ _ p.1.1 ((p.2.1).congr fun r _ d _ => by rw [Nat.add_assoc])

/-- The block of logarithms a grid step leaves holds the head's logarithms. -/
theorem out_lse {H : Head} (c : Dev nD) (i : grid0.Coords) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2048x128 .f32) (harg6 : arg6.IsWhole) (arg7 : Memref sig .tc .vmem S2048x128 .f32) (harg7 : arg7.IsWhole)
    (x0 : Vec Ideal S2048x128 .bf16) (x1 : Vec Ideal S4096x128 .bf16) (x2 : Vec Ideal S4096x128 .bf16)
    (hi : (i 2).val < 2) (h0 : Is (a := 2048) (b := 128) x0 fun r d => H.q (2048 * (i 2).val + r) d) (h1 : Is (a := 4096) (b := 128) x1 H.k) (h2 : Is (a := 4096) (b := 128) x2 H.v) :
    Is (a := 2048) (b := 128) (out0_A_4 c i arg3 harg3 arg4 harg4 arg5 harg5 arg6 harg6 arg7 harg7 x0 x1 x2) (fun r _ => H.lse (2048 * (i 2).val + r)) := by
  have r0 := half_is arg3 (harg3.unread x0) _ (by rw [harg3.read_unread]; exact h0)
  have r1 := load_is arg4 (harg4.unread x1) H.k (by rw [harg4.read_unread]; exact h1)
  have r2 := load_is arg5 (harg5.unread x2) H.v (by rw [harg5.read_unread]; exact h2)
  have q1 : Is (a := 1024) (b := 128) (arg3.view.readAt (Elt Ideal) (Rect.unit (s := S2048x128) ![0, 0] S1024x128.size inb_S2048x128_S1024x128_0_0).toLoadRect (harg3.unread x0)) fun r d => H.q (2048 * (i 2).val + r) d :=
    (r0 0 _).congr fun r _ d _ => by rw [Nat.zero_add]
  have q2 : Is (a := 1024) (b := 128) (arg3.view.readAt (Elt Ideal) (Rect.unit (s := S2048x128) ![1024, 0] S1024x128.size inb_S2048x128_S1024x128_1024_0).toLoadRect (harg3.unread x0)) fun r d => H.q (2048 * (i 2).val + 1024 + r) d :=
    (r0 1024 _).congr fun r _ d _ => by rw [Nat.add_assoc]
  have s := loops_both (H := H) c i arg3 harg3 arg4 harg4 arg5 harg5 arg6 harg6 arg7 harg7 _ _ (harg4.unread x1) (harg5.unread x2) q1 q2 (by rw [harg4.read_unread]; exact h1) (by rw [harg5.read_unread]; exact h2) _ _ rfl rfl
  have p := pieces (H := H) i _ _ _ _ _ _ _ hi q1 q2 (r1 _ _ (off3_eq i) (k0_off3_inb i)) (r2 _ _ (off3_eq i) (k0_off3_inb i)) (r1 _ _ (off4_eq i) (k0_off4_inb i)) (r2 _ _ (off4_eq i) (k0_off4_inb i)) s
  unfold out0_A_4 kernelRun0_A
  dsimp only
  rw [View.read_writes_cons_put VO0_4 _ _ _ _ rfl, View.read_writes_cons_put VO0_4 _ _ _ _ rfl]
  exact halves_is _ _ _ _ p.1.2 ((p.2.2).congr fun r _ d _ => by rw [Nat.add_assoc])

end Cert.Kernel23Ideal.Value

end
-- ==== Proof.FwdRef.lean ====
module

public import proofs.«01_k».proof.Proof.Heads
public import proofs.«01_k».proof.Proof.Gen.Reference23Ideal
public import Idealize.ShloMosaic.Lib.Pipeline.ValueKit
public import Idealize.ShloMosaic.Lib.IdealHost

@[expose] public section

set_option maxRecDepth 16384

noncomputable section

/-! # The attention's reference, in the reals

The reference's stages, and that they hold the quantities of the heads: the scores, the weights, their sums, the outputs and the logarithms. -/

namespace Cert.Reference23Ideal.Value

open Cert.Reference23Ideal Cert.Reference23Ideal.Gen Cert.Attn
open Cert.KernelIdeal.Value (Is sum_mul)
open Idealize.ShloMosaic Idealize.ShloMosaic.TcCoe
open Finset

/-- The queries, scaled. -/
def refQ (x0 : FVec Ideal S8192x1024 .f32) : FVec Ideal S8192x1024 .f32 :=
  mulf x0 (broadcastInDim S8192x1024 ![] bcast_S_S8192x1024 (constant S_ .f32 0x3DD105EC#32))

/-- The scores. -/
def refS (x0 x1 : FVec Ideal S8192x1024 .f32) : FVec Ideal S2x8x4096x4096 .f32 :=
  Host.dotGeneral dot_S2x4096x8x128_S2x4096x8x128_S2x8x4096x4096_3_3_1_1_02_02 none (φ₁ := .f32) (φ₂ := .f32)
    (shapeCast S2x4096x8x128 (refQ x0) shapeCasts_S8192x1024_S2x4096x8x128)
    (shapeCast S2x4096x8x128 x1 shapeCasts_S8192x1024_S2x4096x8x128)

/-- The scores up to the diagonal. -/
def refT (x0 x1 : FVec Ideal S8192x1024 .f32) : FVec Ideal S2x8x4096x4096 .f32 :=
  select (broadcastInDim S2x8x4096x4096 ![2, 3] bcast_S4096x4096_S2x8x4096x4096_2_3
      (cmpi .sle
        (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (refS x0 x1)
    (broadcastInDim S2x8x4096x4096 ![] bcast_S_S2x8x4096x4096 (constant S_ .f32 0xFF800000#32))

/-- Each row's largest score. -/
def refM (x0 x1 : FVec Ideal S8192x1024 .f32) : FVec Ideal S2x8x4096 .f32 :=
  Host.reduce FloatOps.maximumf (refT x0 x1) (constant S_ .f32 0xFF800000#32) reducesTo_S2x8x4096x4096_S2x8x4096_d3 h_S_

/-- The unnormalised weights. -/
def refE (x0 x1 : FVec Ideal S8192x1024 .f32) : FVec Ideal S2x8x4096x4096 .f32 :=
  Host.exp (subf (refT x0 x1) (broadcastInDim S2x8x4096x4096 ![0, 1, 2, 3] bcast_S2x8x4096x1_S2x8x4096x4096_0_1_2_3
    (broadcastInDim S2x8x4096x1 ![0, 1, 2] bcast_S2x8x4096_S2x8x4096x1_0_1_2 (refM x0 x1))))

/-- The rows' sums. -/
def refL (x0 x1 : FVec Ideal S8192x1024 .f32) : FVec Ideal S2x8x4096x1 .f32 :=
  broadcastInDim S2x8x4096x1 ![0, 1, 2] bcast_S2x8x4096_S2x8x4096x1_0_1_2
    (Host.reduceAdd (refE x0 x1) (constant S_ .f32 0x00000000#32) reducesTo_S2x8x4096x4096_S2x8x4096_d3 h_S_)

/-- The forward pass's output, head by head. -/
def refO (x0 x1 x2 : FVec Ideal S8192x1024 .f32) : FVec Ideal S2x8x128x4096 .f32 :=
  Host.dotGeneral dot_S2x4096x8x128_S2x8x4096x4096_S2x8x128x4096_1_3_3_2_02_01 none (φ₁ := .f32) (φ₂ := .f32) (shapeCast S2x4096x8x128 x2 shapeCasts_S8192x1024_S2x4096x8x128)
    (Host.divf (refE x0 x1) (broadcastInDim S2x8x4096x4096 ![0, 1, 2, 3] bcast_S2x8x4096x1_S2x8x4096x4096_0_1_2_3 (refL x0 x1)))

/-- The logarithms of the rows' sums of exponentials. -/
def refLse (x0 x1 : FVec Ideal S8192x1024 .f32) : FVec Ideal S2x8x4096x1 .f32 :=
  addf (broadcastInDim S2x8x4096x1 ![0, 1, 2] bcast_S2x8x4096_S2x8x4096x1_0_1_2 (refM x0 x1)) (Host.log (refL x0 x1))

section
variable {x0 x1 x2 : FVec Ideal S8192x1024 .f32} {x3 : (⟨2, ![8192, 2560]⟩ : Shape).Idx → EReal} {A0 A1 A2 A3 : ℕ → ℕ → ℝ}
variable (G : Args x0 x1 x2 x3 A0 A1 A2 A3)
include G

local notation "HH" => headOf A0 A1 A2 A3

/-- The scaled queries. -/
theorem refQ_is : Is (a := 8192) (b := 1024) (refQ x0) fun R C => A0 R C * scale := by
  intro R C
  pointwise [refQ]
  rw [G.x0, scale_eq, ← EReal.coe_mul]

/-- The scores. -/
theorem refS_is (b : Fin 2) (h : Fin 8) (r c : Fin 4096) : refS x0 x1 (ix4 b h r c) = (((HH b h).s r c : ℝ) : EReal) := by
  pointwise [refS]
  exact sum_mul _ _ (fun d => (HH b h).q r d) (fun d => (HH b h).k c d) (fun d => refQ_is G _ _) (fun d => G.x1 _ _)

/-- The scores up to the diagonal. -/
theorem refT_is (b : Fin 2) (h : Fin 8) (r c : Fin 4096) : refT x0 x1 (ix4 b h r c) = masked (HH b h).s r c := by
  pointwise [refT]
  rw [Cert.Attn.mask _ _ c.isLt r.isLt, refS_is G]
  exact if_congr Iff.rfl rfl bot_eq

/-- Each row's largest score. -/
theorem refM_is (b : Fin 2) (h : Fin 8) (r : Fin 4096) : refM x0 x1 (ix3 b h r) = (((HH b h).μ r : ℝ) : EReal) := by
  pointwise [refM]
  rw [bot_eq, show (fun x => refT x0 x1 (ix4 b h r x)) = masked (HH b h).s r from funext fun c => refT_is G b h r c]
  exact fold_masked _ _ r.isLt

omit G in
/-- The reference's exponential of a score minus its row's maximum, at one entry. -/
theorem refExp_at (S : FVec Ideal S2x8x4096x4096 .f32) (y : FVec Ideal S2x8x4096 .f32) (b : Fin 2) (h : Fin 8) (r c : Fin 4096) :
    Host.exp (subf S (broadcastInDim S2x8x4096x4096 ![0, 1, 2, 3] bcast_S2x8x4096x1_S2x8x4096x4096_0_1_2_3
    (broadcastInDim S2x8x4096x1 ![0, 1, 2] bcast_S2x8x4096_S2x8x4096x1_0_1_2 y))) (ix4 b h r c)
      = Ideal.exp (S (ix4 b h r c) - y (ix3 b h r)) := by
  pointwise []

/-- The reference's shifted exponentials are the head's. -/
theorem refE_is (b : Fin 2) (h : Fin 8) (r c : Fin 4096) : refE x0 x1 (ix4 b h r c) = (((HH b h).e r c : ℝ) : EReal) := by
  refine (refExp_at (refT x0 x1) (refM x0 x1) b h r c).trans ?_
  rw [refT_is G, refM_is G]
  exact exp_masked _ _ _

/-- The reference's denominators are the head's. -/
theorem refL_is (b : Fin 2) (h : Fin 8) (r : Fin 4096) (z : Fin 1) : refL x0 x1 (ix4 b h r z) = (((HH b h).l r : ℝ) : EReal) := by
  pointwise [refL]
  exact sum_fin _ (fun c => (HH b h).e r c) (fun c => refE_is G b h r c)

/-- The reference's outputs are the head's. -/
theorem refO_is (b : Fin 2) (h : Fin 8) (d : Fin 128) (r : Fin 4096) : refO x0 x1 x2 (ix4 b h d r) = (((HH b h).o r d : ℝ) : EReal) := by
  pointwise [refO]
  refine sum_mul _ _ (fun c => (HH b h).v c d) (fun c => (HH b h).p r c) (fun c => G.x2 _ _) (fun c => ?_)
  rw [refE_is G, refL_is G, div_coe _ _ ((HH b h).l_pos r r.isLt).ne', (HH b h).p_eq r c r.isLt]

omit G in
/-- The reference's row maximum plus the logarithm of its denominator, at one entry. -/
theorem refLse_at (y : FVec Ideal S2x8x4096 .f32) (z : FVec Ideal S2x8x4096x1 .f32) (b : Fin 2) (h : Fin 8) (r : Fin 4096) (i : Fin 1) :
    addf (broadcastInDim S2x8x4096x1 ![0, 1, 2] bcast_S2x8x4096_S2x8x4096x1_0_1_2 y) (Host.log z) (ix4 b h r i)
      = y (ix3 b h r) + Ideal.log (z (ix4 b h r i)) := by
  pointwise []

/-- The reference's logarithms of denominators are the head's. -/
theorem refLse_is (b : Fin 2) (h : Fin 8) (r : Fin 4096) (z : Fin 1) : refLse x0 x1 (ix4 b h r z) = (((HH b h).lse r : ℝ) : EReal) := by
  refine (refLse_at (refM x0 x1) (refL x0 x1) b h r z).trans ?_
  rw [refM_is G, refL_is G, log_coe _ ((HH b h).l_pos r r.isLt), ← EReal.coe_add]
  rfl

/-- The forward pass's output as an array of the result's shape. -/
theorem oArr_is : Is (a := 8192) (b := 1024) (shapeCast S8192x1024 (transpose S2x4096x8x128 [0, 3, 1, 2] (refO x0 x1 x2) transposes_S2x8x128x4096_S2x4096x8x128_0_3_1_2) shapeCasts_S2x4096x8x128_S8192x1024)
    fun R C => (HH (R / 4096) (C / 128)).o (R % 4096) (C % 128) := by
  intro R C
  pointwise []
  exact refO_is G _ _ _ _

/-- The logarithms as an array of the result's shape. -/
theorem lseArr_is : Is (a := 8192) (b := 1024) (shapeCast S8192x1024 (broadcastInDim S2x4096x8x128 ![0, 1, 2, 3] bcast_S2x4096x8x1_S2x4096x8x128_0_1_2_3 (transpose S2x4096x8x1 [0, 2, 1, 3] (refLse x0 x1) transposes_S2x8x4096x1_S2x4096x8x1_0_2_1_3)) shapeCasts_S2x4096x8x128_S8192x1024)
    fun R C => (HH (R / 4096) (C / 128)).lse (R % 4096) := by
  intro R C
  pointwise []
  exact refLse_is G _ _ _ _

end

end Cert.Reference23Ideal.Value

end
-- ==== Proof.Fwd.lean ====
module

public import proofs.«01_k».proof.Defs
public import proofs.«01_k».proof.Proof.FwdPoint
public import proofs.«01_k».proof.Proof.FwdRef
public import Idealize.ShloMosaic.Lib.ReduceAll
public import Idealize.ShloMosaic.Lib.Claim
public import Idealize.ShloMosaic.Init

@[expose] public section

set_option maxRecDepth 16384

noncomputable section

/-! # The causal attention: what its kernel leaves in its two results, and that the reference leaves the same

Point `t` of the grid is half `t % 2` of the rows of head `t / 2 % 8` of sequence `t / 16`. -/

namespace Cert.Kernel23Ideal.Value

open Cert.Kernel23Ideal Cert.Kernel23Ideal.Gen Cert.Attn
open Cert.KernelIdeal.Value (Is)
open Idealize.ShloMosaic Idealize.ShloMosaic.TcCoe Idealize.SL.Sem
open Finset

/-! ## What the precondition says: every entry of the three arguments is a real number -/

/-- The side conditions the predicate states. -/
instance finite3 : Cert.Pre_finite3.Facts := ⟨by decide, by decide, by decide⟩

/-- The array's entries as reals, zero outside it. -/
def real {a b : ℕ} (x : (⟨2, ![a, b]⟩ : Shape).Idx → EReal) (r c : ℕ) : ℝ :=
  if h : r < a ∧ c < b then (x (ix2 ⟨r, h.1⟩ ⟨c, h.2⟩)).toReal else 0

/-- An array whose entries are reals holds its entries as reals. -/
theorem real_is {a b : ℕ} (x : (⟨2, ![a, b]⟩ : Shape).Idx → EReal) (h : ∀ r c, max (x (ix2 r c)) (-x (ix2 r c)) < ⊤) : Is x (real x) := by
  intro r c
  have h := h r c
  have h1 : x (ix2 r c) ≠ ⊤ := fun e => by rw [e] at h; simp at h
  have h2 : x (ix2 r c) ≠ ⊥ := fun e => by rw [e] at h; simp at h
  unfold real
  rw [dif_pos ⟨r.isLt, c.isLt⟩]
  exact (EReal.coe_toReal h1 h2).symm

/-- A comparison that says one holds. -/
theorem of_one {p : Prop} [Decidable p] (h : BitVec.ofBool (decide p) = 1#1) : p := by
  by_contra hp
  rw [decide_eq_false hp] at h
  exact absurd h (by decide)

/-- A gradient of zeros, which neither result depends on. -/
def none3 : (⟨2, ![8192, 2560]⟩ : Shape).Idx → EReal := fun _ => ((0 : ℝ) : EReal)

/-- The heads' gradients where none is given. -/
def nil3 : ℕ → ℕ → ℝ := fun _ _ => 0

/-- Under the precondition the three arguments hold real numbers. -/
theorem args (x0 x1 x2 : FVec Ideal Cert.Pre_finite3.S8192x1024 .f32)
    (h : Cert.Pre_finite3.fn (F := Ideal) x0 x1 x2 = fun _ => 1#1) : Args x0 x1 x2 none3 (real x0) (real x1) (real x2) nil3 := by
  have e := congrFun h ix0
  dsimp only [Cert.Pre_finite3.fn] at e
  obtain ⟨e, e2⟩ := IntOp.andi_eq_one.1 e
  obtain ⟨e0, e1⟩ := IntOp.andi_eq_one.1 e
  refine ⟨real_is _ fun r c => ?_, real_is _ fun r c => ?_, real_is _ fun r c => ?_, fun r c => rfl⟩
  · have hb := Host.reduce_andi_all _ _ _ _ _ e0 (ix2 r c)
    pointwise at hb
    rw [top_eq] at hb
    exact of_one hb
  · have hb := Host.reduce_andi_all _ _ _ _ _ e1 (ix2 r c)
    pointwise at hb
    rw [top_eq] at hb
    exact of_one hb
  · have hb := Host.reduce_andi_all _ _ _ _ _ e2 (ix2 r c)
    pointwise at hb
    rw [top_eq] at hb
    exact of_one hb

/-! ## The blocks the grid's steps are given -/

/-- Where the windows stand at each point. -/
theorem idx : ∀ t : Fin cfg0.N, win0_0.index t = ![t.val / 16 * 2 + t.val % 2, t.val / 2 % 8] ∧ win0_1.index t = ![t.val / 16, t.val / 2 % 8]
    ∧ win0_2.index t = ![t.val / 16, t.val / 2 % 8] ∧ win0_3.index t = ![t.val / 16 * 2 + t.val % 2, t.val / 2 % 8]
    ∧ win0_4.index t = ![t.val / 16 * 2 + t.val % 2, t.val / 2 % 8] :=
  (by decide +kernel : ∀ t : Fin grid0.N, _)

/-- The innermost grid coordinate is the half. -/
theorem half_of (t : Fin cfg0.N) : (grid0.coords t 2).val = t.val % 2 :=
  (Pipeline.Grid.coords_val t 2 (by decide) rfl : (grid0.coords t 2).val = t.val / 1 % 2).trans (by rw [Nat.div_one])

/-- There are 32 grid steps. -/
theorem bound (t : Fin cfg0.N) : t.val < 32 := lt_of_lt_of_eq t.isLt (show cfg0.N = 32 from N_0)

variable (m : (ℓ : Loc nD τ sig) → Buf (Elt Ideal) ℓ) (c : Dev nD) {A0 A1 A2 A3 : ℕ → ℕ → ℝ}

/-- The queries, scaled. -/
def hostQ (x0 : FVec Ideal S8192x1024 .f32) : FVec Ideal S8192x1024 .f32 :=
  mulf x0 (broadcastInDim S8192x1024 ![] bcast_S_S8192x1024 (constant S_ .f32 0x3DD105EC#32))

/-- The call's queries are the scaled queries. -/
theorem entry_q : V m c main_v2 = (truncf .bf16 (hostQ (m (c.tc.loc main_arg0))) bitsLt_bf16_f32 : FVec Ideal S8192x1024 .bf16) := by
  entry_read
  rfl

/-- The scaled queries, in the reals. -/
theorem hostQ_is (x0 : FVec Ideal S8192x1024 .f32) (h : Is (a := 8192) (b := 1024) x0 A0) : Is (a := 8192) (b := 1024) (hostQ x0) fun R C => A0 R C * scale := by
  intro R C
  pointwise [hostQ]
  rw [h, scale_eq, ← EReal.coe_mul]

/-- The call's keys are the keys. -/
theorem entry_k (R : Fin 8192) (C : Fin 1024) : V m c main_v3 (ix2 R C) = (m (c.tc.loc main_arg1) : FVec Ideal S8192x1024 .f32) (ix2 R C) := by
  entry_read
  pointwise

/-- The call's values are the values. -/
theorem entry_v (R : Fin 8192) (C : Fin 1024) : V m c main_v4 (ix2 R C) = (m (c.tc.loc main_arg2) : FVec Ideal S8192x1024 .f32) (ix2 R C) := by
  entry_read
  pointwise

variable {x3 : (⟨2, ![8192, 2560]⟩ : Shape).Idx → EReal}
variable (G : Args (m (c.tc.loc main_arg0)) (m (c.tc.loc main_arg1)) (m (c.tc.loc main_arg2)) x3 A0 A1 A2 A3)
include G

local notation "HH" => headOf A0 A1 A2 A3

/-- The queries' block. -/
theorem q_block (t : Fin cfg0.N) : Is (a := 2048) (b := 128) (iblk m c 0 t) fun r d => (HH (t.val / 16) (t.val / 2 % 8)).q (2048 * (grid0.coords t 2).val + r) d := by
  intro r d
  have ht := bound t
  have e := half_of t
  refine Eq.trans (b := V m c main_v2 (ix2 ⟨t.val / 16 * 4096 + (2048 * (grid0.coords t 2).val + r.val), by omega⟩ ⟨t.val / 2 % 8 * 128 + d.val, by omega⟩)) (by blk_ext [iblk, idx t]) ?_
  rw [entry_q]
  exact hostQ_is _ G.x0 _ _

/-- The keys' block. -/
theorem k_block (t : Fin cfg0.N) : Is (a := 4096) (b := 128) (iblk m c 1 t) (HH (t.val / 16) (t.val / 2 % 8)).k := by
  intro r d
  have ht := bound t
  refine Eq.trans (b := V m c main_v3 (ix2 ⟨t.val / 16 * 4096 + r.val, by omega⟩ ⟨t.val / 2 % 8 * 128 + d.val, by omega⟩)) (by blk_ext [iblk, idx t]) ?_
  rw [entry_k]
  exact G.x1 _ _

/-- The values' block. -/
theorem v_block (t : Fin cfg0.N) : Is (a := 4096) (b := 128) (iblk m c 2 t) (HH (t.val / 16) (t.val / 2 % 8)).v := by
  intro r d
  have ht := bound t
  refine Eq.trans (b := V m c main_v4 (ix2 ⟨t.val / 16 * 4096 + r.val, by omega⟩ ⟨t.val / 2 % 8 * 128 + d.val, by omega⟩)) (by blk_ext [iblk, idx t]) ?_
  rw [entry_v]
  exact G.x2 _ _

/-! ## The two results -/

omit G in
/-- A quantity of every head, as an array of the results' shape. -/
def out (f : Head → ℕ → ℕ → ℝ) (A0 A1 A2 A3 : ℕ → ℕ → ℝ) : S8192x1024.Idx → EReal :=
  fun i => ((f (headOf A0 A1 A2 A3 ((i 0).val / 4096) ((i 1).val / 128)) ((i 0).val % 4096) ((i 1).val % 128) : ℝ) : EReal)

omit G in
/-- An array that holds the quantity is that array. -/
theorem out_of (f : Head → ℕ → ℕ → ℝ) (x : S8192x1024.Idx → EReal)
    (h : Is (a := 8192) (b := 1024) x fun R C => f (HH (R / 4096) (C / 128)) (R % 4096) (C % 128)) : x = out f A0 A1 A2 A3 := by
  funext i
  rw [show i = ix2 (i 0) (i 1) by blk_ext]
  exact h _ _

/-- The block of outputs a grid step leaves. -/
theorem left_o (t : Fin cfg0.N) : Is (a := 2048) (b := 128) (outsAt0 m c t).1 (fun r d => (HH (t.val / 16) (t.val / 2 % 8)).o (2048 * (grid0.coords t 2).val + r) d) := by
  unfold outsAt0
  dsimp only
  exact out_o (H := HH (t.val / 16) (t.val / 2 % 8)) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (by rw [half_of t]; exact Nat.mod_lt _ (by decide)) (q_block m c G t) (k_block m c G t) (v_block m c G t)

/-- After the run the result holds the heads' outputs. -/
theorem o_final : (dats m 0 c).arrAt 3 (cfgs 0).N = out Head.o A0 A1 A2 A3 := by
  refine (dats m 0 c).arrAt_eq_of_covers 3 _ (by decide +kernel) fun t hf y => ?_
  have ht := bound t
  have hh := half_of t
  blk_simp
  rw [after0_3]
  have hb := left_o m c G t
  generalize (outsAt0 m c t).1 = x at hb ⊢
  have hy0 : (y 0).val < 2048 := (y 0).isLt
  have hy1 : (y 1).val < 128 := (y 1).isLt
  have e0 : ((win0_3.blk t).view.emb y 0).val = (t.val / 16 * 2 + t.val % 2) * 2048 + (y 0).val := by
    blk_simp [idx t]
    try omega
  have e1 : ((win0_3.blk t).view.emb y 1).val = t.val / 2 % 8 * 128 + (y 1).val := by
    blk_simp [idx t]
    try omega
  refine Eq.trans (b := x (ix2 (⟨(y 0).val, hy0⟩ : Fin 2048) (⟨(y 1).val, hy1⟩ : Fin 128))) (congrArg x (by blk_ext)) ((hb _ _).trans ?_)
  unfold out
  rw [e0, e1]
  rw [show ((t.val / 16 * 2 + t.val % 2) * 2048 + (y 0).val) / 4096 = t.val / 16 by omega, show ((t.val / 16 * 2 + t.val % 2) * 2048 + (y 0).val) % 4096 = 2048 * (t.val % 2) + (y 0).val by omega,
    show (t.val / 2 % 8 * 128 + (y 1).val) / 128 = t.val / 2 % 8 by omega, show (t.val / 2 % 8 * 128 + (y 1).val) % 128 = (y 1).val by omega]
  dsimp only
  rw [hh]

/-- The block of logarithms a grid step leaves. -/
theorem left_lse (t : Fin cfg0.N) : Is (a := 2048) (b := 128) (outsAt0 m c t).2 (fun r _ => (HH (t.val / 16) (t.val / 2 % 8)).lse (2048 * (grid0.coords t 2).val + r)) := by
  unfold outsAt0
  dsimp only
  exact out_lse (H := HH (t.val / 16) (t.val / 2 % 8)) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (by rw [half_of t]; exact Nat.mod_lt _ (by decide)) (q_block m c G t) (k_block m c G t) (v_block m c G t)

/-- After the run the result holds the heads' logarithms. -/
theorem lse_final : (dats m 0 c).arrAt 4 (cfgs 0).N = out (fun H r _ => H.lse r) A0 A1 A2 A3 := by
  refine (dats m 0 c).arrAt_eq_of_covers 4 _ (by decide +kernel) fun t hf y => ?_
  have ht := bound t
  have hh := half_of t
  blk_simp
  rw [after0_4]
  have hb := left_lse m c G t
  generalize (outsAt0 m c t).2 = x at hb ⊢
  have hy0 : (y 0).val < 2048 := (y 0).isLt
  have hy1 : (y 1).val < 128 := (y 1).isLt
  have e0 : ((win0_4.blk t).view.emb y 0).val = (t.val / 16 * 2 + t.val % 2) * 2048 + (y 0).val := by
    blk_simp [idx t]
    try omega
  have e1 : ((win0_4.blk t).view.emb y 1).val = t.val / 2 % 8 * 128 + (y 1).val := by
    blk_simp [idx t]
    try omega
  refine Eq.trans (b := x (ix2 (⟨(y 0).val, hy0⟩ : Fin 2048) (⟨(y 1).val, hy1⟩ : Fin 128))) (congrArg x (by blk_ext)) ((hb _ _).trans ?_)
  unfold out
  rw [e0, e1]
  rw [show ((t.val / 16 * 2 + t.val % 2) * 2048 + (y 0).val) / 4096 = t.val / 16 by omega, show ((t.val / 16 * 2 + t.val % 2) * 2048 + (y 0).val) % 4096 = 2048 * (t.val % 2) + (y 0).val by omega,
    show (t.val / 2 % 8 * 128 + (y 1).val) / 128 = t.val / 2 % 8 by omega, show (t.val / 2 % 8 * 128 + (y 1).val) % 128 = (y 1).val by omega]
  dsimp only
  rw [hh]

/-- A quantity of the heads that device `c`'s arguments hold, as an array of a result's shape. -/
abbrev given (f : Head → ℕ → ℕ → ℝ) (c : Dev nD) : S8192x1024.Idx → EReal :=
  out f (real (m (c.tc.loc main_arg0))) (real (m (c.tc.loc main_arg1))) (real (m (c.tc.loc main_arg2))) nil3

omit G in
/-- The kernel's two results are the reference's, on arguments whose entries are real numbers. -/
theorem algebraic : Cert.algebraic_Kernel23Ideal_Reference23Ideal_pre_finite3 := by
  intro m g m' g' hp hagree
  have G := fun c : Dev nD => args _ _ _ (hp c)
  refine ⟨given m Head.o, given m fun H r _ => H.lse r, ?_, ?_⟩
  · run_from Cert.Kernel23Ideal.Gen.run_main m g
    · exact o_final m c (G c)
    · exact lse_final m c (G c)
  · hlo_run
    · simp -implicitDefEqProofs only [StableHlo.TRef.toBuf, StableHlo.TRef.ofBuf, cast_eq, id]
      exact out_of _ _ (Cert.Reference23Ideal.Value.oArr_is (G c))
    · simp -implicitDefEqProofs only [StableHlo.TRef.toBuf, StableHlo.TRef.ofBuf, cast_eq, id]
      exact out_of (fun H r _ => H.lse r) _ (Cert.Reference23Ideal.Value.lseArr_is (G c))

omit G in
/-- The reference runs to its end and leaves nothing pending. -/
theorem frame_reference : Cert.quiescent_Reference23Ideal := by
  intro m g _
  hlo_run
  · exact fun _ => ⟨trivial, trivial, trivial⟩
  · exact Idealize.ShloMosaic.sem_eq_zero_of_no_sems (by decide) _

end Cert.Kernel23Ideal.Value

end
-- ==== Proof.lean ====
module

public import proofs.«01_k».proof.Defs
public import proofs.«01_k».proof.Proof.Value
public import proofs.«01_k».proof.Proof.Ref
public import proofs.«01_k».proof.Proof.Finite
public import proofs.«01_k».proof.Proof.Twin
public import proofs.«01_k».proof.Proof.DownInput
public import proofs.«01_k».proof.Proof.Gen.Kernel2.Frame
public import proofs.«01_k».proof.Proof.DownWeight
public import proofs.«01_k».proof.Proof.Gen.Kernel3.Frame
public import proofs.«01_k».proof.Proof.GateInput
public import proofs.«01_k».proof.Proof.Gen.Kernel4.Frame
public import proofs.«01_k».proof.Proof.ValueInput
public import proofs.«01_k».proof.Proof.Gen.Kernel5.Frame
public import proofs.«01_k».proof.Proof.UpWeight
public import proofs.«01_k».proof.Proof.Gen.Kernel6.Frame
public import proofs.«01_k».proof.Proof.OutInput
public import proofs.«01_k».proof.Proof.Gen.Kernel7.Frame
public import proofs.«01_k».proof.Proof.OutWeight
public import proofs.«01_k».proof.Proof.Gen.Kernel8.Frame
public import proofs.«01_k».proof.Proof.InInput
public import proofs.«01_k».proof.Proof.Gen.Kernel9.Frame
public import proofs.«01_k».proof.Proof.InWeight
public import proofs.«01_k».proof.Proof.Gen.Kernel10.Frame
public import proofs.«01_k».proof.Proof.InForward
public import proofs.«01_k».proof.Proof.Gen.Kernel11.Frame
public import proofs.«01_k».proof.Proof.OutForward
public import proofs.«01_k».proof.Proof.Gen.Kernel12.Frame
public import proofs.«01_k».proof.Proof.UpForward
public import proofs.«01_k».proof.Proof.Gen.Kernel13.Frame
public import proofs.«01_k».proof.Proof.DownForward
public import proofs.«01_k».proof.Proof.Gen.Kernel14.Frame
public import proofs.«01_k».proof.Proof.QueryWeight
public import proofs.«01_k».proof.Proof.Gen.Kernel15.Frame
public import proofs.«01_k».proof.Proof.KeyValueWeight
public import proofs.«01_k».proof.Proof.Gen.Kernel16.Frame
public import proofs.«01_k».proof.Proof.RowNorm
public import proofs.«01_k».proof.Proof.Gen.Kernel17.Frame
public import proofs.«01_k».proof.Proof.RowNormGrad
public import proofs.«01_k».proof.Proof.Gen.Kernel20.Frame
public import proofs.«01_k».proof.Proof.ScanConv
public import proofs.«01_k».proof.Proof.Gen.Kernel18.Frame
public import proofs.«01_k».proof.Proof.ForwardGate
public import proofs.«01_k».proof.Proof.Gen.Kernel19.Frame
public import proofs.«01_k».proof.Proof.Fwd
public import proofs.«01_k».proof.Proof.Gen.Kernel23.Frame
public import proofs.«01_k».proof.Proof.Gen.Kernel.Frame
public import proofs.«01_k».proof.Proof.Gen.ReferenceIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The gradients of the heads that device `c`'s arguments hold, as an array of a result's shape. -/
abbrev grad (m : (ℓ : Loc Cert.KernelIdeal.nD Cert.KernelIdeal.τ Cert.KernelIdeal.sig) → Buf (Elt Ideal) ℓ) (f : Cert.Attn.Head → ℕ → ℕ → ℝ) (c : Dev Cert.KernelIdeal.nD) :
    Cert.KernelIdeal.S8192x1024.Idx → EReal :=
  Cert.KernelIdeal.Value.out f (Cert.Finite.real (m (c.tc.loc Cert.KernelIdeal.main_arg0))) (Cert.Finite.real (m (c.tc.loc Cert.KernelIdeal.main_arg1)))
    (Cert.Finite.real (m (c.tc.loc Cert.KernelIdeal.main_arg2))) (Cert.Finite.real (m (c.tc.loc Cert.KernelIdeal.main_arg3)))

/-- The kernel's three results are the reference's, on arguments whose entries are real numbers. -/
theorem algebraic : Cert.algebraic_KernelIdeal_ReferenceIdeal_pre_finite := by
  intro m g m' g' hp hm
  have G := fun c : Dev Cert.KernelIdeal.nD => Cert.Finite.args _ _ _ _ (hp c)
  refine ⟨grad m Cert.Attn.Head.dq, grad m Cert.Attn.Head.dk, grad m Cert.Attn.Head.dv, ?_, ?_⟩
  · refine (θ_run _ _ _).mono (fun r h c => ?_) (θ_run_and (Cert.KernelIdeal.Gen.run_main m g) (Cert.KernelIdeal.Gen.frame_main m g))
    exact ⟨((h.1 c).1 6).trans (Cert.KernelIdeal.Value.dq_final m c (G c)), ((h.1 c).1 7).trans (Cert.KernelIdeal.Value.dk_final m c (G c)),
      ((h.1 c).1 8).trans (Cert.KernelIdeal.Value.dv_final m c (G c)), h.2.1 c⟩
  · refine (θ_run _ _ _).mono (fun r h c => ?_) (Cert.ReferenceIdeal.Value.run m' g')
    obtain ⟨e0, e1, e2, e3⟩ := hm c
    obtain ⟨h0, h1, h2, hr⟩ := h c
    refine ⟨h0.trans ?_, h1.trans ?_, h2.trans ?_, hr⟩
    · rw [Cert.ReferenceIdeal.Read.val_main_v69_eq, e0, e1, e2, e3]
      exact Cert.KernelIdeal.Value.out_of _ _ (Cert.ReferenceIdeal.Value.dq_is (G c))
    · rw [Cert.ReferenceIdeal.Read.val_main_v68_eq, e0, e1, e2, e3]
      exact Cert.KernelIdeal.Value.out_of _ _ (Cert.ReferenceIdeal.Value.dk_is (G c))
    · rw [Cert.ReferenceIdeal.Read.val_main_v67_eq, e0, e1, e3]
      exact Cert.KernelIdeal.Value.out_of _ _ (Cert.ReferenceIdeal.Value.dv_is (G c))

/-- The reference ends with its arguments unchanged and every counter at zero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3))
      ∧ r.2.sem = fun _ => 0) := by
  refine (θ_run _ _ _).mono (fun r h => ⟨fun c => (h c).2.2.2, ?_⟩) (Cert.ReferenceIdeal.Value.run m g)
  exact Idealize.ShloMosaic.sem_eq_zero_of_no_sems (by decide) r.2

/-- All the claims, call by call: the frames of the kernel and of the reference, and the equality of results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel23.Gen.facts, Cert.Kernel23Ideal.Gen.facts, Cert.Reference23Ideal.Gen.facts,
  Cert.Finite.facts, Cert.Kernel23Ideal.Value.finite3,
  Cert.Twin.frame,
  fun m ρ _ => Cert.KernelIdeal.Gen.frame_main m ρ,
  fun m ρ _ => Cert.KernelIdeal.Gen.frame_main m ρ,
  fun m ρ _ => frame_reference m ρ,
  fun m ρ _ => frame_reference m ρ,
  fun m ρ _ => Cert.Kernel2.Gen.frame m ρ, fun m ρ _ => Cert.Kernel2Ideal.Gen.frame m ρ, Cert.Kernel2Ideal.Value.frame_reference,
  fun m ρ _ => Cert.Kernel3.Gen.frame m ρ, fun m ρ _ => Cert.Kernel3Ideal.Gen.frame m ρ, Cert.Kernel3Ideal.Value.frame_reference,
  fun m ρ _ => Cert.Kernel4.Gen.frame m ρ, fun m ρ _ => Cert.Kernel4Ideal.Gen.frame m ρ, Cert.Kernel4Ideal.Value.frame_reference,
  fun m ρ _ => Cert.Kernel5.Gen.frame m ρ, fun m ρ _ => Cert.Kernel5Ideal.Gen.frame m ρ, Cert.Kernel5Ideal.Value.frame_reference,
  fun m ρ _ => Cert.Kernel6.Gen.frame m ρ, fun m ρ _ => Cert.Kernel6Ideal.Gen.frame m ρ, Cert.Kernel6Ideal.Value.frame_reference,
  fun m ρ _ => Cert.Kernel7.Gen.frame m ρ, fun m ρ _ => Cert.Kernel7Ideal.Gen.frame m ρ, Cert.Kernel7Ideal.Value.frame_reference,
  fun m ρ _ => Cert.Kernel8.Gen.frame m ρ, fun m ρ _ => Cert.Kernel8Ideal.Gen.frame m ρ, Cert.Kernel8Ideal.Value.frame_reference,
  fun m ρ _ => Cert.Kernel9.Gen.frame m ρ, fun m ρ _ => Cert.Kernel9Ideal.Gen.frame m ρ, Cert.Kernel9Ideal.Value.frame_reference,
  fun m ρ _ => Cert.Kernel10.Gen.frame m ρ, fun m ρ _ => Cert.Kernel10Ideal.Gen.frame m ρ, Cert.Kernel10Ideal.Value.frame_reference,
  fun m ρ _ => Cert.Kernel11.Gen.frame m ρ, fun m ρ _ => Cert.Kernel11Ideal.Gen.frame m ρ, Cert.Kernel11Ideal.Value.frame_reference,
  fun m ρ _ => Cert.Kernel12.Gen.frame m ρ, fun m ρ _ => Cert.Kernel12Ideal.Gen.frame m ρ, Cert.Kernel12Ideal.Value.frame_reference,
  fun m ρ _ => Cert.Kernel13.Gen.frame m ρ, fun m ρ _ => Cert.Kernel13Ideal.Gen.frame m ρ, Cert.Kernel13Ideal.Value.frame_reference,
  fun m ρ _ => Cert.Kernel14.Gen.frame m ρ, fun m ρ _ => Cert.Kernel14Ideal.Gen.frame m ρ, Cert.Kernel14Ideal.Value.frame_reference,
  fun m ρ _ => Cert.Kernel15.Gen.frame m ρ, fun m ρ _ => Cert.Kernel15Ideal.Gen.frame m ρ, Cert.Kernel15Ideal.Value.frame_reference,
  fun m ρ _ => Cert.Kernel16.Gen.frame m ρ, fun m ρ _ => Cert.Kernel16Ideal.Gen.frame m ρ, Cert.Kernel16Ideal.Value.frame_reference,
  fun m ρ _ => Cert.Kernel17.Gen.frame m ρ, fun m ρ _ => Cert.Kernel17Ideal.Gen.frame m ρ, Cert.Kernel17Ideal.Value.frame_reference,
  fun m ρ _ => Cert.Kernel18.Gen.frame m ρ, fun m ρ _ => Cert.Kernel18Ideal.Gen.frame m ρ, Cert.Kernel18Ideal.Value.frame_reference,
  fun m ρ _ => Cert.Kernel19.Gen.frame m ρ, fun m ρ _ => Cert.Kernel19Ideal.Gen.frame m ρ, Cert.Kernel19Ideal.Value.frame_reference,
  fun m ρ _ => Cert.Kernel20.Gen.frame m ρ, fun m ρ _ => Cert.Kernel20Ideal.Gen.frame m ρ, Cert.Kernel20Ideal.Value.frame_reference,
  fun m ρ _ => Cert.Kernel23.Gen.frame m ρ, fun m ρ _ => Cert.Kernel23Ideal.Gen.frame m ρ, fun m ρ _ => Cert.Kernel23Ideal.Gen.frame m ρ,
  Cert.Kernel23Ideal.Value.frame_reference, fun m ρ _ => Cert.Kernel23Ideal.Value.frame_reference m ρ trivial,
  trivial, algebraic,
  trivial, Cert.Kernel2Ideal.Value.algebraic,
  trivial, Cert.Kernel3Ideal.Value.algebraic,
  trivial, Cert.Kernel4Ideal.Value.algebraic,
  trivial, Cert.Kernel5Ideal.Value.algebraic,
  trivial, Cert.Kernel6Ideal.Value.algebraic,
  trivial, Cert.Kernel7Ideal.Value.algebraic,
  trivial, Cert.Kernel8Ideal.Value.algebraic,
  trivial, Cert.Kernel9Ideal.Value.algebraic,
  trivial, Cert.Kernel10Ideal.Value.algebraic,
  trivial, Cert.Kernel11Ideal.Value.algebraic,
  trivial, Cert.Kernel12Ideal.Value.algebraic,
  trivial, Cert.Kernel13Ideal.Value.algebraic,
  trivial, Cert.Kernel14Ideal.Value.algebraic,
  trivial, Cert.Kernel15Ideal.Value.algebraic,
  trivial, Cert.Kernel16Ideal.Value.algebraic,
  trivial, Cert.Kernel17Ideal.Value.algebraic,
  trivial, Cert.Kernel18Ideal.Value.algebraic,
  trivial, Cert.Kernel19Ideal.Value.algebraic,
  trivial, Cert.Kernel20Ideal.Value.algebraic,
  trivial, Cert.Kernel23Ideal.Value.algebraic⟩

end Cert.Proof

end
